-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_v3) = v2 c
          ∧ r.2.mem ((c.tc : Thread Cert.Reference3Ideal.nD Cert.Reference3Ideal.τ).loc Cert.Reference3Ideal.main_v22) = v3 c
          ∧ r.2.mem ((c.tc : Thread Cert.Reference3Ideal.nD Cert.Reference3Ideal.τ).loc Cert.Reference3Ideal.main_v25) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v53) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S65536x1024 : Shape := ⟨2, ![65536, 1024]⟩
abbrev S16x256x2048 : Shape := ⟨3, ![16, 256, 2048]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S16x256x2048 : S_.BroadcastsInDim S16x256x2048 (![] : Fin 0 → Fin S16x256x2048.rank)
  reducesTo_S16x256x2048_S_d0_1_2 : S16x256x2048.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1024 .f32) (main_arg5 : FVec F S1024 .f32) (main_arg6 : FVec F S1024x32 .f32) (main_arg7 : FVec F S32 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S1024x32 .f32 := Host.absf main_arg6
  let main_cst_10 : FVec F S_ .f32 := constant S_ .f32 0x7F800000#32
  let main_v25 : FVec F S1024x32 .f32 := broadcastInDim S1024x32 ![] bcast_S_S1024x32 main_cst_10
  let main_v26 : IVec S1024x32 1 := cmpf .olt main_v24 main_v25
  let main_c_11 : IVec S_ 1 := constantI S_ 1 1#1
  let main_v27 : IVec S_ 1 := (fun x v => Host.reduce IntOp.andi x v reducesTo_S1024x32_S_d0_1 h_S_) main_v26 main_c_11
  let main_v28 : FVec F S32 .f32 := Host.absf main_arg7
  let main_cst_12 : FVec F S_ .f32 := constant S_ .f32 0x7F800000#32
  let main_v29 : FVec F S32 .f32 := broadcastInDim S32 ![] bcast_S_S32 main_cst_12
  let main_v30 : IVec S32 1 := cmpf .olt main_v28 main_v29
  let main_c_13 : IVec S_ 1 := constantI S_ 1 1#1
  let main_v31 : IVec S_ 1 := (fun x v => Host.reduce IntOp.andi x v reducesTo_S32_S_d0 h_S_) main_v30 main_c_13
  fn_part2 (F := F) main_v3 main_v7 main_v11 main_v15 main_v19 main_v23 main_v27 main_v31

def fn {F : FTy → Type} [FloatOps F] (main_arg0 : FVec F S65536x1024 .f32) (main_arg1 : FVec F S16x256x2048 .f32) (main_arg2 : FVec F S1024x1024 .f32) (main_arg3 : FVec F S1024x1024 .f32) (main_arg4 : FVec F S1024 .f32) (main_arg5 : FVec F S1024 .f32) (main_arg6 : FVec F S1024x32 .f32) (main_arg7 : FVec F S32 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S16x256x2048 .f32 := Host.absf main_arg1
  let main_cst_0 : FVec F S_ .f32 := constant S_ .f32 0x7F800000#32
  let main_v5 : FVec F S16x256x2048 .f32 := broadcastInDim S16x256x2048 ![] bcast_S_S16x256x2048 main_cst_0
  let main_v6 : IVec S16x256x2048 1 := cmpf .olt main_v4 main_v5
  let main_c_1 : IVec S_ 1 := constantI S_ 1 1#1
  let main_v7 : IVec S_ 1 := (fun x v => Host.reduce IntOp.andi x v reducesTo_S16x256x2048_S_d0_1_2 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S1024x1024 .f32 := Host.absf main_arg3
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg4 main_arg5 main_arg6 main_arg7 main_v3 main_v7 main_v11 main_v15
-- ==== Pre_routed.lean ====
abbrev S278528x1024 : Shape := ⟨2, ![278528, 1024]⟩
abbrev S544 : Shape := ⟨1, ![544]⟩
abbrev S1 : Shape := ⟨1, ![1]⟩
abbrev S4x32x1024x2048 : Shape := ⟨4, ![4, 32, 1024, 2048]⟩
abbrev S32x2048 : Shape := ⟨2, ![32, 2048]⟩
abbrev S4x32x1024x1024 : Shape := ⟨4, ![4, 32, 1024, 1024]⟩
abbrev S32x1024 : Shape := ⟨2, ![32, 1024]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel
  shapeCasts_S1_S_ : S1.ShapeCasts S_

variable [Facts]

def fn {F : FTy → Type} [FloatOps F] (main_arg0 : FVec F S278528x1024 .f32) (main_arg1 : IVec S544 32) (main_arg2 : IVec S1 32) (main_arg3 : FVec F S4x32x1024x2048 .f32) (main_arg4 : FVec F S32x2048 .f32) (main_arg5 : FVec F S4x32x1024x1024 .f32) (main_arg6 : FVec F S32x1024 .f32) : IVec S_ 1 :=
  let main_c : IVec S_ 32 := constantI S_ 32 0#32
  let main_v0 : IVec S544 32 := broadcastInDim S544 ![] bcast_S_S544 main_c
  let main_v1 : IVec S544 1 := cmpi .sge main_arg1 main_v0
  let main_c_0 : IVec S_ 32 := constantI S_ 32 32#32
  let main_v2 : IVec S544 32 := broadcastInDim S544 ![] bcast_S_S544 main_c_0
  let main_v3 : IVec S544 1 := cmpi .slt main_arg1 main_v2
  let main_v4 : IVec S544 1 := andi main_v1 main_v3
  let main_c_1 : IVec S_ 1 := constantI S_ 1 1#1
  let main_v5 : IVec S_ 1 := (fun x v => Host.reduce IntOp.andi x v reducesTo_S544_S_d0 h_S_) main_v4 main_c_1
  let main_v6 : IVec S_ 32 := shapeCast S_ main_arg2 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S65536x1024 : Shape := ⟨2, ![65536, 1024]⟩
abbrev S16x256x2048 : Shape := ⟨3, ![16, 256, 2048]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S16x4x4096 : Shape := ⟨3, ![16, 4, 4096]⟩
abbrev S512x1024 : Shape := ⟨2, ![512, 1024]⟩
abbrev S1x256x2048 : Shape := ⟨3, ![1, 256, 2048]⟩
abbrev S1x4x512 : Shape := ⟨3, ![1, 4, 512]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S32x512 : Shape := ⟨2, ![32, 512]⟩
abbrev S1x512 : Shape := ⟨2, ![1, 512]⟩
abbrev S4x512 : Shape := ⟨2, ![4, 512]⟩

abbrev nBuf : Space → Nat
  | .hbm => 24
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S16x256x2048, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S16x256x2048, .bf16⟩
  | .hbm, ⟨17, _⟩ => ⟨S1024x1024, .bf16⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S65536x1024, .f32⟩
  | .hbm, ⟨22, _⟩ => ⟨S16x4x4096, .i32⟩
  | .hbm, ⟨23, _⟩ => ⟨S16x4x4096, .f32⟩
  | .local _ .vmem, ⟨0, _⟩ => ⟨S512x1024, .f32⟩
  | .local _ .vmem, ⟨1, _⟩ => ⟨S512x1024, .f32⟩
  | .local _ .vmem, ⟨2, _⟩ => ⟨S1x256x2048, .bf16⟩
  | .local _ .vmem, ⟨3, _⟩ => ⟨S1x256x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x128, .bf16⟩
  | .local _ .vmem, ⟨9, _⟩ => ⟨S1x128, .f32⟩
  | .local _ .vmem, ⟨10, _⟩ => ⟨S512x1024, .f32⟩
  | .local _ .vmem, ⟨11, _⟩ => ⟨S512x1024, .f32⟩
  | .local _ .vmem, ⟨12, _⟩ => ⟨S1x4x512, .i32⟩
  | .local _ .vmem, ⟨13, _⟩ => ⟨S1x4x512, .i32⟩
  | .local _ .vmem, ⟨14, _⟩ => ⟨S1x4x512, .f32⟩
  | .local _ .vmem, ⟨15, _⟩ => ⟨S1x4x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S65536x1024 : Shape := ⟨2, ![65536, 1024]⟩
abbrev S16x256x2048 : Shape := ⟨3, ![16, 256, 2048]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S16x4096x1024 : Shape := ⟨3, ![16, 4096, 1024]⟩
abbrev S16x256x2x4x256 : Shape := ⟨5, ![16, 256, 2, 4, 256]⟩
abbrev S_ : Shape := ⟨0, ![]⟩
abbrev S16x256x1x4x256 : Shape := ⟨5, ![16, 256, 1, 4, 256]⟩
abbrev S16x256x4x256 : Shape := ⟨4, ![16, 256, 4, 256]⟩
abbrev S16x4096x4x256 : Shape := ⟨4, ![16, 4096, 4, 256]⟩
abbrev S16x4x4096x256 : Shape := ⟨4, ![16, 4, 4096, 256]⟩
abbrev S16x4x4096 : Shape := ⟨3, ![16, 4, 4096]⟩
abbrev S16x4x4096x1 : Shape := ⟨4, ![16, 4, 4096, 1]⟩
abbrev S16x4x256x4096 : Shape := ⟨4, ![16, 4, 256, 4096]⟩
abbrev S16x4096 : Shape := ⟨2, ![16, 4096]⟩
abbrev S16x4096x1 : Shape := ⟨3, ![16, 4096, 1]⟩
abbrev S1x1x1024 : Shape := ⟨3, ![1, 1, 1024]⟩
abbrev S65536x32 : Shape := ⟨2, ![65536, 32]⟩
abbrev S1x32 : Shape := ⟨2, ![1, 32]⟩
abbrev S65536x4 : Shape := ⟨2, ![65536, 4]⟩
abbrev S65536 : Shape := ⟨1, ![65536]⟩
abbrev S65536x1 : Shape := ⟨2, ![65536, 1]⟩
abbrev S16x4096x4 : Shape := ⟨3, ![16, 4096, 4]⟩

abbrev nBuf : Space → Nat
  | .hbm => 96
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16x256x2048, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S16x4096x1024, .f32⟩
  | .hbm, ⟨9, _⟩ => ⟨S16x256x2x4x256, .f32⟩
  | .hbm, ⟨10, _⟩ => ⟨S_, .f32⟩
  | .hbm, ⟨11, _⟩ => ⟨S16x4096x1024, .f32⟩
  | .hbm, ⟨12, _⟩ => ⟨S16x4096x1024, .f32⟩
  | .hbm, ⟨13, _⟩ => ⟨S16x256x1x4x256, .f32⟩
  | .hbm, ⟨14, _⟩ => ⟨S16x256x4x256, .f32⟩
  | .hbm, ⟨15, _⟩ => ⟨S16x256x1x4x256, .f32⟩
  | .hbm, ⟨16, _⟩ => ⟨S16x256x4x256, .f32⟩
  | .hbm, ⟨17, _⟩ => ⟨S16x4096x1024, .f32⟩
  | .hbm, ⟨18, _⟩ => ⟨S16x4096x4x256, .f32⟩
  | .hbm, ⟨19, _⟩ => ⟨S16x4x4096x256, .f32⟩
  | .hbm, ⟨20, _⟩ => ⟨S_, .f32⟩
  | .hbm, ⟨21, _⟩ => ⟨S16x4x4096x256, .f32⟩
  | .hbm, ⟨22, _⟩ => ⟨S16x4x4096x256, .f32⟩
  | .hbm, ⟨23, _⟩ => ⟨S_, .f32⟩
  | .hbm, ⟨24, _⟩ => ⟨S16x4x4096, .f32⟩
  | .hbm, ⟨25, _⟩ => ⟨S_, .f32⟩
  | .hbm, ⟨26, _⟩ => ⟨S16x4x4096, .f32⟩
  | .hbm, ⟨27, _⟩ => ⟨S16x4x4096, .f32⟩
  | .hbm, ⟨28, _⟩ => ⟨S16x4x4096x1, .f32⟩
  | .hbm, ⟨29, _⟩ => ⟨S16x4x4096x256, .f32⟩
  | .hbm, ⟨30, _⟩ => ⟨S16x4x4096x256, .f32⟩
  | .hbm, ⟨31, _⟩ => ⟨S16x4x4096x256, .f32⟩
  | .hbm, ⟨32, _⟩ => ⟨S_, .f32⟩
  | .hbm, ⟨33, _⟩ => ⟨S16x4x4096, .f32⟩
  | .hbm, ⟨34, _⟩ => ⟨S16x4x4096x1, .f32⟩
  | .hbm, ⟨35, _⟩ => ⟨S16x4x4096x256, .f32⟩
  | .hbm, ⟨36, _⟩ => ⟨S16x4x4096x256, .f32⟩
  | .hbm, ⟨37, _⟩ => ⟨S16x4x256x4096, .f32⟩
  | .hbm, ⟨38, _⟩ => ⟨S16x4096x4x256, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S_, .f32⟩
  | .hbm, ⟨43, _⟩ => ⟨S16x4096, .f32⟩
  | .hbm, ⟨44, _⟩ => ⟨S16x4096x1, .f32⟩
  | .hbm, ⟨45, _⟩ => ⟨S_, .f32⟩
  | .hbm, ⟨46, _⟩ => ⟨S16x4096x1, .f32⟩
  | .hbm, ⟨47, _⟩ => ⟨S16x4096x1, .f32⟩
  | .hbm, ⟨48, _⟩ => ⟨S16x4096x1024, .f32⟩
  | .hbm, ⟨49, _⟩ => ⟨S16x4096x1024, .f32⟩
  | .hbm, ⟨50, _⟩ => ⟨S16x4096x1024, .f32⟩
  | .hbm, ⟨51, _⟩ => ⟨S_, .f32⟩
  | .hbm, ⟨52, _⟩ => ⟨S16x4096, .f32⟩
  | .hbm, ⟨53, _⟩ => ⟨S16x4096x1, .f32⟩
  | .hbm, ⟨54, _⟩ => ⟨S_, .f32⟩
  | .hbm, ⟨55, _⟩ => ⟨S16x4096x1, .f32⟩
  | .hbm, ⟨56, _⟩ => ⟨S16x4096x1, .f32⟩
  | .hbm, ⟨57, _⟩ => ⟨S16x4096x1024, .f32⟩
  | .hbm, ⟨58, _⟩ => ⟨S16x4096x1024, .f32⟩
  | .hbm, ⟨59, _⟩ => ⟨S_, .f32⟩
  | .hbm, ⟨60, _⟩ => ⟨S16x4096x1, .f32⟩
  | .hbm, ⟨61, _⟩ => ⟨S16x4096x1, .f32⟩
  | .hbm, ⟨62, _⟩ => ⟨S16x4096x1, .f32⟩
  | .hbm, ⟨63, _⟩ => ⟨S16x4096x1024, .f32⟩
  | .hbm, ⟨64, _⟩ => ⟨S16x4096x1024, .f32⟩
  | .hbm, ⟨65, _⟩ => ⟨S1x1x1024, .f32⟩
  | .hbm, ⟨66, _⟩ => ⟨S16x4096x1024, .f32⟩
  | .hbm, ⟨67, _⟩ => ⟨S16x4096x1024, .f32⟩
  | .hbm, ⟨68, _⟩ => ⟨S1x1x1024, .f32⟩
  | .hbm, ⟨69, _⟩ => ⟨S16x4096x1024, .f32⟩
  | .hbm, ⟨70, _⟩ => ⟨S16x4096x1024, .f32⟩
  | .hbm, ⟨71, _⟩ => ⟨S65536x1024, .f32⟩
  | .hbm, ⟨72, _⟩ => ⟨S65536x32, .f32⟩
  | .hbm, ⟨73, _⟩ => ⟨S1x32, .f32⟩
  | .hbm, ⟨74, _⟩ => ⟨S65536x32, .f32⟩
  | .hbm, ⟨75, _⟩ => ⟨S65536x32, .f32⟩
  | .hbm, ⟨76, _⟩ => ⟨S65536x4, .f32⟩
  | .hbm, ⟨77, _⟩ => ⟨S65536x4, .i32⟩
  | .hbm, ⟨78, _⟩ => ⟨S_, .f32⟩
  | .hbm, ⟨79, _⟩ => ⟨S65536, .f32⟩
  | .hbm, ⟨80, _⟩ => ⟨S_, .f32⟩
  | .hbm, ⟨81, _⟩ => ⟨S65536, .f32⟩
  | .hbm, ⟨82, _⟩ => ⟨S65536, .f32⟩
  | .hbm, ⟨83, _⟩ => ⟨S65536x1, .f32⟩
  | .hbm, ⟨84, _⟩ => ⟨S65536x4, .f32⟩
  | .hbm, ⟨85, _⟩ => ⟨S65536x4, .f32⟩
  | .hbm, ⟨86, _⟩ => ⟨S65536x4, .f32⟩
  | .hbm, ⟨87, _⟩ => ⟨S_, .f32⟩
  | .hbm, ⟨88, _⟩ => ⟨S65536, .f32⟩
  | .hbm, ⟨89, _⟩ => ⟨S65536x1, .f32⟩
  | .hbm, ⟨90, _⟩ => ⟨S65536x4, .f32⟩
  | .hbm, ⟨91, _⟩ => ⟨S65536x4, .f32⟩
  | .hbm, ⟨92, _⟩ => ⟨S16x4096x4, .i32⟩
  | .hbm, ⟨93, _⟩ => ⟨S16x4x4096, .i32⟩
  | .hbm, ⟨94, _⟩ => ⟨S16x4096x4, .f32⟩
  | .hbm, ⟨95, _⟩ => ⟨S16x4x4096, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_values : Ref sig .tc := ⟨.hbm, 76, rfl⟩
abbrev main_indices : Ref sig .tc := ⟨.hbm, 77, rfl⟩
abbrev main_cst_9 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]
-- ==== Kernel2.lean ====
abbrev S278528x1024 : Shape := ⟨2, ![278528, 1024]⟩
abbrev S544 : Shape := ⟨1, ![544]⟩
abbrev S1 : Shape := ⟨1, ![1]⟩
abbrev S4x32x1024x2048 : Shape := ⟨4, ![4, 32, 1024, 2048]⟩
abbrev S32x2048 : Shape := ⟨2, ![32, 2048]⟩
abbrev S4x32x1024x1024 : Shape := ⟨4, ![4, 32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S512x1024 : Shape := ⟨2, ![512, 1024]⟩
abbrev S1x1x1024x2048 : Shape := ⟨4, ![1, 1, 1024, 2048]⟩
abbrev S1x1x2048 : Shape := ⟨3, ![1, 1, 2048]⟩
abbrev S1x1x1024x1024 : Shape := ⟨4, ![1, 1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S278528x1024, .f32⟩
  | .hbm, ⟨1, _⟩ => ⟨S4x32x1024x2048, .f32⟩
  | .hbm, ⟨2, _⟩ => ⟨S32x2048, .f32⟩
  | .hbm, ⟨3, _⟩ => ⟨S4x32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S278528x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S544, .i32⟩
  | .local _ .smem, ⟨1, _⟩ => ⟨S1, .i32⟩
  | _, _ => ⟨S278528x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S278528x1024 : Shape := ⟨2, ![278528, 1024]⟩
abbrev S544 : Shape := ⟨1, ![544]⟩
abbrev S1 : Shape := ⟨1, ![1]⟩
abbrev S4x32x1024x2048 : Shape := ⟨4, ![4, 32, 1024, 2048]⟩
abbrev S32x2048 : Shape := ⟨2, ![32, 2048]⟩
abbrev S4x32x1024x1024 : Shape := ⟨4, ![4, 32, 1024, 1024]⟩
abbrev S32x1024 : Shape := ⟨2, ![32, 1024]⟩
abbrev S544x512x1024 : Shape := ⟨3, ![544, 512, 1024]⟩
abbrev S1x32x1024x2048 : Shape := ⟨4, ![1, 32, 1024, 2048]⟩
abbrev S32x1024x2048 : Shape := ⟨3, ![32, 1024, 2048]⟩
abbrev S_ : Shape := ⟨0, ![]⟩
abbrev S544x1 : Shape := ⟨2, ![544, 1]⟩
abbrev S544x1024x2048 : Shape := ⟨3, ![544, 1024, 2048]⟩
abbrev S544x512x2048 : Shape := ⟨3, ![544, 512, 2048]⟩
abbrev S544x2048 : Shape := ⟨2, ![544, 2048]⟩
abbrev S544x1x2048 : Shape := ⟨3, ![544, 1, 2048]⟩
abbrev S1x32x1024x1024 : Shape := ⟨4, ![1, 32, 1024, 1024]⟩
abbrev S32x1024x1024 : Shape := ⟨3, ![32, 1024, 1024]⟩
abbrev S544x1024x1024 : Shape := ⟨3, ![544, 1024, 1024]⟩
abbrev S544x1024 : Shape := ⟨2, ![544, 1024]⟩
abbrev S544x1x1024 : Shape := ⟨3, ![544, 1, 1024]⟩
abbrev S544x1x1 : Shape := ⟨3, ![544, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S278528x1024, .f32⟩
  | .hbm, ⟨1, _⟩ => ⟨S544, .i32⟩
  | .hbm, ⟨2, _⟩ => ⟨S1, .i32⟩
  | .hbm, ⟨3, _⟩ => ⟨S4x32x1024x2048, .f32⟩
  | .hbm, ⟨4, _⟩ => ⟨S32x2048, .f32⟩
  | .hbm, ⟨5, _⟩ => ⟨S4x32x1024x1024, .f32⟩
  | .hbm, ⟨6, _⟩ => ⟨S32x1024, .f32⟩
  | .hbm, ⟨7, _⟩ => ⟨S544x512x1024, .f32⟩
  | .hbm, ⟨8, _⟩ => ⟨S1x32x1024x2048, .f32⟩
  | .hbm, ⟨9, _⟩ => ⟨S32x1024x2048, .f32⟩
  | .hbm, ⟨10, _⟩ => ⟨S_, .i32⟩
  | .hbm, ⟨11, _⟩ => ⟨S544, .i32⟩
  | .hbm, ⟨12, _⟩ => ⟨S544, .i1⟩
  | .hbm, ⟨13, _⟩ => ⟨S_, .i32⟩
  | .hbm, ⟨14, _⟩ => ⟨S544, .i32⟩
  | .hbm, ⟨15, _⟩ => ⟨S544, .i32⟩
  | .hbm, ⟨16, _⟩ => ⟨S544, .i32⟩
  | .hbm, ⟨17, _⟩ => ⟨S544x1, .i32⟩
  | .hbm, ⟨18, _⟩ => ⟨S544x1024x2048, .f32⟩
  | .hbm, ⟨19, _⟩ => ⟨S544x512x2048, .f32⟩
  | .hbm, ⟨20, _⟩ => ⟨S_, .i32⟩
  | .hbm, ⟨21, _⟩ => ⟨S544, .i32⟩
  | .hbm, ⟨22, _⟩ => ⟨S544, .i1⟩
  | .hbm, ⟨23, _⟩ => ⟨S_, .i32⟩
  | .hbm, ⟨24, _⟩ => ⟨S544, .i32⟩
  | .hbm, ⟨25, _⟩ => ⟨S544, .i32⟩
  | .hbm, ⟨26, _⟩ => ⟨S544, .i32⟩
  | .hbm, ⟨27, _⟩ => ⟨S544x1, .i32⟩
  | .hbm, ⟨28, _⟩ => ⟨S544x2048, .f32⟩
  | .hbm, ⟨29, _⟩ => ⟨S544x1x2048, .f32⟩
  | .hbm, ⟨30, _⟩ => ⟨S544x512x2048, .f32⟩
  | .hbm, ⟨31, _⟩ => ⟨S544x512x2048, .f32⟩
  | .hbm, ⟨32, _⟩ => ⟨S544x512x1024, .f32⟩
  | .hbm, ⟨33, _⟩ => ⟨S544x512x1024, .f32⟩
  | .hbm, ⟨34, _⟩ => ⟨S_, .f32⟩
  | .hbm, ⟨35, _⟩ => ⟨S544x512x1024, .f32⟩
  | .hbm, ⟨36, _⟩ => ⟨S544x512x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S544x512x1024, .f32⟩
  | .hbm, ⟨41, _⟩ => ⟨S544x512x1024, .f32⟩
  | .hbm, ⟨42, _⟩ => ⟨S_, .f32⟩
  | .hbm, ⟨43, _⟩ => ⟨S544x512x1024, .f32⟩
  | .hbm, ⟨44, _⟩ => ⟨S544x512x1024, .f32⟩
  | .hbm, ⟨45, _⟩ => ⟨S_, .f32⟩
  | .hbm, ⟨46, _⟩ => ⟨S544x512x1024, .f32⟩
  | .hbm, ⟨47, _⟩ => ⟨S544x512x1024, .f32⟩
  | .hbm, ⟨48, _⟩ => ⟨S544x512x1024, .f32⟩
  | .hbm, ⟨49, _⟩ => ⟨S544x512x1024, .f32⟩
  | .hbm, ⟨50, _⟩ => ⟨S_, .f32⟩
  | .hbm, ⟨51, _⟩ => ⟨S544x512x1024, .f32⟩
  | .hbm, ⟨52, _⟩ => ⟨S544x512x1024, .f32⟩
  | .hbm, ⟨53, _⟩ => ⟨S_, .f32⟩
  | .hbm, ⟨54, _⟩ => ⟨S544x512x1024, .f32⟩
  | .hbm, ⟨55, _⟩ => ⟨S544x512x1024, .f32⟩
  | .hbm, ⟨56, _⟩ => ⟨S544x512x1024, .f32⟩
  | .hbm, ⟨57, _⟩ => ⟨S_, .f32⟩
  | .hbm, ⟨58, _⟩ => ⟨S544x512x1024, .f32⟩
  | .hbm, ⟨59, _⟩ => ⟨S544x512x1024, .f32⟩
  | .hbm, ⟨60, _⟩ => ⟨S544x512x1024, .f32⟩
  | .hbm, ⟨61, _⟩ => ⟨S1x32x1024x1024, .f32⟩
  | .hbm, ⟨62, _⟩ => ⟨S32x1024x1024, .f32⟩
  | .hbm, ⟨63, _⟩ => ⟨S_, .i32⟩
  | .hbm, ⟨64, _⟩ => ⟨S544, .i32⟩
  | .hbm, ⟨65, _⟩ => ⟨S544, .i1⟩
  | .hbm, ⟨66, _⟩ => ⟨S_, .i32⟩
  | .hbm, ⟨67, _⟩ => ⟨S544, .i32⟩
  | .hbm, ⟨68, _⟩ => ⟨S544, .i32⟩
  | .hbm, ⟨69, _⟩ => ⟨S544, .i32⟩
  | .hbm, ⟨70, _⟩ => ⟨S544x1, .i32⟩
  | .hbm, ⟨71, _⟩ => ⟨S544x1024x1024, .f32⟩
  | .hbm, ⟨72, _⟩ => ⟨S544x512x1024, .f32⟩
  | .hbm, ⟨73, _⟩ => ⟨S_, .i32⟩
  | .hbm, ⟨74, _⟩ => ⟨S544, .i32⟩
  | .hbm, ⟨75, _⟩ => ⟨S544, .i1⟩
  | .hbm, ⟨76, _⟩ => ⟨S_, .i32⟩
  | .hbm, ⟨77, _⟩ => ⟨S544, .i32⟩
  | .hbm, ⟨78, _⟩ => ⟨S544, .i32⟩
  | .hbm, ⟨79, _⟩ => ⟨S544, .i32⟩
  | .hbm, ⟨80, _⟩ => ⟨S544x1, .i32⟩
  | .hbm, ⟨81, _⟩ => ⟨S544x1024, .f32⟩
  | .hbm, ⟨82, _⟩ => ⟨S544x1x1024, .f32⟩
  | .hbm, ⟨83, _⟩ => ⟨S544x512x1024, .f32⟩
  | .hbm, ⟨84, _⟩ => ⟨S544x512x1024, .f32⟩
  | .hbm, ⟨85, _⟩ => ⟨S544, .i32⟩
  | .hbm, ⟨86, _⟩ => ⟨S_, .i32⟩
  | .hbm, ⟨87, _⟩ => ⟨S544, .i32⟩
  | .hbm, ⟨88, _⟩ => ⟨S544, .i1⟩
  | .hbm, ⟨89, _⟩ => ⟨S544x1x1, .i1⟩
  | .hbm, ⟨90, _⟩ => ⟨S_, .f32⟩
  | .hbm, ⟨91, _⟩ => ⟨S_, .f32⟩
  | .hbm, ⟨92, _⟩ => ⟨S544x512x1024, .i1⟩
  | .hbm, ⟨93, _⟩ => ⟨S544x512x1024, .f32⟩
  | .hbm, ⟨94, _⟩ => ⟨S544x512x1024, .f32⟩
  | .hbm, ⟨95, _⟩ => ⟨S278528x1024, .f32⟩
  | _, _ => ⟨S278528x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]
-- ==== Kernel3.lean ====
abbrev S65536x1024 : Shape := ⟨2, ![65536, 1024]⟩
abbrev S1024x4096 : Shape := ⟨2, ![1024, 4096]⟩
abbrev S1024 : Shape := ⟨1, ![1024]⟩
abbrev S1x1024 : Shape := ⟨2, ![1, 1024]⟩
abbrev S256x1024 : Shape := ⟨2, ![256, 1024]⟩
abbrev S1024x1024 : Shape := ⟨2, ![1024, 1024]⟩

abbrev nBuf : Space → Nat
  | .hbm => 10
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S1024x4096, .f32⟩
  | .hbm, ⟨2, _⟩ => ⟨S1024, .f32⟩
  | .hbm, ⟨3, _⟩ => ⟨S1024x4096, .bf16⟩
  | .hbm, ⟨4, _⟩ => ⟨S1x1024, .f32⟩
  | .hbm, ⟨5, _⟩ => ⟨S65536x1024, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S65536x1024 : Shape := ⟨2, ![65536, 1024]⟩
abbrev S1024x4096 : Shape := ⟨2, ![1024, 4096]⟩
abbrev S1024 : Shape := ⟨1, ![1024]⟩
abbrev S65536x4096 : Shape := ⟨2, ![65536, 4096]⟩
abbrev S_ : Shape := ⟨0, ![]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x4096, .f32⟩
  | .hbm, ⟨2, _⟩ => ⟨S1024, .f32⟩
  | .hbm, ⟨3, _⟩ => ⟨S65536x4096, .f32⟩
  | .hbm, ⟨4, _⟩ => ⟨S65536x1024, .f32⟩
  | .hbm, ⟨5, _⟩ => ⟨S65536x1024, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S_, .f32⟩
  | .hbm, ⟨26, _⟩ => ⟨S65536x1024, .f32⟩
  | .hbm, ⟨27, _⟩ => ⟨S65536x1024, .f32⟩
  | .hbm, ⟨28, _⟩ => ⟨S1x1024, .f32⟩
  | .hbm, ⟨29, _⟩ => ⟨S65536x1024, .f32⟩
  | .hbm, ⟨30, _⟩ => ⟨S65536x1024, .f32⟩
  | .hbm, ⟨31, _⟩ => ⟨S1x1024, .f32⟩
  | .hbm, ⟨32, _⟩ => ⟨S65536x1024, .f32⟩
  | .hbm, ⟨33, _⟩ => ⟨S65536x1024, .f32⟩
  | .hbm, ⟨34, _⟩ => ⟨S_, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S_, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536x1024, .f32⟩
  | .hbm, ⟨45, _⟩ => ⟨S65536x1024, .f32⟩
  | .hbm, ⟨46, _⟩ => ⟨S_, .f32⟩
  | .hbm, ⟨47, _⟩ => ⟨S65536x1024, .f32⟩
  | .hbm, ⟨48, _⟩ => ⟨S65536x1024, .f32⟩
  | .hbm, ⟨49, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v25 : Ref sig .tc := ⟨.hbm, 49, rfl⟩

abbrev nD : Nat := 1
abbrev τ : Topo := Topo.v7x

variable {F : FTy → Type} [FloatOps F]
-- ==== Kernel4.lean ====
abbrev S65536x1024 : Shape := ⟨2, ![65536, 1024]⟩
abbrev S1024x3072 : Shape := ⟨2, ![1024, 3072]⟩
abbrev S16x1x4096x3072 : Shape := ⟨4, ![16, 1, 4096, 3072]⟩
abbrev S512x1024 : Shape := ⟨2, ![512, 1024]⟩
abbrev S1x1x512x3072 : Shape := ⟨4, ![1, 1, 512, 3072]⟩
abbrev S512x3072 : Shape := ⟨2, ![512, 3072]⟩
abbrev S1x512x3072 : Shape := ⟨3, ![1, 512, 3072]⟩

abbrev nBuf : Space → Nat
  | .hbm => 4
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024x3072, .f32⟩
  | .hbm, ⟨2, _⟩ => ⟨S1024x3072, .bf16⟩
  | .hbm, ⟨3, _⟩ => ⟨S16x1x4096x3072, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x1x512x3072, .f32⟩
  | .local _ .vmem, ⟨4, _⟩ => ⟨S1x1x512x3072, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S65536x1024 : Shape := ⟨2, ![65536, 1024]⟩
abbrev S1024x3072 : Shape := ⟨2, ![1024, 3072]⟩
abbrev S65536x3072 : Shape := ⟨2, ![65536, 3072]⟩
abbrev S16x4096x1x3072 : Shape := ⟨4, ![16, 4096, 1, 3072]⟩
abbrev S16x1x4096x3072 : Shape := ⟨4, ![16, 1, 4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x3072, .f32⟩
  | .hbm, ⟨2, _⟩ => ⟨S65536x3072, .f32⟩
  | .hbm, ⟨3, _⟩ => ⟨S16x4096x1x3072, .f32⟩
  | .hbm, ⟨4, _⟩ => ⟨S16x1x4096x3072, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S65536x1024 : Shape := ⟨2, ![65536, 1024]⟩
abbrev S1024x3072 : Shape := ⟨2, ![1024, 3072]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S16x4x1024x3072 : Shape := ⟨4, ![16, 4, 1024, 3072]⟩
abbrev S512x1024 : Shape := ⟨2, ![512, 1024]⟩
abbrev S1x4x128x3072 : Shape := ⟨4, ![1, 4, 128, 3072]⟩
abbrev S512x3072 : Shape := ⟨2, ![512, 3072]⟩
abbrev S4x128x3072 : Shape := ⟨3, ![4, 128, 3072]⟩

abbrev nBuf : Space → Nat
  | .hbm => 56
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024x3072, .f32⟩
  | .hbm, ⟨2, _⟩ => ⟨S1024x3072, .bf16⟩
  | .hbm, ⟨3, _⟩ => ⟨S512, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S_, .i32⟩
  | .hbm, ⟨19, _⟩ => ⟨S_, .i1⟩
  | .hbm, ⟨20, _⟩ => ⟨S512, .i1⟩
  | .hbm, ⟨21, _⟩ => ⟨S512, .i1⟩
  | .hbm, ⟨22, _⟩ => ⟨S512, .i1⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512x1, .i32⟩
  | .hbm, ⟨49, _⟩ => ⟨S512, .i32⟩
  | .hbm, ⟨50, _⟩ => ⟨S1x512, .i32⟩
  | .hbm, ⟨51, _⟩ => ⟨S512x512, .i32⟩
  | .hbm, ⟨52, _⟩ => ⟨S512x512, .i32⟩
  | .hbm, ⟨53, _⟩ => ⟨S512x512, .i1⟩
  | .hbm, ⟨54, _⟩ => ⟨S512x512, .bf16⟩
  | .hbm, ⟨55, _⟩ => ⟨S16x4x1024x3072, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S1024x3072, .bf16⟩
  | .local _ .vmem, ⟨4, _⟩ => ⟨S1x4x128x3072, .f32⟩
  | .local _ .vmem, ⟨5, _⟩ => ⟨S1x4x128x3072, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4x128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S65536x1024 : Shape := ⟨2, ![65536, 1024]⟩
abbrev S1024x3072 : Shape := ⟨2, ![1024, 3072]⟩
abbrev S65536x3072 : Shape := ⟨2, ![65536, 3072]⟩
abbrev S16x1024x4x3072 : Shape := ⟨4, ![16, 1024, 4, 3072]⟩
abbrev S16x4x1024x3072 : Shape := ⟨4, ![16, 4, 1024, 3072]⟩

abbrev nBuf : Space → Nat
  | .hbm => 5
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x3072, .f32⟩
  | .hbm, ⟨2, _⟩ => ⟨S65536x3072, .f32⟩
  | .hbm, ⟨3, _⟩ => ⟨S16x1024x4x3072, .f32⟩
  | .hbm, ⟨4, _⟩ => ⟨S16x4x1024x3072, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S65536x1024 : Shape := ⟨2, ![65536, 1024]⟩
abbrev S1024x3072 : Shape := ⟨2, ![1024, 3072]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S16x16x256x3072 : Shape := ⟨4, ![16, 16, 256, 3072]⟩
abbrev S512x1024 : Shape := ⟨2, ![512, 1024]⟩
abbrev S1x16x32x3072 : Shape := ⟨4, ![1, 16, 32, 3072]⟩
abbrev S512x3072 : Shape := ⟨2, ![512, 3072]⟩
abbrev S16x32x3072 : Shape := ⟨3, ![16, 32, 3072]⟩

abbrev nBuf : Space → Nat
  | .hbm => 56
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024x3072, .f32⟩
  | .hbm, ⟨2, _⟩ => ⟨S1024x3072, .bf16⟩
  | .hbm, ⟨3, _⟩ => ⟨S512, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S_, .i32⟩
  | .hbm, ⟨19, _⟩ => ⟨S_, .i1⟩
  | .hbm, ⟨20, _⟩ => ⟨S512, .i1⟩
  | .hbm, ⟨21, _⟩ => ⟨S512, .i1⟩
  | .hbm, ⟨22, _⟩ => ⟨S512, .i1⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512x1, .i32⟩
  | .hbm, ⟨49, _⟩ => ⟨S512, .i32⟩
  | .hbm, ⟨50, _⟩ => ⟨S1x512, .i32⟩
  | .hbm, ⟨51, _⟩ => ⟨S512x512, .i32⟩
  | .hbm, ⟨52, _⟩ => ⟨S512x512, .i32⟩
  | .hbm, ⟨53, _⟩ => ⟨S512x512, .i1⟩
  | .hbm, ⟨54, _⟩ => ⟨S512x512, .bf16⟩
  | .hbm, ⟨55, _⟩ => ⟨S16x16x256x3072, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S1024x3072, .bf16⟩
  | .local _ .vmem, ⟨4, _⟩ => ⟨S1x16x32x3072, .f32⟩
  | .local _ .vmem, ⟨5, _⟩ => ⟨S1x16x32x3072, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x32x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S65536x1024 : Shape := ⟨2, ![65536, 1024]⟩
abbrev S1024x3072 : Shape := ⟨2, ![1024, 3072]⟩
abbrev S65536x3072 : Shape := ⟨2, ![65536, 3072]⟩
abbrev S16x256x16x3072 : Shape := ⟨4, ![16, 256, 16, 3072]⟩
abbrev S16x16x256x3072 : Shape := ⟨4, ![16, 16, 256, 3072]⟩

abbrev nBuf : Space → Nat
  | .hbm => 5
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x3072, .f32⟩
  | .hbm, ⟨2, _⟩ => ⟨S65536x3072, .f32⟩
  | .hbm, ⟨3, _⟩ => ⟨S16x256x16x3072, .f32⟩
  | .hbm, ⟨4, _⟩ => ⟨S16x16x256x3072, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S65536x1, .f32⟩
  | .hbm, ⟨31, _⟩ => ⟨S65536x1024, .f32⟩
  | .hbm, ⟨32, _⟩ => ⟨S65536x1024, .f32⟩
  | .hbm, ⟨33, _⟩ => ⟨S1x1024, .f32⟩
  | .hbm, ⟨34, _⟩ => ⟨S65536x1024, .f32⟩
  | .hbm, ⟨35, _⟩ => ⟨S65536x1024, .f32⟩
  | .hbm, ⟨36, _⟩ => ⟨S1x1024, .f32⟩
  | .hbm, ⟨37, _⟩ => ⟨S65536x1024, .f32⟩
  | .hbm, ⟨38, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel8.lean ====
abbrev S65536x1024 : Shape := ⟨2, ![65536, 1024]⟩
abbrev S1024 : Shape := ⟨1, ![1024]⟩
abbrev S1024x2048 : Shape := ⟨2, ![1024, 2048]⟩
abbrev S1x1024 : Shape := ⟨2, ![1, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024, .f32⟩
  | .hbm, ⟨3, _⟩ => ⟨S1024x2048, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1024x2048, .bf16⟩
  | .hbm, ⟨8, _⟩ => ⟨S1x1024, .f32⟩
  | .hbm, ⟨9, _⟩ => ⟨S1x1024, .f32⟩
  | .hbm, ⟨10, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x2048, .bf16⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S65536x1024 : Shape := ⟨2, ![65536, 1024]⟩
abbrev S1024 : Shape := ⟨1, ![1024]⟩
abbrev S1024x2048 : Shape := ⟨2, ![1024, 2048]⟩
abbrev S1x1024 : Shape := ⟨2, ![1, 1024]⟩
abbrev S_ : Shape := ⟨0, ![]⟩
abbrev S65536x2048 : Shape := ⟨2, ![65536, 2048]⟩
abbrev S65536 : Shape := ⟨1, ![65536]⟩
abbrev S65536x1 : Shape := ⟨2, ![65536, 1]⟩

abbrev nBuf : Space → Nat
  | .hbm => 72
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024, .f32⟩
  | .hbm, ⟨3, _⟩ => ⟨S1024x2048, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S_, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S65536x2048, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | .hbm, ⟨38, _⟩ => ⟨S_, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S65536x1024, .f32⟩
  | .hbm, ⟨59, _⟩ => ⟨S65536x1024, .f32⟩
  | .hbm, ⟨60, _⟩ => ⟨S_, .f32⟩
  | .hbm, ⟨61, _⟩ => ⟨S65536x1, .f32⟩
  | .hbm, ⟨62, _⟩ => ⟨S65536x1, .f32⟩
  | .hbm, ⟨63, _⟩ => ⟨S65536x1, .f32⟩
  | .hbm, ⟨64, _⟩ => ⟨S65536x1024, .f32⟩
  | .hbm, ⟨65, _⟩ => ⟨S65536x1024, .f32⟩
  | .hbm, ⟨66, _⟩ => ⟨S1x1024, .f32⟩
  | .hbm, ⟨67, _⟩ => ⟨S65536x1024, .f32⟩
  | .hbm, ⟨68, _⟩ => ⟨S65536x1024, .f32⟩
  | .hbm, ⟨69, _⟩ => ⟨S1x1024, .f32⟩
  | .hbm, ⟨70, _⟩ => ⟨S65536x1024, .f32⟩
  | .hbm, ⟨71, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Proof.Reals.lean ====
/- The extended reals that are real numbers, and the operations that keep them so. -/
module

public import Idealize.ShloMosaic.Lib.Pipeline.ValueKit

@[expose] public section

namespace Cert.Reals

open Idealize.ShloMosaic

/-- `a` is a real number, neither `+∞` nor `-∞`. -/
def IsR (a : EReal) : Prop := ∃ r : ℝ, a = (r : EReal)

theorem IsR.coe (r : ℝ) : IsR (r : EReal) := ⟨r, rfl⟩

theorem IsR.ne_bot {a : EReal} (h : IsR a) : a ≠ ⊥ := by obtain ⟨r, rfl⟩ := h; exact EReal.coe_ne_bot r

theorem IsR.add {a b : EReal} (ha : IsR a) (hb : IsR b) : IsR (a + b) := by
  obtain ⟨r, rfl⟩ := ha; obtain ⟨s, rfl⟩ := hb; exact ⟨r + s, by rw [EReal.coe_add]⟩

theorem IsR.sub {a b : EReal} (ha : IsR a) (hb : IsR b) : IsR (a - b) := by
  obtain ⟨r, rfl⟩ := ha; obtain ⟨s, rfl⟩ := hb; exact ⟨r - s, by rw [EReal.coe_sub]⟩

theorem IsR.mul {a b : EReal} (ha : IsR a) (hb : IsR b) : IsR (a * b) := by
  obtain ⟨r, rfl⟩ := ha; obtain ⟨s, rfl⟩ := hb; exact ⟨r * s, by rw [EReal.coe_mul]⟩

/-- A family of real numbers is the image of one over `ℝ`. -/
theorem lift {ι : Type} {f : ι → EReal} (h : ∀ i, IsR (f i)) : ∃ g : ι → ℝ, f = fun i => (g i : EReal) :=
  ⟨fun i => (h i).choose, funext fun i => (h i).choose_spec⟩

theorem lift₂ {ι κ : Type} {f : ι → κ → EReal} (h : ∀ i k, IsR (f i k)) :
    ∃ g : ι → κ → ℝ, f = fun i k => (g i k : EReal) :=
  ⟨fun i k => (h i k).choose, funext fun i => funext fun k => (h i k).choose_spec⟩

theorem coe_sum {ι : Type} [Fintype ι] (f : ι → ℝ) : (∑ i, (f i : EReal)) = ((∑ i, f i : ℝ) : EReal) := by
  classical
  have h : ∀ s : Finset ι, (∑ i ∈ s, (f i : EReal)) = ((∑ i ∈ s, f i : ℝ) : EReal) := fun s => by
    induction s using Finset.induction_on with
    | empty => simp
    | insert a s ha ih => rw [Finset.sum_insert ha, Finset.sum_insert ha, ih, EReal.coe_add]
  exact h _

theorem IsR.sum {ι : Type} [Fintype ι] {f : ι → EReal} (h : ∀ i, IsR (f i)) : IsR (∑ i, f i) := by
  obtain ⟨g, rfl⟩ := lift h; exact ⟨_, coe_sum g⟩

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem IsR.div {a b : EReal} (ha : IsR a) (hb : IsR b) (h0 : b ≠ 0) : IsR (Ideal.div a b) := by
  obtain ⟨r, rfl⟩ := ha; obtain ⟨s, rfl⟩ := hb
  exact ⟨_, div_coe r s (by exact_mod_cast h0)⟩

theorem exp_coe (a : ℝ) : Ideal.exp (a : EReal) = (Real.exp a : EReal) := rfl

theorem IsR.rsqrt {a : ℝ} (h : 0 < a) : IsR (Ideal.rsqrt (a : EReal)) := by
  refine ⟨(Real.sqrt a)⁻¹, ?_⟩
  show (if a < 0 then (⊥ : EReal) else if a = 0 then ⊤ else ((Real.sqrt a)⁻¹ : ℝ)) = _
  rw [if_neg h.le.not_gt, if_neg h.ne']

/-- The pattern of `-∞`. -/
theorem ninf : Ideal.ofBits .f32 0xFF800000#32 = ⊥ := by simp [Ideal.ofBits, Ideal.ieee]

/-- A maximum from `-∞` over a nonempty family is one of its members. -/
theorem fold_max_eq {ι : Type} [Fintype ι] [Nonempty ι] (f : ι → EReal) :
    ∃ i, Finset.univ.fold max (Ideal.ofBits .f32 0xFF800000#32) f = f i := by
  rw [ninf]
  obtain ⟨i, -, hi⟩ := Finset.exists_mem_eq_sup (Finset.univ : Finset ι) Finset.univ_nonempty f
  exact ⟨i, hi⟩

/-- Every member is at most the maximum. -/
theorem le_fold_max {ι : Type} [Fintype ι] (f : ι → EReal) (i : ι) :
    f i ≤ Finset.univ.fold max (Ideal.ofBits .f32 0xFF800000#32) f := by
  rw [ninf]
  exact Finset.le_sup (f := f) (Finset.mem_univ i)

theorem IsR.fold_max {ι : Type} [Fintype ι] [Nonempty ι] {f : ι → EReal} (h : ∀ i, IsR (f i)) :
    IsR (Finset.univ.fold max (Ideal.ofBits .f32 0xFF800000#32) f) := by
  obtain ⟨i, hi⟩ := fold_max_eq f; rw [hi]; exact h i

end Cert.Reals

end
-- ==== Proof.RowSpec.lean ====
/- One row (one token) of the layer, as functions of extended reals: the attention over the memory by both texts, the
   residual layer norm and the router's logits; and that the two texts of the attention agree where every argument is real. -/
module

public import proofs.«01_k».proof.Proof.Reals

@[expose] public section

noncomputable section

namespace Cert.Row

open Idealize.ShloMosaic Cert.Reals

/-- The head that column `c` of the model's width belongs to. -/
def headOf (c : Fin 1024) : Fin 4 := ⟨c.val / 256, by have := c.isLt; omega⟩

/-- Column `e` of head `d`. -/
def col (d : Fin 4) (e : Fin 256) : Fin 1024 := ⟨d.val * 256 + e.val, by have := d.isLt; have := e.isLt; omega⟩

/-- The row's query. -/
def query (h : Fin 1024 → EReal) (wq : Fin 1024 → Fin 1024 → EReal) (c : Fin 1024) : EReal := ∑ x, h x * wq x c

/-- The score against memory row `j`, the scale on the query. -/
def scoreK (h : Fin 1024 → EReal) (wq : Fin 1024 → Fin 1024 → EReal) (K : Fin 256 → Fin 1024 → EReal) (d : Fin 4)
    (j : Fin 256) : EReal :=
  ∑ e : Fin 256, (query h wq (col d e) * Ideal.ofBits .f32 0x3D800000#32) * K j (col d e)

/-- The score against memory row `j`, the scale on the product. -/
def scoreR (h : Fin 1024 → EReal) (wq : Fin 1024 → Fin 1024 → EReal) (K : Fin 256 → Fin 1024 → EReal) (d : Fin 4)
    (j : Fin 256) : EReal :=
  (∑ e : Fin 256, query h wq (col d e) * K j (col d e)) * Ideal.ofBits .f32 0x3D800000#32

/-- The greatest score. -/
def top (S : Fin 256 → EReal) : EReal := Finset.univ.fold max (Ideal.ofBits .f32 0xFF800000#32) S

/-- The weight before it is normalised. -/
def weight (S : Fin 256 → EReal) (j : Fin 256) : EReal := Ideal.exp (S j - top S)

/-- The weights' sum. -/
def total (S : Fin 256 → EReal) : EReal := ∑ j, weight S j

/-- A column of a head's output, normalised after the sum. -/
def mixK (S : Fin 256 → EReal) (v : Fin 256 → EReal) : EReal := Ideal.div (∑ j, weight S j * v j) (total S)

/-- A column of a head's output, normalised before the sum. -/
def mixR (S : Fin 256 → EReal) (v : Fin 256 → EReal) : EReal := ∑ j, v j * Ideal.div (weight S j) (total S)

def outK (h : Fin 1024 → EReal) (wq : Fin 1024 → Fin 1024 → EReal) (K V : Fin 256 → Fin 1024 → EReal) (c : Fin 1024) :
    EReal := mixK (scoreK h wq K (headOf c)) fun j => V j c

def outR (h : Fin 1024 → EReal) (wq : Fin 1024 → Fin 1024 → EReal) (K V : Fin 256 → Fin 1024 → EReal) (c : Fin 1024) :
    EReal := mixR (scoreR h wq K (headOf c)) fun j => V j c

/-- The residual sum. -/
def resid (h : Fin 1024 → EReal) (wo : Fin 1024 → Fin 1024 → EReal) (o : Fin 1024 → EReal) (c : Fin 1024) : EReal :=
  Ideal.ofBits .f32 0x3FD744FD#32 * h c + ∑ x, o x * wo x c

/-- A row's mean. -/
def mean (z : Fin 1024 → EReal) : EReal := Ideal.div (∑ x, z x) (Ideal.ofBits .f32 0x44800000#32)

/-- A row's variance. -/
def variance (z : Fin 1024 → EReal) : EReal :=
  Ideal.div (∑ x, (z x - mean z) * (z x - mean z)) (Ideal.ofBits .f32 0x44800000#32)

/-- The layer norm of a row. -/
def norm (z g b : Fin 1024 → EReal) (c : Fin 1024) : EReal :=
  (z c - mean z) * Ideal.rsqrt (variance z + Ideal.ofBits .f32 0x3727C5AC#32) * g c + b c

/-- A router logit of a row. -/
def logit (y : Fin 1024 → EReal) (w : Fin 1024 → Fin 32 → EReal) (b : Fin 32 → EReal) (e : Fin 32) : EReal :=
  ∑ x, y x * w x e + b e

/-- The softmax of four values, the first of them the greatest. -/
def gate (M : Fin 4 → EReal) (i : Fin 4) : EReal := Ideal.div (Ideal.exp (M i - M 0)) (∑ k, Ideal.exp (M k - M 0))

/-! ## The constants -/

theorem scale_isR : IsR (Ideal.ofBits .f32 0x3D800000#32) := by
  refine ⟨1 / 16, ?_⟩; simp [Ideal.ofBits, Ideal.ieee, -EReal.coe_mul]; norm_num

theorem alpha_isR : IsR (Ideal.ofBits .f32 0x3FD744FD#32) := by
  refine ⟨14107901 / 2 ^ 23, ?_⟩; simp [Ideal.ofBits, Ideal.ieee, -EReal.coe_mul]; norm_num

theorem width_eq : Ideal.ofBits .f32 0x44800000#32 = ((1024 : ℝ) : EReal) := by
  simp [Ideal.ofBits, Ideal.ieee, -EReal.coe_mul]; norm_num

theorem eps_pos : ∃ r : ℝ, 0 < r ∧ Ideal.ofBits .f32 0x3727C5AC#32 = (r : EReal) := by
  refine ⟨10995116 / 2 ^ 40, by norm_num, ?_⟩
  simp [Ideal.ofBits, Ideal.ieee, -EReal.coe_mul]; norm_num

/-! ## The two texts of the attention -/

variable {h : Fin 1024 → EReal} {wq wo : Fin 1024 → Fin 1024 → EReal} {K V : Fin 256 → Fin 1024 → EReal}

theorem query_isR (hh : ∀ x, IsR (h x)) (hq : ∀ x c, IsR (wq x c)) (c : Fin 1024) : IsR (query h wq c) :=
  IsR.sum fun x => (hh x).mul (hq x c)

theorem scoreR_isR (hh : ∀ x, IsR (h x)) (hq : ∀ x c, IsR (wq x c)) (hK : ∀ j c, IsR (K j c)) (d : Fin 4) (j : Fin 256) :
    IsR (scoreR h wq K d j) :=
  (IsR.sum fun e => (query_isR hh hq _).mul (hK j _)).mul scale_isR

theorem score_eq (hh : ∀ x, IsR (h x)) (hq : ∀ x c, IsR (wq x c)) (hK : ∀ j c, IsR (K j c)) (d : Fin 4) :
    scoreK h wq K d = scoreR h wq K d := by
  funext j
  obtain ⟨q, hq'⟩ := lift (query_isR hh hq)
  obtain ⟨k, rfl⟩ := lift₂ hK
  obtain ⟨s, hs⟩ := scale_isR
  simp only [scoreK, scoreR, hq', hs, ← EReal.coe_mul, coe_sum]
  rw [Finset.sum_mul]
  exact congrArg _ (Finset.sum_congr rfl fun e _ => by ring)

/-- The weights of real scores are positive reals. -/
theorem weight_pos {S : Fin 256 → EReal} (hS : ∀ j, IsR (S j)) :
    ∃ w : Fin 256 → ℝ, (∀ j, 0 < w j) ∧ weight S = fun j => (w j : EReal) := by
  obtain ⟨t, ht⟩ := IsR.fold_max hS
  obtain ⟨s, rfl⟩ := lift hS
  refine ⟨fun j => Real.exp (s j - t), fun j => Real.exp_pos _, funext fun j => ?_⟩
  unfold weight top
  rw [ht, ← EReal.coe_sub, exp_coe]

theorem mix_eq {S v : Fin 256 → EReal} (hS : ∀ j, IsR (S j)) (hv : ∀ j, IsR (v j)) : mixK S v = mixR S v := by
  obtain ⟨w, hw, hwS⟩ := weight_pos hS
  obtain ⟨u, rfl⟩ := lift hv
  have hpos : 0 < ∑ j, w j := Finset.sum_pos (fun j _ => hw j) Finset.univ_nonempty
  simp only [mixK, mixR, total, hwS, ← EReal.coe_mul, coe_sum, div_coe _ _ hpos.ne']
  rw [Finset.sum_div]
  exact congrArg _ (Finset.sum_congr rfl fun e _ => by ring)

theorem mixR_isR {S v : Fin 256 → EReal} (hS : ∀ j, IsR (S j)) (hv : ∀ j, IsR (v j)) : IsR (mixR S v) := by
  obtain ⟨w, hw, hwS⟩ := weight_pos hS
  have hpos : 0 < ∑ j, w j := Finset.sum_pos (fun j _ => hw j) Finset.univ_nonempty
  refine IsR.sum fun j => (hv j).mul ?_
  simp only [total, hwS, coe_sum, div_coe _ _ hpos.ne']
  exact IsR.coe _

theorem out_eq (hh : ∀ x, IsR (h x)) (hq : ∀ x c, IsR (wq x c)) (hK : ∀ j c, IsR (K j c)) (hV : ∀ j c, IsR (V j c)) :
    outK h wq K V = outR h wq K V := by
  funext c
  unfold outK outR
  rw [score_eq hh hq hK]
  exact mix_eq (scoreR_isR hh hq hK _) fun j => hV j c

theorem outR_isR (hh : ∀ x, IsR (h x)) (hq : ∀ x c, IsR (wq x c)) (hK : ∀ j c, IsR (K j c)) (hV : ∀ j c, IsR (V j c))
    (c : Fin 1024) : IsR (outR h wq K V c) :=
  mixR_isR (scoreR_isR hh hq hK _) fun j => hV j c

/-! ## The layer norm and the logits are real -/

theorem resid_isR {o : Fin 1024 → EReal} (hh : ∀ x, IsR (h x)) (ho : ∀ x, IsR (o x)) (hw : ∀ x c, IsR (wo x c))
    (c : Fin 1024) : IsR (resid h wo o c) :=
  (alpha_isR.mul (hh c)).add (IsR.sum fun x => (ho x).mul (hw x c))

theorem mean_isR {z : Fin 1024 → EReal} (hz : ∀ x, IsR (z x)) : IsR (mean z) := by
  unfold mean
  rw [width_eq]
  exact (IsR.sum hz).div (IsR.coe _) (by norm_num)

theorem variance_nonneg {z : Fin 1024 → EReal} (hz : ∀ x, IsR (z x)) : ∃ r : ℝ, 0 ≤ r ∧ variance z = (r : EReal) := by
  obtain ⟨m, hm⟩ := mean_isR hz
  obtain ⟨y, rfl⟩ := lift hz
  refine ⟨(∑ x, (y x - m) * (y x - m)) / 1024, div_nonneg (Finset.sum_nonneg fun x _ => mul_self_nonneg _) (by norm_num), ?_⟩
  simp only [variance, hm, width_eq, ← EReal.coe_sub, ← EReal.coe_mul, coe_sum]
  exact div_coe _ _ (by norm_num)

theorem norm_isR {z g b : Fin 1024 → EReal} (hz : ∀ x, IsR (z x)) (hg : ∀ x, IsR (g x)) (hb : ∀ x, IsR (b x))
    (c : Fin 1024) : IsR (norm z g b c) := by
  obtain ⟨v, hv, hv'⟩ := variance_nonneg hz
  obtain ⟨e, he, he'⟩ := eps_pos
  unfold norm
  refine (((((hz c).sub (mean_isR hz)).mul ?_).mul (hg c)).add (hb c))
  rw [hv', he', ← EReal.coe_add]
  exact IsR.rsqrt (by positivity)

theorem logit_isR {y : Fin 1024 → EReal} {w : Fin 1024 → Fin 32 → EReal} {b : Fin 32 → EReal} (hy : ∀ x, IsR (y x))
    (hw : ∀ x e, IsR (w x e)) (hb : ∀ e, IsR (b e)) (e : Fin 32) : IsR (logit y w b e) :=
  (IsR.sum fun x => (hy x).mul (hw x e)).add (hb e)

end Cert.Row

end
-- ==== Proof.Payload.lean ====
/- The body's vectors at an index, as the row functions of `RowSpec` of the loaded vectors' rows. -/
module

public import proofs.«01_k».proof.Proof.Gen.KernelIdeal.Value
public import Idealize.ShloMosaic.Lib.Pipeline.ValueKit
public import proofs.«01_k».proof.Proof.RowSpec

@[expose] public section

set_option maxRecDepth 16384

noncomputable section

namespace Cert.Kern

open Idealize.ShloMosaic Idealize.ShloMosaic.TcCoe Idealize.SL.Sem
open Cert.KernelIdeal Cert.KernelIdeal.Gen Cert.Row

theorem col_0 (e : Fin 256) : col 0 e = ⟨e.val, by have := e.isLt; omega⟩ := Fin.ext (by simp [col])
theorem col_1 (e : Fin 256) : col 1 e = ⟨256 + e.val, by have := e.isLt; omega⟩ := Fin.ext (by simp [col])
theorem col_2 (e : Fin 256) : col 2 e = ⟨512 + e.val, by have := e.isLt; omega⟩ := Fin.ext (by simp [col])
theorem col_3 (e : Fin 256) : col 3 e = ⟨768 + e.val, by have := e.isLt; omega⟩ := Fin.ext (by simp [col])

/-- A head's scores, from the row's query and the head's columns of the keys. -/
def headScore (q : Fin 1024 → EReal) (d : Fin 4) (k : Vec Ideal S1x256x256 .bf16) (j : Fin 256) : EReal :=
  ∑ e : Fin 256, q (col d e) * k (ix3 0 j e)

theorem headScore_0 (q : Fin 1024 → EReal) (k : Vec Ideal S1x256x256 .bf16) :
    headScore q 0 k = fun j => ∑ e : Fin 256, q ⟨e.val, by have := e.isLt; omega⟩ * k (ix3 0 j e) := by
  funext j; simp only [headScore, col_0]

theorem headScore_1 (q : Fin 1024 → EReal) (k : Vec Ideal S1x256x256 .bf16) :
    headScore q 1 k = fun j => ∑ e : Fin 256, q ⟨256 + e.val, by have := e.isLt; omega⟩ * k (ix3 0 j e) := by
  funext j; simp only [headScore, col_1]

theorem headScore_2 (q : Fin 1024 → EReal) (k : Vec Ideal S1x256x256 .bf16) :
    headScore q 2 k = fun j => ∑ e : Fin 256, q ⟨512 + e.val, by have := e.isLt; omega⟩ * k (ix3 0 j e) := by
  funext j; simp only [headScore, col_2]

theorem headScore_3 (q : Fin 1024 → EReal) (k : Vec Ideal S1x256x256 .bf16) :
    headScore q 3 k = fun j => ∑ e : Fin 256, q ⟨768 + e.val, by have := e.isLt; omega⟩ * k (ix3 0 j e) := by
  funext j; simp only [headScore, col_3]

/-- The row's scaled query. -/
def scaled (v0 : Vec Ideal S512x1024 .f32) (v2 : Vec Ideal S1024x1024 .bf16) (r : Fin 512) (c : Fin 1024) : EReal :=
  query (fun x => v0 (ix2 r x)) (fun x c => v2 (ix2 x c)) c * Ideal.ofBits .f32 0x3D800000#32

variable (v0 : Vec Ideal S512x1024 .f32) (v2 : Vec Ideal S1024x1024 .bf16) (k v : Vec Ideal S1x256x256 .bf16)
  (r : Fin 512)

theorem pay4_at (c : Fin 1024) : k0_pay4 v0 v2 (ix2 r c) = scaled v0 v2 r c := by
  pointwise [k0_pay4]
  rfl

theorem pay5_at (e : Fin 256) :
    k0_pay5 v0 v2 k v (ix2 r e) = mixK (headScore (scaled v0 v2 r) 0 k) fun j => v (ix3 0 j e) := by
  pointwise [k0_pay5, pay4_at]
  simp only [mixK, total, weight, top, headScore_0, headScore_1, headScore_2]

theorem pay8_at (e : Fin 256) :
    k0_pay8 (k0_pay6 v0 v2 k) (k0_pay7 v0 v2 k) v (ix2 r e)
      = mixK (headScore (scaled v0 v2 r) 1 k) fun j => v (ix3 0 j e) := by
  pointwise [k0_pay8, k0_pay7, k0_pay6, pay4_at]
  simp only [mixK, total, weight, top, headScore_0, headScore_1, headScore_2]

theorem pay9_at (q : FVec Ideal S512x1024 .bf16) (e : Fin 256) :
    k0_pay9 q k v (ix2 r e) = mixK (headScore (fun c => q (ix2 r c)) 2 k) fun j => v (ix3 0 j e) := by
  pointwise [k0_pay9]
  simp only [mixK, total, weight, top, headScore_0, headScore_1, headScore_2]

theorem pay10_at (q : FVec Ideal S512x1024 .bf16) (j : Fin 256) :
    k0_pay10 q k (ix2 r j) = weight (headScore (fun c => q (ix2 r c)) 3 k) j := by
  pointwise [k0_pay10]
  simp only [weight, top, headScore_3]

theorem pay12_at (q : FVec Ideal S512x1024 .bf16) (j : Fin 256) :
    k0_pay12 q k (ix2 r j) = weight (headScore (fun c => q (ix2 r c)) 3 k) j := by
  pointwise [k0_pay12, pay10_at]

theorem pay11_at (q : FVec Ideal S512x1024 .bf16) :
    k0_pay11 q k (ix2 r 0) = total (headScore (fun c => q (ix2 r c)) 3 k) := by
  pointwise [k0_pay11, pay10_at]
  rfl

/-- The four heads' outputs side by side. -/
def joined (o0 o1 o2 o3 : Fin 256 → EReal) (c : Fin 1024) : EReal :=
  if h : c.val < 256 then o0 ⟨c.val, h⟩
  else if h : c.val - 256 < 256 then o1 ⟨c.val - 256, h⟩
  else if h : c.val - 256 - 256 < 256 then o2 ⟨c.val - 256 - 256, h⟩
  else o3 ⟨c.val - 256 - 256 - 256, by have := c.isLt; omega⟩

/-- The normed row, from the heads' outputs. -/
theorem pay13_at (o0 o1 o2 : FVec Ideal S512x256 .bf16) (l : FVec Ideal S512x1 .f32) (p : FVec Ideal S512x256 .bf16)
    (wo : Vec Ideal S1024x1024 .bf16) (g b : Vec Ideal S1x1024 .f32) (c : Fin 1024) :
    k0_pay13 v0 o0 o1 o2 l p v wo g b (ix2 r c)
      = norm (resid (fun x => v0 (ix2 r x)) (fun x c => wo (ix2 x c))
          (joined (fun e => o0 (ix2 r e)) (fun e => o1 (ix2 r e)) (fun e => o2 (ix2 r e))
            fun e => Ideal.div (∑ j, p (ix2 r j) * v (ix3 0 j e)) (l (ix2 r 0))))
        (fun c => g (ix2 0 c)) (fun c => b (ix2 0 c)) c := by
  pointwise [k0_pay13]
  rfl

theorem pay14_at (o0 o1 o2 : FVec Ideal S512x256 .bf16) (l : FVec Ideal S512x1 .f32) (p : FVec Ideal S512x256 .bf16)
    (wo : Vec Ideal S1024x1024 .bf16) (g b : Vec Ideal S1x1024 .f32) (c : Fin 1024) :
    k0_pay14 v0 o0 o1 o2 l p v wo g b (ix2 r c) = k0_pay13 v0 o0 o1 o2 l p v wo g b (ix2 r c) := by
  pointwise [k0_pay14]

/-- The router's logits, one row of the transposed block. -/
theorem pay15_at (y : FVec Ideal S512x1024 .bf16) (w : Vec Ideal S1024x128 .bf16) (b : Vec Ideal S1x128 .f32) (e : Fin 32) :
    k0_pay15 y w b (ix2 e r)
      = logit (fun x => y (ix2 r x)) (fun x e => w (ix2 x ⟨e.val, by have := e.isLt; omega⟩))
          (fun e => b (ix2 0 ⟨e.val, by have := e.isLt; omega⟩)) e := by
  pointwise [k0_pay15]
  rfl

end Cert.Kern

end
-- ==== Proof.TopK.lean ====
/- The first positions of a stable descending sort, as the kernel finds them: the greatest entry's first position, that
   entry masked, and again.

   `sortedFrom_rounds`: where `y 0` is a vector of `n` extended reals none of which is `-∞`, each `y (i+1)` is `y i` with
   the entry at `p i` replaced by `-∞`, and `p i` is the FIRST position of the greatest entry of `y i`, the stable sort by
   `>` has `p i` at its `i`-th place, and the greatest entry of `y i` is the entry of `y 0` there. -/
module

public import Idealize.ShloMosaic.Lib.SortPrefix
public import Idealize.ShloMosaic.Lib.Pipeline.ValueKit

@[expose] public section

namespace Cert.TopK

open Idealize.ShloMosaic

variable {n : Nat}

/-- `k` sorts before `k'`: the greater entry first. -/
noncomputable abbrev greater (x : Fin n → EReal) (k k' : Fin n) : Bool := decide (x k' < x k)

/-- The greater entry first and of equal entries the earlier position. -/
noncomputable abbrev lex (x : Fin n → EReal) (k k' : Fin n) : Bool :=
  decide (x k' < x k) || (decide (x k = x k') && decide (k < k'))

theorem lex_total (x : Fin n → EReal) : StrictTotalBefore (lex x) :=
  StrictTotalBefore.of_key_then_position (fun a b : EReal => decide (b < a)) x
    (fun a => by simp) (fun a b c h h' => by
      simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

/-- Inserting a position that precedes every position of the list, the two orders agree. -/
theorem insert_eq (x : Fin n → EReal) (a : Fin n) (l : List (Fin n)) (h : ∀ b ∈ l, a < b) :
    insertBefore (greater x) a l = insertBefore (lex x) a l := by
  induction l with
  | nil => rfl
  | cons b l ih =>
    have hb : lex x b a = greater x b a := by
      have hn : ¬ b < a := not_lt.mpr (h b (by simp)).le
      simp [lex, greater, hn]
    unfold insertBefore
    rw [hb, ih fun c hc => h c (List.mem_cons_of_mem _ hc)]

theorem stableSort_eq (x : Fin n → EReal) (l : List (Fin n)) (h : l.Pairwise (· < ·)) :
    stableSort (greater x) l = stableSort (lex x) l := by
  induction l with
  | nil => rfl
  | cons a l ih =>
    rw [List.pairwise_cons] at h
    unfold stableSort
    rw [ih h.2]
    exact insert_eq x a _ fun b hb => h.1 b ((perm_stableSort (lex x) l).mem_iff.mp hb)

/-- The stable sort by the entries alone is the sort by entry and then position. -/
theorem sortedFrom_eq_lex (x : Fin n → EReal) : sortedFrom (greater x) = sortedFrom (lex x) := by
  have h : sortPositions n (greater x) = sortPositions n (lex x) :=
    stableSort_eq x _ (List.pairwise_lt_finRange n)
  funext k
  unfold sortedFrom
  rw [List.get_of_eq h]
  rfl

/-- `p` is the first position of the greatest entry of `y`. -/
def IsFirstMax (y : Fin n → EReal) (p : Fin n) : Prop := ∀ e, y e ≤ y p ∧ (y e = y p → p ≤ e)

/-- Masking an entry. -/
noncomputable abbrev mask (y : Fin n → EReal) (p : Fin n) : Fin n → EReal := fun e => if e = p then ⊥ else y e

section rounds

variable {k : Nat} (hk : k ≤ n) (x : Fin n → EReal) (hx : ∀ e, x e ≠ ⊥) (y : Nat → Fin n → EReal) (p : Nat → Fin n)
  (h0 : y 0 = x) (hy : ∀ i, y (i + 1) = mask (y i) (p i)) (hp : ∀ i, i < k → IsFirstMax (y i) (p i))

include h0 hy in
/-- After `i` rounds the entries at the positions picked are `-∞` and the others are left. -/
theorem y_eq (i : Nat) (e : Fin n) : y i e = if ∃ j, j < i ∧ p j = e then ⊥ else x e := by
  induction i with
  | zero => simp [h0]
  | succ i ih =>
    rw [hy]
    show (if e = p i then ⊥ else y i e) = _
    rw [ih]
    by_cases he : e = p i
    · rw [if_pos he, if_pos ⟨i, Nat.lt_succ_self i, he.symm⟩]
    · rw [if_neg he]
      by_cases hj : ∃ j, j < i ∧ p j = e
      · obtain ⟨j, hj, hje⟩ := hj
        rw [if_pos ⟨j, hj, hje⟩, if_pos ⟨j, Nat.lt_succ_of_lt hj, hje⟩]
      · rw [if_neg hj, if_neg]
        rintro ⟨j, hji, hje⟩
        rcases Nat.lt_succ_iff_lt_or_eq.mp hji with h | h
        · exact hj ⟨j, h, hje⟩
        · subst h; exact he hje.symm

include h0 hy hp hk hx in
/-- The position picked in round `i` was not picked before. -/
theorem fresh (i : Nat) (hi : i < k) : ¬ ∃ j, j < i ∧ p j = p i := by
  intro hj
  have hbot : y i (p i) = ⊥ := by rw [y_eq x y p h0 hy, if_pos hj]
  obtain ⟨e, he⟩ : ∃ e : Fin n, ∀ j : Fin i, p j ≠ e := by
    by_contra hno
    push Not at hno
    have hs : Function.Surjective fun j : Fin i => p j := fun e => hno e
    have := Fintype.card_le_of_surjective _ hs
    simp at this
    omega
  have hle := ((hp i hi) e).1
  rw [hbot, y_eq x y p h0 hy, if_neg (by rintro ⟨j, hj, hje⟩; exact he ⟨j, hj⟩ hje)] at hle
  exact hx e (le_bot_iff.mp hle)

include h0 hy hp hk hx in
theorem y_pick (i : Nat) (hi : i < k) : y i (p i) = x (p i) := by
  rw [y_eq x y p h0 hy, if_neg (fresh hk x hx y p h0 hy hp i hi)]

include h0 hy hp hk hx in
/-- A position not picked before round `i` does not sort before the position picked in it. -/
theorem not_before (i : Nat) (hi : i < k) (e : Fin n) (he : ¬ ∃ j, j < i ∧ p j = e) : lex x e (p i) = false := by
  have hm := (hp i hi) e
  rw [y_pick hk x hx y p h0 hy hp i hi, y_eq x y p h0 hy, if_neg he] at hm
  simp only [Bool.or_eq_false_iff, Bool.and_eq_false_iff, decide_eq_false_iff_not, not_lt]
  refine ⟨hm.1, ?_⟩
  by_cases hxe : x e = x (p i)
  · exact Or.inr (hm.2 hxe)
  · exact Or.inl hxe

include h0 hy hp hx in
theorem sortedFrom_rounds (i : Fin k) : sortedFrom (greater x) (i.castLE hk) = p i := by
  rw [sortedFrom_eq_lex]
  refine (lex_total x).sortedFrom_eq_of_prefix hk (fun i => p i) (fun a b hab => ?_) (fun a b hab => ?_)
    (fun a q hq => ?_) i
  · rcases lt_trichotomy a b with h | h | h
    · exact absurd ⟨a, h, hab⟩ (fresh hk x hx y p h0 hy hp b b.isLt)
    · exact h
    · exact absurd ⟨b, h, hab.symm⟩ (fresh hk x hx y p h0 hy hp a a.isLt)
  · refine not_before hk x hx y p h0 hy hp a a.isLt _ ?_
    rintro ⟨j, hj, hjb⟩
    exact fresh hk x hx y p h0 hy hp b b.isLt ⟨j, lt_trans hj hab, hjb⟩
  · refine not_before hk x hx y p h0 hy hp a a.isLt _ ?_
    rintro ⟨j, hj, hjb⟩
    exact hq ⟨j, lt_trans hj a.isLt⟩ hjb

end rounds

end Cert.TopK

end
-- ==== Proof.Pick.lean ====
/- The body's four rounds of the router's choice, at one row: the greatest logit's first position, that logit masked. -/
module

public import proofs.«01_k».proof.Proof.Payload
public import proofs.«01_k».proof.Proof.TopK

@[expose] public section

set_option maxRecDepth 16384

noncomputable section

namespace Cert.Pick

open Idealize.ShloMosaic Idealize.ShloMosaic.TcCoe Idealize.SL.Sem Cert.Reals Cert.TopK
open Cert.KernelIdeal Cert.KernelIdeal.Gen

theorem exists_first (y : Fin 32 → EReal) : ∃ p, IsFirstMax y p := by
  classical
  obtain ⟨i, -, hi⟩ := Finset.exists_max_image (Finset.univ : Finset (Fin 32)) y Finset.univ_nonempty
  have hne : (Finset.univ.filter fun e => y e = y i).Nonempty := ⟨i, by simp⟩
  refine ⟨(Finset.univ.filter fun e => y e = y i).min' hne, fun e => ?_⟩
  have hm := (Finset.mem_filter.mp (Finset.min'_mem _ hne)).2
  rw [hm]
  exact ⟨hi e (Finset.mem_univ e), fun he => Finset.min'_le _ _ (by simp [he])⟩

/-- The first position of the greatest entry. -/
def first (y : Fin 32 → EReal) : Fin 32 := (exists_first y).choose

theorem first_spec (y : Fin 32 → EReal) : IsFirstMax y (first y) := (exists_first y).choose_spec

theorem max_eq (y : Fin 32 → EReal) :
    Finset.univ.fold max (Ideal.ofBits .f32 0xFF800000#32) y = y (first y) := by
  obtain ⟨i, hi⟩ := fold_max_eq y
  refine le_antisymm ?_ (le_fold_max y _)
  rw [hi]
  exact (first_spec y i).1

theorem minsi_le (a b : BitVec 32) : (IntOp.minsi a b).toInt ≤ a.toInt ∧ (IntOp.minsi a b).toInt ≤ b.toInt
    ∧ (IntOp.minsi a b = a ∨ IntOp.minsi a b = b) := by
  unfold IntOp.minsi
  by_cases h : a.slt b = true
  · rw [if_pos h]
    exact ⟨le_rfl, by simp [BitVec.slt] at h; exact h.le, Or.inl rfl⟩
  · rw [if_neg h]
    exact ⟨by simp [BitVec.slt] at h; exact h, le_rfl, Or.inr rfl⟩

/-- A fold of the signed minimum is at most every member and is one of them or the start. -/
theorem fold_minsi (f : Fin 32 → BitVec 32) (M : BitVec 32) :
    (∀ e, (Finset.univ.fold IntOp.minsi M f).toInt ≤ (f e).toInt)
      ∧ (Finset.univ.fold IntOp.minsi M f = M ∨ ∃ e, Finset.univ.fold IntOp.minsi M f = f e) := by
  classical
  have h : ∀ s : Finset (Fin 32), (∀ e ∈ s, (s.fold IntOp.minsi M f).toInt ≤ (f e).toInt)
      ∧ (s.fold IntOp.minsi M f = M ∨ ∃ e, s.fold IntOp.minsi M f = f e) := fun s => by
    induction s using Finset.induction_on with
    | empty => exact ⟨fun e he => absurd he (Finset.notMem_empty e), Or.inl Finset.fold_empty⟩
    | insert a s ha ih =>
      rw [Finset.fold_insert ha]
      obtain ⟨h1, h2, h3⟩ := minsi_le (f a) (s.fold IntOp.minsi M f)
      refine ⟨fun e he => ?_, ?_⟩
      · rcases Finset.mem_insert.mp he with rfl | he
        · exact h1
        · exact h2.trans (ih.1 e he)
      · rcases h3 with h3 | h3
        · exact Or.inr ⟨a, h3⟩
        · rw [h3]; exact ih.2
  exact ⟨fun e => (h Finset.univ).1 e (Finset.mem_univ e), (h Finset.univ).2⟩

theorem toInt_ofNat (e : Nat) (h : e < 64) : (BitVec.ofNat 32 e).toInt = e := by
  rw [BitVec.toInt_eq_toNat_of_lt] <;> simp [BitVec.toNat_ofNat] <;> omega

/-- The least position word among those that hold the greatest entry. -/
theorem pick_eq (y : Fin 32 → EReal) (f : Fin 32 → BitVec 32)
    (h1 : ∀ e, y e = Finset.univ.fold max (Ideal.ofBits .f32 0xFF800000#32) y → f e = BitVec.ofNat 32 e.val)
    (h2 : ∀ e, y e ≠ Finset.univ.fold max (Ideal.ofBits .f32 0xFF800000#32) y → f e = 32#32) :
    Finset.univ.fold IntOp.minsi 2147483647#32 f = BitVec.ofNat 32 (first y).val := by
  rw [max_eq] at h1 h2
  obtain ⟨hle, hmem⟩ := fold_minsi f 2147483647#32
  have hp := hle (first y)
  rw [h1 _ rfl, toInt_ofNat _ (by omega)] at hp
  have hlt : (first y).val < 32 := (first y).isLt
  rcases hmem with h | ⟨e, he⟩
  · rw [h] at hp
    have : (2147483647#32).toInt = 2147483647 := by decide
    omega
  · by_cases hye : y e = y (first y)
    · have hfe := ((first_spec y) e).2 hye
      rw [he, h1 e hye] at hp ⊢
      rw [toInt_ofNat _ (by omega)] at hp
      have : e = first y := le_antisymm (by rw [Fin.le_def]; omega) hfe
      rw [this]
    · rw [he, h2 e hye] at hp
      have : (32#32).toInt = 32 := by decide
      omega

/-- The logits after `i` rounds. -/
def rounds (x : Fin 32 → EReal) : Nat → Fin 32 → EReal
  | 0 => x
  | i + 1 => mask (rounds x i) (first (rounds x i))

/-- A masking by position words. -/
theorem mask_eq (y : Fin 32 → EReal) (p e : Fin 32) :
    Scalar.select (IntOp.cmpi CmpIPredicate.eq (BitVec.ofNat 32 e.val) (BitVec.ofNat 32 p.val))
      (Ideal.ofBits .f32 0xFF800000#32) (y e) = mask y p e := by
  have hw : (BitVec.ofNat 32 e.val = BitVec.ofNat 32 p.val) ↔ e = p := by
    constructor
    · intro h
      have := congrArg BitVec.toNat h
      simp only [BitVec.toNat_ofNat] at this
      exact Fin.ext (by omega)
    · rintro rfl; rfl
  rw [ninf]
  unfold mask Scalar.select IntOp.cmpi
  by_cases h : e = p
  · subst h; simp
  · have hne : ¬ (BitVec.ofNat 32 e.val = BitVec.ofNat 32 p.val) := fun h' => h (hw.mp h')
    simp only [beq_eq_false_iff_ne.mpr hne, if_neg h]
    rfl

variable (y : FVec Ideal S512x1024 .bf16) (w : Vec Ideal S1024x128 .bf16) (b : Vec Ideal S1x128 .f32) (r : Fin 512)

/-- The row's logits. -/
abbrev lg (e : Fin 32) : EReal := k0_pay15 y w b (ix2 e r)

theorem pay16_at : k0_pay16 y w b (ix2 0 r) = rounds (lg y w b r) 0 (first (rounds (lg y w b r) 0)) := by
  pointwise [k0_pay16]
  exact max_eq _

theorem pay17_at : k0_pay17 y w b (ix2 0 r) = BitVec.ofNat 32 (first (rounds (lg y w b r) 0)).val := by
  pointwise [k0_pay17, k0_pay16]
  exact pick_eq (rounds (lg y w b r) 0) _ (fun e he => if_pos he) fun e he => if_neg he

theorem pay18_at (e : Fin 32) : k0_pay18 y w b (ix2 e r) = rounds (lg y w b r) 1 e := by
  pointwise [k0_pay18]
  rw [pay17_at]
  exact mask_eq (rounds (lg y w b r) 0) _ _

theorem pay19_at : k0_pay19 y w b (ix2 0 r) = rounds (lg y w b r) 1 (first (rounds (lg y w b r) 1)) := by
  pointwise [k0_pay19, pay18_at]
  exact max_eq _

theorem pay20_at : k0_pay20 y w b (ix2 0 r) = BitVec.ofNat 32 (first (rounds (lg y w b r) 1)).val := by
  pointwise [k0_pay20, k0_pay19, pay18_at]
  exact pick_eq (rounds (lg y w b r) 1) _ (fun e he => if_pos he) fun e he => if_neg he

theorem pay21_at (e : Fin 32) : k0_pay21 y w b (ix2 e r) = rounds (lg y w b r) 2 e := by
  pointwise [k0_pay21]
  rw [pay20_at, pay18_at]
  exact mask_eq (rounds (lg y w b r) 1) _ _

theorem pay22_at : k0_pay22 y w b (ix2 0 r) = rounds (lg y w b r) 2 (first (rounds (lg y w b r) 2)) := by
  pointwise [k0_pay22, pay21_at]
  exact max_eq _

theorem pay23_at : k0_pay23 y w b (ix2 0 r) = BitVec.ofNat 32 (first (rounds (lg y w b r) 2)).val := by
  pointwise [k0_pay23, k0_pay22, pay21_at]
  exact pick_eq (rounds (lg y w b r) 2) _ (fun e he => if_pos he) fun e he => if_neg he

theorem pay24_at (e : Fin 32) : k0_pay24 y w b (ix2 e r) = rounds (lg y w b r) 3 e := by
  pointwise [k0_pay24]
  rw [pay23_at, pay21_at]
  exact mask_eq (rounds (lg y w b r) 2) _ _

theorem pay1_at (v : FVec Ideal S32x512 .f32) : k0_pay1 v (ix2 0 r) = v (ix2 (first fun e => v (ix2 e r)) r) := by
  pointwise [k0_pay1]
  exact max_eq fun e => v (ix2 e r)

theorem pay2_at (i0 i1 i2 : IVec S1x512 32) (v : FVec Ideal S32x512 .f32) (i : Fin 4) :
    k0_pay2 (iota .tc S32x512 32 [0] iota_S32x512_d0_w32) i0 i1 i2 v (ix3 0 i r)
      = if i.val = 0 then i0 (ix2 0 r) else if i.val = 1 then i1 (ix2 0 r) else if i.val = 2 then i2 (ix2 0 r)
        else BitVec.ofNat 32 (first fun e => v (ix2 e r)).val := by
  pointwise [k0_pay2, k0_pay1]
  rw [pick_eq (fun e => v (ix2 e r)) _ (fun e he => if_pos he) fun e he => if_neg he]
  obtain ⟨i, hi⟩ := i
  interval_cases i <;> rfl

set_option maxRecDepth 100000 in
theorem pay3_at (m0 m1 m2 : FVec Ideal S1x512 .f32) (v : FVec Ideal S32x512 .f32) (i : Fin 4) :
    k0_pay3 m0 m1 m2 v (ix3 0 i r)
      = Row.gate ![m0 (ix2 0 r), m1 (ix2 0 r), m2 (ix2 0 r), v (ix2 (first fun e => v (ix2 e r)) r)] i := by
  have hv := pay1_at r v
  generalize v (ix2 (first fun e => v (ix2 e r)) r) = t at hv ⊢
  subst hv
  pointwise [k0_pay3]
  simp only [Row.gate, Fin.sum_univ_four]
  obtain ⟨i, hi⟩ := i
  interval_cases i <;> rfl

end Cert.Pick

end
-- ==== Proof.Block.lean ====
/- What a grid point leaves in its output blocks, row by row, from its input blocks. -/
module

public import proofs.«01_k».proof.Proof.Pick

@[expose] public section

set_option maxRecDepth 16384

noncomputable section

namespace Cert.Block

open Idealize.ShloMosaic Idealize.ShloMosaic.TcCoe Idealize.SL.Sem Cert.Reals
open Cert.KernelIdeal Cert.KernelIdeal.Gen Cert.Row Cert.Kern Cert.Pick

variable (x0 : Vec Ideal S512x1024 .f32) (x1 : Vec Ideal S1x256x2048 .bf16) (x2 x3 : Vec Ideal S1024x1024 .bf16)
  (x4 x5 : Vec Ideal S1x1024 .f32) (x6 : Vec Ideal S1024x128 .bf16) (x7 : Vec Ideal S1x128 .f32) (r : Fin 512)

/-! ## The loads at an index -/

theorem zero2 : (![0, 0] : Fin 2 → Nat) = fun _ => 0 := by funext a; fin_cases a <;> rfl

theorem ld_row : View.ld x0 r0_0 = x0 := View.ld_unit_zero zero2 _ _
theorem ld_weight : View.ld x2 r0_1 = x2 := View.ld_unit_zero zero2 _ _
theorem ld_vec : View.ld x4 r0_10 = x4 := View.ld_unit_zero zero2 _ _
theorem ld_router : View.ld x6 r0_11 = x6 := View.ld_unit_zero zero2 _ _
theorem ld_bias : View.ld x7 r0_12 = x7 := View.ld_unit_zero zero2 _ _

/-- Column `o + e` of the memory block. -/
theorem ld_cols (o : Nat) (ho : o + 256 ≤ 2048) (inb) (j e : Fin 256) :
    View.ld x1 (Rect.unit (s := S1x256x2048) ![0, 0, o] S1x256x256.size inb) (ix3 0 j e)
      = x1 (ix3 0 j ⟨o + e.val, by have := e.isLt; omega⟩) := by
  refine View.ld_unit_apply_of x1 _ _ inb _ _ fun a => ?_
  fin_cases a <;> simp [ix3]

/-- The row of the block. -/
abbrev hrow (x : Fin 1024) : EReal := x0 (ix2 r x)
/-- The keys' columns of the memory block. -/
abbrev keys (j : Fin 256) (c : Fin 1024) : EReal := x1 (ix3 0 j ⟨c.val, by have := c.isLt; omega⟩)
/-- The values' columns of the memory block. -/
abbrev vals (j : Fin 256) (c : Fin 1024) : EReal := x1 (ix3 0 j ⟨1024 + c.val, by have := c.isLt; omega⟩)

/-- A head of the kernel's text is a head of the row specification. -/
theorem head_score (d : Fin 4) (k : Vec Ideal S1x256x256 .bf16)
    (hk : ∀ j e, k (ix3 0 j e) = keys x1 j (col d e)) :
    headScore (scaled x0 x2 r) d k = scoreK (hrow x0 r) (fun x c => x2 (ix2 x c)) (keys x1) d := by
  funext j
  exact Finset.sum_congr rfl fun e _ => by rw [hk]; rfl

theorem mix_congr {S S' v v' : Fin 256 → EReal} (h : S = S') (h' : v = v') : mixK S v = mixK S' v' := by rw [h, h']

theorem headOf_col (d : Fin 4) (e : Fin 256) : headOf (col d e) = d :=
  Fin.ext (by have := e.isLt; simp only [headOf, col]; omega)

theorem joined_eq (o : Fin 1024 → EReal) (o0 o1 o2 o3 : Fin 256 → EReal) (h0 : ∀ e, o0 e = o (col 0 e))
    (h1 : ∀ e, o1 e = o (col 1 e)) (h2 : ∀ e, o2 e = o (col 2 e)) (h3 : ∀ e, o3 e = o (col 3 e)) :
    joined o0 o1 o2 o3 = o := by
  funext c
  have hc := c.isLt
  unfold joined
  split_ifs
  · rw [h0]; exact congrArg o (Fin.ext (by simp [col]))
  · rw [h1]; exact congrArg o (Fin.ext (by simp [col]; omega))
  · rw [h2]; exact congrArg o (Fin.ext (by simp [col]; omega))
  · rw [h3]; exact congrArg o (Fin.ext (by simp [col]; omega))

/-- The heads' outputs of the row, normalised after the sum. -/
abbrev heads : Fin 1024 → EReal := outK (hrow x0 r) (fun x c => x2 (ix2 x c)) (keys x1) (vals x1)

theorem heads_col (d : Fin 4) (e : Fin 256) : mixK (scoreK (hrow x0 r) (fun x c => x2 (ix2 x c)) (keys x1) d)
    (fun j => vals x1 j (col d e)) = heads x0 x1 x2 r (col d e) := by
  simp only [heads, outK, headOf_col]

theorem head0 (e : Fin 256) : k0_pay26 x0 x1 x2 x3 x4 x5 x6 x7 (ix2 r e) = heads x0 x1 x2 r (col 0 e) := by
  unfold k0_pay26
  rw [ld_row, ld_weight, pay5_at]
  refine (mix_congr (v' := fun j => vals x1 j (col 0 e)) (head_score x0 x1 x2 r 0 _ fun j e => ?_) (funext fun j => ?_)).trans
    (heads_col x0 x1 x2 r 0 e)
  · rw [ld_cols x1 0 (by omega)]; exact congrArg (fun i => x1 (ix3 0 j i)) (Fin.ext (by simp [col]))
  · rw [ld_cols x1 1024 (by omega)]
    exact congrArg (fun i => x1 (ix3 0 j i)) (Fin.ext (by simp [col]))

theorem head1 (e : Fin 256) : k0_pay27 x0 x1 x2 x3 x4 x5 x6 x7 (ix2 r e) = heads x0 x1 x2 r (col 1 e) := by
  unfold k0_pay27
  rw [ld_row, ld_weight, pay8_at]
  refine (mix_congr (v' := fun j => vals x1 j (col 1 e)) (head_score x0 x1 x2 r 1 _ fun j e => ?_) (funext fun j => ?_)).trans
    (heads_col x0 x1 x2 r 1 e)
  · rw [ld_cols x1 256 (by omega)]; exact congrArg (fun i => x1 (ix3 0 j i)) (Fin.ext (by simp [col]))
  · rw [ld_cols x1 1280 (by omega)]
    exact congrArg (fun i => x1 (ix3 0 j i)) (Fin.ext (by simp [col]; omega))

theorem pay25_at (c : Fin 1024) : k0_pay25 x0 x1 x2 x3 x4 x5 x6 x7 (ix2 r c) = scaled x0 x2 r c := by
  unfold k0_pay25
  rw [ld_row, ld_weight, pay4_at]

theorem head2 (e : Fin 256) : k0_pay28 x0 x1 x2 x3 x4 x5 x6 x7 (ix2 r e) = heads x0 x1 x2 r (col 2 e) := by
  unfold k0_pay28
  rw [pay9_at]
  simp only [pay25_at]
  refine (mix_congr (v' := fun j => vals x1 j (col 2 e)) (head_score x0 x1 x2 r 2 _ fun j e => ?_) (funext fun j => ?_)).trans
    (heads_col x0 x1 x2 r 2 e)
  · rw [ld_cols x1 512 (by omega)]; exact congrArg (fun i => x1 (ix3 0 j i)) (Fin.ext (by simp [col]))
  · rw [ld_cols x1 1536 (by omega)]
    exact congrArg (fun i => x1 (ix3 0 j i)) (Fin.ext (by simp [col]; omega))

theorem head3 (e : Fin 256) :
    Ideal.div (∑ j, k0_pay30 x0 x1 x2 x3 x4 x5 x6 x7 (ix2 r j) * View.ld x1 r0_9 (ix3 0 j e))
        (k0_pay29 x0 x1 x2 x3 x4 x5 x6 x7 (ix2 r 0)) = heads x0 x1 x2 r (col 3 e) := by
  unfold k0_pay29 k0_pay30
  simp only [pay11_at, pay12_at, pay25_at]
  refine (mix_congr (v' := fun j => vals x1 j (col 3 e)) (head_score x0 x1 x2 r 3 _ fun j e => ?_) (funext fun j => ?_)).trans
    (heads_col x0 x1 x2 r 3 e)
  · rw [ld_cols x1 768 (by omega)]; exact congrArg (fun i => x1 (ix3 0 j i)) (Fin.ext (by simp [col]))
  · rw [ld_cols x1 1792 (by omega)]
    exact congrArg (fun i => x1 (ix3 0 j i)) (Fin.ext (by simp [col]; omega))

/-- The row of the first output block. -/
abbrev yrow : Fin 1024 → EReal :=
  norm (resid (hrow x0 r) (fun x c => x3 (ix2 x c)) (heads x0 x1 x2 r)) (fun c => x4 (ix2 0 c)) fun c => x5 (ix2 0 c)

theorem out8_at (c : Fin 1024) :
    k0_pay13 x0 (k0_pay26 x0 x1 x2 x3 x4 x5 x6 x7) (k0_pay27 x0 x1 x2 x3 x4 x5 x6 x7) (k0_pay28 x0 x1 x2 x3 x4 x5 x6 x7)
        (k0_pay29 x0 x1 x2 x3 x4 x5 x6 x7) (k0_pay30 x0 x1 x2 x3 x4 x5 x6 x7) (View.ld x1 r0_9) x3 x4 x5 (ix2 r c)
      = yrow x0 x1 x2 x3 x4 x5 r c := by
  rw [pay13_at, joined_eq (heads x0 x1 x2 r) _ _ _ _ (head0 x0 x1 x2 x3 x4 x5 x6 x7 r) (head1 x0 x1 x2 x3 x4 x5 x6 x7 r)
    (head2 x0 x1 x2 x3 x4 x5 x6 x7 r) (head3 x0 x1 x2 x3 x4 x5 x6 x7 r)]

theorem pay31_at (c : Fin 1024) : k0_pay31 x0 x1 x2 x3 x4 x5 x6 x7 (ix2 r c) = yrow x0 x1 x2 x3 x4 x5 r c := by
  unfold k0_pay31
  rw [ld_row, ld_weight, ld_vec, ld_vec, pay14_at, out8_at]

/-- The row's logits. -/
abbrev lrow : Fin 32 → EReal :=
  logit (yrow x0 x1 x2 x3 x4 x5 r) (fun x e => x6 (ix2 x ⟨e.val, by have := e.isLt; omega⟩))
    fun e => x7 (ix2 0 ⟨e.val, by have := e.isLt; omega⟩)

theorem lg_eq : lg (k0_pay31 x0 x1 x2 x3 x4 x5 x6 x7) x6 x7 r = lrow x0 x1 x2 x3 x4 x5 x6 x7 r := by
  funext e
  show k0_pay15 _ _ _ (ix2 e r) = _
  rw [pay15_at]
  simp only [pay31_at]

/-- The expert chosen in round `i`. -/
abbrev choice (x : Fin 32 → EReal) (i : Nat) : Fin 32 := first (rounds x i)

theorem pay32_at (e : Fin 32) :
    k0_pay32 x0 x1 x2 x3 x4 x5 x6 x7 (ix2 e r) = rounds (lrow x0 x1 x2 x3 x4 x5 x6 x7 r) 3 e := by
  unfold k0_pay32
  rw [ld_router, ld_bias, pay24_at, lg_eq]

theorem out9_at (i : Fin 4) :
    k0_pay2 (iota .tc S32x512 32 [0] iota_S32x512_d0_w32) (k0_pay17 (k0_pay31 x0 x1 x2 x3 x4 x5 x6 x7) x6 x7)
        (k0_pay20 (k0_pay31 x0 x1 x2 x3 x4 x5 x6 x7) x6 x7) (k0_pay23 (k0_pay31 x0 x1 x2 x3 x4 x5 x6 x7) x6 x7)
        (k0_pay32 x0 x1 x2 x3 x4 x5 x6 x7) (ix3 0 i r)
      = BitVec.ofNat 32 (choice (lrow x0 x1 x2 x3 x4 x5 x6 x7 r) i.val).val := by
  rw [pay2_at, pay17_at, pay20_at, pay23_at, lg_eq]
  simp only [pay32_at]
  obtain ⟨i, hi⟩ := i
  interval_cases i <;> rfl

/-- The greatest remaining logit of each round. -/
abbrev tops (x : Fin 32 → EReal) (i : Fin 4) : EReal := rounds x i.val (choice x i.val)

theorem out10_at (i : Fin 4) :
    k0_pay3 (k0_pay16 (k0_pay31 x0 x1 x2 x3 x4 x5 x6 x7) x6 x7) (k0_pay19 (k0_pay31 x0 x1 x2 x3 x4 x5 x6 x7) x6 x7)
        (k0_pay22 (k0_pay31 x0 x1 x2 x3 x4 x5 x6 x7) x6 x7) (k0_pay32 x0 x1 x2 x3 x4 x5 x6 x7) (ix3 0 i r)
      = gate (tops (lrow x0 x1 x2 x3 x4 x5 x6 x7 r)) i := by
  rw [pay3_at, pay16_at, pay19_at, pay22_at, lg_eq]
  simp only [pay32_at]
  refine congrArg (fun M => gate M i) (funext fun k => ?_)
  obtain ⟨k, hk⟩ := k
  interval_cases k <;> rfl

end Cert.Block

end
-- ==== Proof.Arrays.lean ====
/- The three result arrays of the kernel, index by index, as the row functions of `RowSpec` over the argument arrays. -/
module

public import proofs.«01_k».proof.Proof.Block

@[expose] public section

set_option maxRecDepth 16384

noncomputable section

namespace Cert.Arrays

open Idealize.ShloMosaic Idealize.ShloMosaic.TcCoe Idealize.SL.Sem Cert.Reals
open Idealize.ShloMosaic.Pipeline (Dat)
open Cert.KernelIdeal Cert.KernelIdeal.Gen Cert.Row Cert.Pick Cert.Block

/-! ## The layer over the argument arrays -/

section spec

variable (h : FVec Ideal S65536x1024 .f32) (kv : FVec Ideal S16x256x2048 .f32) (wq wo : FVec Ideal S1024x1024 .f32)
  (g b : FVec Ideal S1024 .f32) (rw_ : FVec Ideal S1024x32 .f32) (rb : FVec Ideal S32 .f32)

/-- Token `n`'s row. -/
abbrev tokens (n : Fin 65536) (x : Fin 1024) : EReal := h (ix2 n x)
/-- The keys of token `n`'s batch. -/
abbrev memK (n : Fin 65536) (j : Fin 256) (c : Fin 1024) : EReal :=
  kv (ix3 ⟨n.val / 4096, by have := n.isLt; omega⟩ j ⟨c.val, by have := c.isLt; omega⟩)
/-- The values of token `n`'s batch. -/
abbrev memV (n : Fin 65536) (j : Fin 256) (c : Fin 1024) : EReal :=
  kv (ix3 ⟨n.val / 4096, by have := n.isLt; omega⟩ j ⟨1024 + c.val, by have := c.isLt; omega⟩)

/-- A token's normed row, from its attention `o`. -/
abbrev normed (o : Fin 1024 → EReal) (n : Fin 65536) : Fin 1024 → EReal :=
  norm (resid (tokens h n) (fun x c => wo (ix2 x c)) o) (fun c => g (ix1 c)) fun c => b (ix1 c)

/-- A token's attention, normalised after the sum. -/
abbrev attK (n : Fin 65536) : Fin 1024 → EReal := outK (tokens h n) (fun x c => wq (ix2 x c)) (memK kv n) (memV kv n)
/-- A token's attention, normalised before the sum. -/
abbrev attR (n : Fin 65536) : Fin 1024 → EReal := outR (tokens h n) (fun x c => wq (ix2 x c)) (memK kv n) (memV kv n)

/-- A token's logits, from its normed row. -/
abbrev logits (y : Fin 1024 → EReal) : Fin 32 → EReal := logit y (fun x e => rw_ (ix2 x e)) fun e => rb (ix1 e)

/-- The kernel's normed row of token `n`. -/
abbrev yK (n : Fin 65536) : Fin 1024 → EReal := normed h wo g b (attK h kv wq n) n

/-- The token of batch `i`, position `s`. -/
abbrev tok (i : Fin 16) (s : Fin 4096) : Fin 65536 := ⟨i.val * 4096 + s.val, by have := i.isLt; have := s.isLt; omega⟩

def G8 : S65536x1024.Idx → EReal := fun j => yK h kv wq wo g b (j 0) (j 1)

def G9 : S16x4x4096.Idx → BitVec 32 := fun j =>
  BitVec.ofNat 32 (choice (logits rw_ rb (yK h kv wq wo g b (tok (j 0) (j 2)))) (j 1).val).val

def G10 : S16x4x4096.Idx → EReal := fun j => gate (tops (logits rw_ rb (yK h kv wq wo g b (tok (j 0) (j 2))))) (j 1)

end spec

/-! ## The blocks -/

variable (m : (ℓ : Loc nD τ sig) → Buf (Elt Ideal) ℓ) (c : Dev nD)

theorem idx : ∀ t : Fin cfg0.N, win0_0.index t = ![t.val, 0] ∧ win0_1.index t = ![t.val / 8, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![t.val, 0]
    ∧ win0_9.index t = ![t.val / 8, 0, t.val % 8] ∧ win0_10.index t = ![t.val / 8, 0, t.val % 8] :=
  (by decide +kernel : ∀ t : Fin grid0.N, _)

abbrev a0 : FVec Ideal S65536x1024 .f32 := m ((c : Thread nD τ).loc main_arg0)
abbrev a1 : FVec Ideal S16x256x2048 .f32 := m ((c : Thread nD τ).loc main_arg1)
abbrev a2 : FVec Ideal S1024x1024 .f32 := m ((c : Thread nD τ).loc main_arg2)
abbrev a3 : FVec Ideal S1024x1024 .f32 := m ((c : Thread nD τ).loc main_arg3)
abbrev a4 : FVec Ideal S1024 .f32 := m ((c : Thread nD τ).loc main_arg4)
abbrev a5 : FVec Ideal S1024 .f32 := m ((c : Thread nD τ).loc main_arg5)
abbrev a6 : FVec Ideal S1024x32 .f32 := m ((c : Thread nD τ).loc main_arg6)
abbrev a7 : FVec Ideal S32 .f32 := m ((c : Thread nD τ).loc main_arg7)

theorem lt_N (t : Fin cfg0.N) : t.val < 128 := lt_of_lt_of_eq t.isLt N_0

/-- The token of row `r` of point `t`. -/
abbrev row (t : Fin cfg0.N) (r : Fin 512) : Fin 65536 :=
  ⟨t.val * 512 + r.val, by have := lt_N t; have := r.isLt; omega⟩

/-! ## The operands the host prepares -/

theorem entry7 : V m c main_v7 = broadcastInDim S1x1024 ![1] bcast_S1024_S1x1024_1 (a4 m c) := by
  show StableHlo.after _ _ _ = _
  simp only [hostOps0, hostOps0_1, hostOps0_2, hostOps0_3, hostOps0_4, List.flatten_cons, List.flatten_nil,
    List.append_nil, List.cons_append, List.nil_append]
  after_results_simp

theorem entry8 : V m c main_v8 = broadcastInDim S1x1024 ![1] bcast_S1024_S1x1024_1 (a5 m c) := by
  show StableHlo.after _ _ _ = _
  simp only [hostOps0, hostOps0_1, hostOps0_2, hostOps0_3, hostOps0_4, List.flatten_cons, List.flatten_nil,
    List.append_nil, List.cons_append, List.nil_append]
  after_results_simp

theorem entry1 : V m c main_v1 = truncf .bf16 (pad S1024x128 ![0, 0] ![0, 96] ![0, 0] (a6 m c)
    (sitofp .f32 (constantI S_ 32 0#32)) pads_S1024x32_S1024x128_000_0960 h_S_) bitsLt_bf16_f32 := by
  show StableHlo.after _ _ _ = _
  simp only [hostOps0, hostOps0_1, hostOps0_2, hostOps0_3, hostOps0_4, List.flatten_cons, List.flatten_nil,
    List.append_nil, List.cons_append, List.nil_append]
  after_results_simp
  rfl

theorem entry3 : V m c main_v3 = broadcastInDim S1x128 ![1] bcast_S128_S1x128_1 (pad S128 ![0] ![96] ![0] (a7 m c)
    (sitofp .f32 (constantI S_ 32 0#32)) pads_S32_S128_0960 h_S_) := by
  show StableHlo.after _ _ _ = _
  simp only [hostOps0, hostOps0_1, hostOps0_2, hostOps0_3, hostOps0_4, List.flatten_cons, List.flatten_nil,
    List.append_nil, List.cons_append, List.nil_append]
  after_results_simp
  rfl

theorem pad_router (w : FVec Ideal S1024x32 .f32) (z : FVec Ideal S_ .f32) (x : Fin 1024) (e : Fin 128) (he : e.val < 32) :
    truncf .bf16 (pad S1024x128 ![0, 0] ![0, 96] ![0, 0] w z pads_S1024x32_S1024x128_000_0960 h_S_) bitsLt_bf16_f32 (ix2 x e)
      = w (ix2 x ⟨e.val, he⟩) := by
  pointwise
  rw [dif_pos he]

theorem pad_bias (w : FVec Ideal S32 .f32) (z : FVec Ideal S_ .f32) (e : Fin 128) (he : e.val < 32) :
    broadcastInDim S1x128 ![1] bcast_S128_S1x128_1 (pad S128 ![0] ![96] ![0] w z pads_S32_S128_0960 h_S_) (ix2 0 e)
      = w (ix1 ⟨e.val, he⟩) := by
  pointwise
  rw [dif_pos he]

theorem blk0 (t : Fin cfg0.N) (r : Fin 512) (x : Fin 1024) :
    (show FVec Ideal S512x1024 .f32 from iblk m c 0 t) (ix2 r x) = a0 m c (ix2 (row t r) x) := by
  blk_ext! [iblk, V, idx t]

theorem blk1 (t : Fin cfg0.N) (j : Fin 256) (x : Fin 2048) :
    (show FVec Ideal S1x256x2048 .bf16 from iblk m c 1 t) (ix3 0 j x)
      = a1 m c (ix3 ⟨t.val / 8, by have := lt_N t; omega⟩ j x) := by
  show V m c main_v4 _ = _
  entry_read
  pointwise
  blk_point [idx t]

theorem blk2 (t : Fin cfg0.N) (x y : Fin 1024) :
    (show FVec Ideal S1024x1024 .bf16 from iblk m c 2 t) (ix2 x y) = a2 m c (ix2 x y) := by
  show V m c main_v5 _ = _
  entry_read
  pointwise
  blk_point [idx t]

theorem blk3 (t : Fin cfg0.N) (x y : Fin 1024) :
    (show FVec Ideal S1024x1024 .bf16 from iblk m c 3 t) (ix2 x y) = a3 m c (ix2 x y) := by
  show V m c main_v6 _ = _
  entry_read
  pointwise
  blk_point [idx t]

theorem blk4 (t : Fin cfg0.N) (x : Fin 1024) :
    (show FVec Ideal S1x1024 .f32 from iblk m c 4 t) (ix2 0 x) = a4 m c (ix1 x) := by
  show V m c main_v7 _ = _
  rw [entry7]
  pointwise
  blk_point [idx t]

theorem blk5 (t : Fin cfg0.N) (x : Fin 1024) :
    (show FVec Ideal S1x1024 .f32 from iblk m c 5 t) (ix2 0 x) = a5 m c (ix1 x) := by
  show V m c main_v8 _ = _
  rw [entry8]
  pointwise
  blk_point [idx t]

theorem blk6 (t : Fin cfg0.N) (x : Fin 1024) (e : Fin 32) :
    (show FVec Ideal S1024x128 .bf16 from iblk m c 6 t) (ix2 x ⟨e.val, by have := e.isLt; omega⟩) = a6 m c (ix2 x e) := by
  refine Eq.trans ?_ (pad_router (a6 m c) (sitofp .f32 (constantI S_ 32 0#32)) x ⟨e.val, by have := e.isLt; omega⟩ e.isLt)
  rw [← entry1]
  blk_ext! [iblk, idx t]

theorem blk7 (t : Fin cfg0.N) (e : Fin 32) :
    (show FVec Ideal S1x128 .f32 from iblk m c 7 t) (ix2 0 ⟨e.val, by have := e.isLt; omega⟩) = a7 m c (ix1 e) := by
  refine Eq.trans ?_ (pad_bias (a7 m c) (sitofp .f32 (constantI S_ 32 0#32)) ⟨e.val, by have := e.isLt; omega⟩ e.isLt)
  rw [← entry3]
  blk_ext! [iblk, idx t]

end Cert.Arrays

end
-- ==== Proof.Final.lean ====
/- The kernel's result arrays: each grid point leaves its block of the arrays of `Arrays`. -/
module

public import proofs.«01_k».proof.Proof.Arrays

@[expose] public section

set_option maxRecDepth 16384

noncomputable section

namespace Cert.Arrays

open Idealize.ShloMosaic Idealize.ShloMosaic.TcCoe Idealize.SL.Sem Cert.Reals
open Idealize.ShloMosaic.Pipeline (Dat)
open Cert.KernelIdeal Cert.KernelIdeal.Gen Cert.Row Cert.Pick Cert.Block

variable (m : (ℓ : Loc nD τ sig) → Buf (Elt Ideal) ℓ) (c : Dev nD)

theorem outK_congr {h h' : Fin 1024 → EReal} {wq wq' : Fin 1024 → Fin 1024 → EReal} {K K' V V' : Fin 256 → Fin 1024 → EReal}
    (hh : h = h') (hq : wq = wq') (hK : K = K') (hV : V = V') : outK h wq K V = outK h' wq' K' V' := by
  subst hh hq hK hV; rfl

theorem norm_congr {h h' : Fin 1024 → EReal} {w w' : Fin 1024 → Fin 1024 → EReal} {o o' g g' b b' : Fin 1024 → EReal}
    (hh : h = h') (hw : w = w') (ho : o = o') (hg : g = g') (hb : b = b') :
    norm (resid h w o) g b = norm (resid h' w' o') g' b' := by
  subst hh hw ho hg hb; rfl

theorem logit_congr {y y' : Fin 1024 → EReal} {w w' : Fin 1024 → Fin 32 → EReal} {b b' : Fin 32 → EReal}
    (hy : y = y') (hw : w = w') (hb : b = b') : logit y w b = logit y' w' b' := by
  subst hy hw hb; rfl

theorem row_batch (t : Fin cfg0.N) (r : Fin 512) : t.val / 8 = (row t r).val / 4096 := by
  have := r.isLt
  show _ = (t.val * 512 + r.val) / 4096
  omega

/-- The row's attention from the point's blocks is the token's. -/
theorem heads_eq (t : Fin cfg0.N) (r : Fin 512) :
    heads (iblk m c 0 t) (iblk m c 1 t) (iblk m c 2 t) r = attK (a0 m c) (a1 m c) (a2 m c) (row t r) :=
  outK_congr (funext fun x => blk0 m c t r x) (funext fun x => funext fun y => blk2 m c t x y)
    (funext fun j => funext fun x => (blk1 m c t j _).trans
      (congrArg (fun i => a1 m c (ix3 i j _)) (Fin.ext (row_batch t r))))
    (funext fun j => funext fun x => (blk1 m c t j _).trans
      (congrArg (fun i => a1 m c (ix3 i j _)) (Fin.ext (row_batch t r))))

/-- The row's normed values from the point's blocks are the token's. -/
theorem yrow_eq (t : Fin cfg0.N) (r : Fin 512) :
    yrow (iblk m c 0 t) (iblk m c 1 t) (iblk m c 2 t) (iblk m c 3 t) (iblk m c 4 t) (iblk m c 5 t) r
      = yK (a0 m c) (a1 m c) (a2 m c) (a3 m c) (a4 m c) (a5 m c) (row t r) :=
  norm_congr (funext fun x => blk0 m c t r x) (funext fun x => funext fun y => blk3 m c t x y) (heads_eq m c t r)
    (funext fun x => blk4 m c t x) (funext fun x => blk5 m c t x)

/-- The row's logits from the point's blocks are the token's. -/
theorem lrow_eq (t : Fin cfg0.N) (r : Fin 512) :
    lrow (iblk m c 0 t) (iblk m c 1 t) (iblk m c 2 t) (iblk m c 3 t) (iblk m c 4 t) (iblk m c 5 t) (iblk m c 6 t)
        (iblk m c 7 t) r
      = logits (a6 m c) (a7 m c) (yK (a0 m c) (a1 m c) (a2 m c) (a3 m c) (a4 m c) (a5 m c) (row t r)) :=
  logit_congr (yrow_eq m c t r) (funext fun x => funext fun e => blk6 m c t x e) (funext fun e => blk7 m c t e)

theorem tok_row (t : Fin cfg0.N) (r : Fin 512) (i : Fin 16) (s : Fin 4096) (hi : i.val = t.val / 8)
    (hs : s.val = t.val % 8 * 512 + r.val) : tok i s = row t r := by
  refine Fin.ext ?_
  show i.val * 4096 + s.val = t.val * 512 + r.val
  omega

theorem final8 : (dats m 0 c).arrAt 8 cfg0.N
    = G8 (a0 m c) (a1 m c) (a2 m c) (a3 m c) (a4 m c) (a5 m c) := by
  refine (dats m 0 c).arrAt_eq_of_covers 8 _ (by decide +kernel) fun t _ y => ?_
  blk_simp
  rw [after0_8]
  frame_out
  idx_vars y
  refine (out8_at (iblk m c 0 t) (iblk m c 1 t) (iblk m c 2 t) (iblk m c 3 t) (iblk m c 4 t) (iblk m c 5 t)
    (iblk m c 6 t) (iblk m c 7 t) y0 y1).trans ?_
  refine (congrFun (yrow_eq m c t y0) y1).trans ?_
  have he : ((View.whole main_v9_0).slice (win0_8.rect t)).emb (ix2 y0 y1) = ix2 (row t y0) y1 := by
    blk_ext! [idx t]
  rw [he]
  rfl

theorem final9 : (dats m 0 c).arrAt 9 cfg0.N
    = G9 (a0 m c) (a1 m c) (a2 m c) (a3 m c) (a4 m c) (a5 m c) (a6 m c) (a7 m c) := by
  refine (dats m 0 c).arrAt_eq_of_covers 9 _ (by decide +kernel) fun t _ y => ?_
  blk_simp
  rw [after0_9]
  frame_out
  idx_vars y
  obtain rfl : y0 = 0 := Subsingleton.elim _ _
  refine (out9_at (iblk m c 0 t) (iblk m c 1 t) (iblk m c 2 t) (iblk m c 3 t) (iblk m c 4 t) (iblk m c 5 t)
    (iblk m c 6 t) (iblk m c 7 t) y2 y1).trans ?_
  rw [lrow_eq]
  have he : ((View.whole main_v9_1).slice (win0_9.rect t)).emb (ix3 0 y1 y2)
      = ix3 ⟨t.val / 8, by have := lt_N t; omega⟩ y1 ⟨t.val % 8 * 512 + y2.val, by have := y2.isLt; omega⟩ := by
    blk_ext! [idx t]
  rw [he, ← tok_row t y2 ⟨t.val / 8, by have := lt_N t; omega⟩
    ⟨t.val % 8 * 512 + y2.val, by have := y2.isLt; omega⟩ rfl rfl]
  rfl

theorem final10 : (dats m 0 c).arrAt 10 cfg0.N
    = G10 (a0 m c) (a1 m c) (a2 m c) (a3 m c) (a4 m c) (a5 m c) (a6 m c) (a7 m c) := by
  refine (dats m 0 c).arrAt_eq_of_covers 10 _ (by decide +kernel) fun t _ y => ?_
  blk_simp
  rw [after0_10]
  frame_out
  idx_vars y
  obtain rfl : y0 = 0 := Subsingleton.elim _ _
  refine (out10_at (iblk m c 0 t) (iblk m c 1 t) (iblk m c 2 t) (iblk m c 3 t) (iblk m c 4 t) (iblk m c 5 t)
    (iblk m c 6 t) (iblk m c 7 t) y2 y1).trans ?_
  rw [lrow_eq]
  have he : ((View.whole main_v9_2).slice (win0_10.rect t)).emb (ix3 0 y1 y2)
      = ix3 ⟨t.val / 8, by have := lt_N t; omega⟩ y1 ⟨t.val % 8 * 512 + y2.val, by have := y2.isLt; omega⟩ := by
    blk_ext! [idx t]
  rw [he, ← tok_row t y2 ⟨t.val / 8, by have := lt_N t; omega⟩
    ⟨t.val % 8 * 512 + y2.val, by have := y2.isLt; omega⟩ rfl rfl]
  rfl

end Cert.Arrays

end
-- ==== Proof.Finite.lean ====
/- The precondition at an element: every element of every argument is a real number. -/
module

public import proofs.«01_k».proof.Proof.Arrays
public import proofs.«01_k».proof.Defs
public import proofs.«01_k».proof.Proof.Gen.Pre_finite
public import Idealize.ShloMosaic.Lib.ReduceAll

@[expose] public section

set_option maxRecDepth 16384

noncomputable section

namespace Cert.Finite

open Idealize.ShloMosaic Idealize.SL.Sem Cert.Reals Cert.Arrays

theorem inf_eq : Ideal.ofBits .f32 0x7F800000#32 = ⊤ := by simp [Ideal.ofBits, Ideal.ieee]

/-- A number whose absolute value is below the infinity is real. -/
theorem isR_of_lt (a : EReal) (h : max a (-a) < ⊤) : IsR a := by
  induction a with
  | bot => simp at h
  | top => simp at h
  | coe r => exact ⟨r, rfl⟩

instance : Subsingleton Cert.Pre_finite.S_.Idx := ⟨fun a b => funext fun i => i.elim0⟩

theorem real_of {s : Shape} {axes : List (Fin s.rank)} (a : FVec Ideal s .f32)
    (hb : Cert.Pre_finite.S_.BroadcastsInDim s (![] : Fin 0 → Fin s.rank)) (h : s.ReducesTo axes Cert.Pre_finite.S_)
    (hu : 0 < Cert.Pre_finite.S_.numel)
    (e : Host.reduce IntOp.andi (cmpf .olt (Host.absf a) (broadcastInDim s ![] hb (constant Cert.Pre_finite.S_ .f32 0x7F800000#32)))
      (constantI Cert.Pre_finite.S_ 1 1#1) h hu ix0 = 1#1) (i : s.Idx) : IsR (a i) := by
  have hi := Host.reduce_andi_all _ _ h hu ix0 e i
  refine isR_of_lt (a i) ?_
  have hi' : BitVec.ofBool (decide (max (a i) (-(a i)) < Ideal.ofBits .f32 0x7F800000#32)) = 1#1 := hi
  rw [inf_eq] at hi'
  by_contra hc
  rw [decide_eq_false hc] at hi'
  exact absurd hi' (by decide)

theorem and_split (x y : IVec Cert.Pre_finite.S_ 1) (h : andi x y ix0 = 1#1) : x ix0 = 1#1 ∧ y ix0 = 1#1 := by
  have h' : x ix0 &&& y ix0 = 1#1 := h
  revert h'
  generalize x ix0 = a
  generalize y ix0 = b
  revert a b
  decide

variable (m : (ℓ : Loc Cert.KernelIdeal.nD Cert.KernelIdeal.τ Cert.KernelIdeal.sig) → Buf (Elt Ideal) ℓ)
  (c : Dev Cert.KernelIdeal.nD)

theorem args (h : Cert.Pre_KernelIdeal_finite m) : (∀ i, IsR (a0 m c i)) ∧ (∀ i, IsR (a1 m c i)) ∧ (∀ i, IsR (a2 m c i))
    ∧ (∀ i, IsR (a3 m c i)) ∧ (∀ i, IsR (a4 m c i)) ∧ (∀ i, IsR (a5 m c i)) ∧ (∀ i, IsR (a6 m c i))
    ∧ ∀ i, IsR (a7 m c i) := by
  have e := congrFun (h c) ix0
  dsimp only [Cert.Pre_finite.fn, Cert.Pre_finite.fn_part1, Cert.Pre_finite.fn_part2] at e
  obtain ⟨e, e7⟩ := and_split _ _ e
  obtain ⟨e, e6⟩ := and_split _ _ e
  obtain ⟨e, e5⟩ := and_split _ _ e
  obtain ⟨e, e4⟩ := and_split _ _ e
  obtain ⟨e, e3⟩ := and_split _ _ e
  obtain ⟨e, e2⟩ := and_split _ _ e
  obtain ⟨e0, e1⟩ := and_split _ _ e
  exact ⟨real_of _ _ _ _ e0, real_of _ _ _ _ e1, real_of _ _ _ _ e2, real_of _ _ _ _ e3, real_of _ _ _ _ e4,
    real_of _ _ _ _ e5, real_of _ _ _ _ e6, real_of _ _ _ _ e7⟩

end Cert.Finite

end
-- ==== Proof.RefMax.lean ====
/- The reference's greatest score of a row of scores. -/
module

public import proofs.«01_k».proof.Proof.Arrays
public import proofs.«01_k».proof.Proof.Gen.ReferenceIdeal.Run

@[expose] public section

set_option maxRecDepth 16384

noncomputable section

namespace Cert.RefRow

open Idealize.ShloMosaic Idealize.ShloMosaic.TcCoe Idealize.SL.Sem Cert.Reals
open Cert.ReferenceIdeal Cert.ReferenceIdeal.Gen Cert.Row Cert.Arrays

theorem lift4 (i : Fin 16) (d : Fin 4) (s : Fin 4096) (h : S16x4x4096x256.Reduces [3] S16x4x4096) (j : Fin 256) :
    h.lift (ix3 i d s) j = ix4 i d s j := by
  funext a
  fin_cases a <;> rfl

theorem max_at (X : FVec Ideal S16x4x4096x256 .f32) (i : Fin 16) (d : Fin 4) (s : Fin 4096) :
    Host.reduce FloatOps.maximumf X (constant S_ .f32 0xFF800000#32) reducesTo_S16x4x4096x256_S16x4x4096_d3 h_S_
      (ix3 i d s) = top fun j => X (ix4 i d s j) := by
  have h : S16x4x4096x256.Reduces [3] S16x4x4096 := by decide
  rw [Host.reduce_eq_fold_single FloatOps.maximumf X _ reducesTo_S16x4x4096x256_S16x4x4096_d3 h]
  have e : X ∘ h.lift (ix3 i d s) = fun j : Fin 256 => X (ix4 i d s j) :=
    funext fun j => congrArg X (lift4 i d s h j)
  rw [e]
  rfl

theorem lift2 (n : Fin 65536) (h : S65536x4.Reduces [1] S65536) (j : Fin 4) : h.lift (ix1 n) j = ix2 n j := by
  funext a
  fin_cases a <;> rfl

theorem max4_at (X : FVec Ideal S65536x4 .f32) (n : Fin 65536) :
    Host.reduce FloatOps.maximumf X (constant S_ .f32 0xFF800000#32) reducesTo_S65536x4_S65536_d1 h_S_ (ix1 n)
      = Finset.univ.fold max (Ideal.ofBits .f32 0xFF800000#32) fun j : Fin 4 => X (ix2 n j) := by
  have h : S65536x4.Reduces [1] S65536 := by decide
  rw [Host.reduce_eq_fold_single FloatOps.maximumf X _ reducesTo_S65536x4_S65536_d1 h]
  have e : X ∘ h.lift (ix1 n) = fun j : Fin 4 => X (ix2 n j) := funext fun j => congrArg X (lift2 n h j)
  rw [e]
  rfl

end Cert.RefRow

end
-- ==== Proof.RefRow.lean ====
/- The reference's results at a token. -/
module

public import proofs.«01_k».proof.Proof.RefMax
public import proofs.«01_k».proof.Proof.Gen.ReferenceIdeal.Run

@[expose] public section

set_option maxRecDepth 16384

noncomputable section

namespace Cert.RefRow

open Idealize.ShloMosaic Idealize.ShloMosaic.TcCoe Idealize.SL.Sem Cert.Reals
open Cert.ReferenceIdeal Cert.ReferenceIdeal.Value Cert.Row Cert.Arrays

variable (V0 : Valuation τ sig (Elt Ideal))

abbrev b0 : FVec Ideal S65536x1024 .f32 := V0 (Proc.devRef .tc main_arg0)
abbrev b1 : FVec Ideal S16x256x2048 .f32 := V0 (Proc.devRef .tc main_arg1)
abbrev b2 : FVec Ideal S1024x1024 .f32 := V0 (Proc.devRef .tc main_arg2)
abbrev b3 : FVec Ideal S1024x1024 .f32 := V0 (Proc.devRef .tc main_arg3)
abbrev b4 : FVec Ideal S1024 .f32 := V0 (Proc.devRef .tc main_arg4)
abbrev b5 : FVec Ideal S1024 .f32 := V0 (Proc.devRef .tc main_arg5)
abbrev b6 : FVec Ideal S1024x32 .f32 := V0 (Proc.devRef .tc main_arg6)
abbrev b7 : FVec Ideal S32 .f32 := V0 (Proc.devRef .tc main_arg7)

/-! ## The attention -/

theorem tok_batch (i : Fin 16) (s : Fin 4096) (h : (tok i s).val / 4096 < 16) : (⟨(tok i s).val / 4096, h⟩ : Fin 16) = i := by
  refine Fin.ext ?_
  have := s.isLt
  show (i.val * 4096 + s.val) / 4096 = i.val
  omega

theorem v0_at (i : Fin 16) (s : Fin 4096) (x : Fin 1024) : res_main_v0 V0 (ix3 i s x) = tokens (b0 V0) (tok i s) x := by
  pointwise [res_main_v0]

theorem v1_at (i : Fin 16) (j : Fin 256) (k : Fin 2) (d : Fin 4) (e : Fin 256) :
    res_main_v1 V0 (ix5 i j k d e) = b1 V0 (ix3 i j ⟨k.val * 1024 + d.val * 256 + e.val,
      by have := k.isLt; have := d.isLt; have := e.isLt; omega⟩) := by
  pointwise [res_main_v1]

theorem v12_at (i : Fin 16) (d : Fin 4) (s : Fin 4096) (j : Fin 256) : res_main_v12 V0 (ix4 i d s j)
    = scoreR (tokens (b0 V0) (tok i s)) (fun x c => b2 V0 (ix2 x c)) (memK (b1 V0) (tok i s)) d j := by
  pointwise [res_main_v12, v0_at, v1_at]
  unfold scoreR
  refine congrArg (· * _) (Finset.sum_congr rfl fun e _ => congrArg (_ * ·) ?_)
  rw [memK, tok_batch]
  rfl

theorem weight_of (X : FVec Ideal S16x4x4096x256 .f32) (Y : FVec Ideal S16x4x4096 .f32) (i : Fin 16) (d : Fin 4)
    (s : Fin 4096) (j : Fin 256) (hY : Y (ix3 i d s) = top fun j => X (ix4 i d s j)) :
    Host.exp (subf X (broadcastInDim S16x4x4096x256 ![0, 1, 2, 3] Gen.bcast_S16x4x4096x1_S16x4x4096x256_0_1_2_3
      (broadcastInDim S16x4x4096x1 ![0, 1, 2] Gen.bcast_S16x4x4096_S16x4x4096x1_0_1_2
        (maximumf (broadcastInDim S16x4x4096 ![] Gen.bcast_S_S16x4x4096 (constant S_ .f32 0xFF800000#32)) Y))))
          (ix4 i d s j)
      = weight (fun j => X (ix4 i d s j)) j := by
  pointwise
  rw [hY, ninf, max_eq_right bot_le]
  rfl

theorem v19_at (i : Fin 16) (d : Fin 4) (s : Fin 4096) (j : Fin 256) : res_main_v19 V0 (ix4 i d s j)
    = weight (fun j => res_main_v12 V0 (ix4 i d s j)) j :=
  weight_of (res_main_v12 V0) _ i d s j (max_at (res_main_v12 V0) i d s)

theorem v28_at (i : Fin 16) (s : Fin 4096) (x : Fin 1024) : res_main_v28 V0 (ix3 i s x)
    = resid (tokens (b0 V0) (tok i s)) (fun x c => b3 V0 (ix2 x c)) (attR (b0 V0) (b1 V0) (b2 V0) (tok i s)) x := by
  pointwise [res_main_v28, v0_at, v1_at]
  unfold resid
  refine congrArg (_ + ·) (Finset.sum_congr rfl fun k _ => congrArg (· * _) ?_)
  unfold attR outR mixR
  simp only [v19_at, v12_at]
  refine Finset.sum_congr rfl fun j _ => congrArg₂ (· * ·) ?_ rfl
  rw [memV, tok_batch]
  refine congrArg (fun q => b1 V0 (ix3 i j q)) (Fin.ext ?_)
  show 1024 + k.val / 256 * 256 + k.val % 256 = 1024 + k.val
  omega

end Cert.RefRow

end
-- ==== Proof.RefNorm.lean ====
/- The reference's layer norm and router at a token. -/
module

public import proofs.«01_k».proof.Proof.Arrays
public import proofs.«01_k».proof.Proof.Gen.ReferenceIdeal.Run

@[expose] public section

set_option maxRecDepth 16384

noncomputable section

namespace Cert.RefRow

open Idealize.ShloMosaic Idealize.ShloMosaic.TcCoe Idealize.SL.Sem Cert.Reals
open Cert.ReferenceIdeal Cert.ReferenceIdeal.Gen Cert.Row Cert.Arrays

/-- The mean of each row. -/
theorem mean_at (X : FVec Ideal S16x4096x1024 .f32) (i : Fin 16) (s : Fin 4096) :
    Host.divf (broadcastInDim S16x4096x1 ![0, 1] bcast_S16x4096_S16x4096x1_0_1
        (Host.reduceAdd X (constant S_ .f32 0x00000000#32) reducesTo_S16x4096x1024_S16x4096_d2 h_S_))
      (broadcastInDim S16x4096x1 ![] bcast_S_S16x4096x1 (constant S_ .f32 0x44800000#32)) (ix3 i s 0)
      = mean fun x => X (ix3 i s x) := by
  pointwise
  rfl

theorem centred_at (X : FVec Ideal S16x4096x1024 .f32) (M : FVec Ideal S16x4096x1 .f32) (i : Fin 16) (s : Fin 4096)
    (x : Fin 1024) :
    subf X (broadcastInDim S16x4096x1024 ![0, 1, 2] bcast_S16x4096x1_S16x4096x1024_0_1_2 M) (ix3 i s x)
      = X (ix3 i s x) - M (ix3 i s 0) := by
  pointwise

/-- The layer norm of each row, of the rows `X`, their means `M` and the rows less their means `D`. -/
def hostNorm (X : FVec Ideal S16x4096x1024 .f32) (M : FVec Ideal S16x4096x1 .f32) (D : FVec Ideal S16x4096x1024 .f32)
    (g b : FVec Ideal S1024 .f32) : FVec Ideal S16x4096x1024 .f32 :=
  addf (mulf (mulf (subf X (broadcastInDim S16x4096x1024 ![0, 1, 2] bcast_S16x4096x1_S16x4096x1024_0_1_2 M))
    (broadcastInDim S16x4096x1024 ![0, 1, 2] bcast_S16x4096x1_S16x4096x1024_0_1_2
      (Host.rsqrt (addf (Host.divf (broadcastInDim S16x4096x1 ![0, 1] bcast_S16x4096_S16x4096x1_0_1
          (Host.reduceAdd (mulf D D) (constant S_ .f32 0x00000000#32) reducesTo_S16x4096x1024_S16x4096_d2 h_S_))
        (broadcastInDim S16x4096x1 ![] bcast_S_S16x4096x1 (constant S_ .f32 0x44800000#32)))
        (broadcastInDim S16x4096x1 ![] bcast_S_S16x4096x1 (constant S_ .f32 0x3727C5AC#32))))))
    (broadcastInDim S16x4096x1024 ![0, 1, 2] bcast_S1x1x1024_S16x4096x1024_0_1_2
      (broadcastInDim S1x1x1024 ![2] bcast_S1024_S1x1x1024_2 g)))
    (broadcastInDim S16x4096x1024 ![0, 1, 2] bcast_S1x1x1024_S16x4096x1024_0_1_2
      (broadcastInDim S1x1x1024 ![2] bcast_S1024_S1x1x1024_2 b))

theorem hostNorm_at (X : FVec Ideal S16x4096x1024 .f32) (M : FVec Ideal S16x4096x1 .f32) (D : FVec Ideal S16x4096x1024 .f32)
    (g b : FVec Ideal S1024 .f32) (i : Fin 16) (s : Fin 4096) (z : Fin 1024 → EReal) (hX : ∀ x, X (ix3 i s x) = z x)
    (hM : M (ix3 i s 0) = mean z) (hD : ∀ x, D (ix3 i s x) = z x - mean z) (x : Fin 1024) :
    hostNorm X M D g b (ix3 i s x) = norm z (fun x => g (ix1 x)) (fun x => b (ix1 x)) x := by
  pointwise [hostNorm, hX, hM, hD]
  rfl

/-- The rows by token. -/
theorem flat_at (Y : FVec Ideal S16x4096x1024 .f32) (n : Fin 65536) (x : Fin 1024) :
    shapeCast S65536x1024 Y shapeCasts_S16x4096x1024_S65536x1024 (ix2 n x)
      = Y (ix3 ⟨n.val / 4096, by have := n.isLt; omega⟩ ⟨n.val % 4096, by omega⟩ x) := by
  pointwise

/-- The router's logits of each token. -/
def hostLogits (Y : FVec Ideal S65536x1024 .f32) (w : FVec Ideal S1024x32 .f32) (b : FVec Ideal S32 .f32) :
    FVec Ideal S65536x32 .f32 :=
  addf (Host.dotGeneral dot_S65536x1024_S1024x32_S65536x32_1_0_0_1_n_n none Y w)
    (broadcastInDim S65536x32 ![0, 1] bcast_S1x32_S65536x32_0_1 (broadcastInDim S1x32 ![1] bcast_S32_S1x32_1 b))

theorem hostLogits_at (Y : FVec Ideal S65536x1024 .f32) (w : FVec Ideal S1024x32 .f32) (b : FVec Ideal S32 .f32)
    (n : Fin 65536) (e : Fin 32) :
    hostLogits Y w b (ix2 n e) = logits w b (fun x => Y (ix2 n x)) e := by
  pointwise [hostLogits]
  rfl

end Cert.RefRow

end
-- ==== Proof.RefTop.lean ====
/- The reference's choice of four experts, and its gates. -/
module

public import proofs.«01_k».proof.Proof.RefMax
public import proofs.«01_k».proof.Proof.Gen.ReferenceIdeal.Run

@[expose] public section

set_option maxRecDepth 16384

noncomputable section

namespace Cert.RefRow

open Idealize.ShloMosaic Idealize.ShloMosaic.TcCoe Idealize.SL.Sem Cert.Reals
open Cert.ReferenceIdeal Cert.ReferenceIdeal.Gen Cert.Row Cert.Arrays
open Cert.TopK Cert.Pick Cert.Block

theorem along2 (n : Fin 65536) (e k : Fin 32) : (ix2 n e : S65536x32.Idx).along 1 k = ix2 n k := by
  funext a
  fin_cases a <;> rfl

theorem greater_eq (X : FVec Ideal S65536x32 .f32) (n : Fin 65536) (e : Fin 32) :
    (fun k k' : Fin 32 => FloatOps.cmpfTotal (F := Ideal) (φ := .f32) .gt (X ((ix2 n e : S65536x32.Idx).along 1 k))
      (X ((ix2 n e : S65536x32.Idx).along 1 k')) == 1#1) = greater fun e => X (ix2 n e) := by
  funext k k'
  rw [along2, along2]
  show (BitVec.ofBool (decide (X (ix2 n k') < X (ix2 n k))) == 1#1) = decide (X (ix2 n k') < X (ix2 n k))
  by_cases h : X (ix2 n k') < X (ix2 n k) <;> simp [h]

/-- The position the sort puts at place `i` of token `n`'s row is the choice of round `i`. -/
theorem sorted_at (X : FVec Ideal S65536x32 .f32) (n : Fin 65536) (hX : ∀ e, X (ix2 n e) ≠ ⊥) (i : Fin 4) :
    sortedFrom (greater fun e => X (ix2 n e)) (i.castLE (by decide : 4 ≤ 32)) = choice (fun e => X (ix2 n e)) i.val :=
  sortedFrom_rounds (by decide) (fun e => X (ix2 n e)) hX (rounds fun e => X (ix2 n e))
    (fun i => choice (fun e => X (ix2 n e)) i) rfl (fun _ => rfl) (fun _ _ => first_spec _) i

theorem tops_eq (x : Fin 32 → EReal) (hx : ∀ e, x e ≠ ⊥) (i : Fin 4) : tops x i = x (choice x i.val) :=
  y_pick (k := 4) (by decide) x hx (rounds x) (fun i => choice x i) rfl (fun _ => rfl) (fun _ _ => first_spec _) i.val i.isLt

theorem tops_le (x : Fin 32 → EReal) (hx : ∀ e, x e ≠ ⊥) (i : Fin 4) : tops x i ≤ tops x 0 := by
  rw [tops_eq x hx i]
  exact (first_spec x (choice x i.val)).1

theorem tops_top (x : Fin 32 → EReal) (hx : ∀ e, x e ≠ ⊥) :
    Finset.univ.fold max (Ideal.ofBits .f32 0xFF800000#32) (tops x) = tops x 0 := by
  refine le_antisymm ?_ (le_fold_max _ _)
  rw [ninf]
  exact (Finset.fold_max_le _).mpr ⟨bot_le, fun i _ => tops_le x hx i⟩

theorem slice_at {α : Type} (Y : S65536x32.Idx → α) (n : Fin 65536) (i : Fin 4) :
    extractStridedSlice S65536x4 (fun _ => 0) Y sliceFits_S65536x32_S65536x4 (ix2 n i)
      = Y (ix2 n (i.castLE (by decide : 4 ≤ 32))) := by
  refine congrArg Y ?_
  funext a
  fin_cases a <;> exact Fin.ext (Nat.zero_add _)

theorem values_at (X : FVec Ideal S65536x32 .f32) (n : Fin 65536) (hX : ∀ e, X (ix2 n e) ≠ ⊥) (i : Fin 4) :
    (Host.topK S65536x4 1 (FloatOps.cmpfTotal .gt) X sliceFits_S65536x32_S65536x4).1 (ix2 n i)
      = tops (fun e => X (ix2 n e)) i := by
  rw [tops_eq _ hX, ← sorted_at X n hX, ← greater_eq X n (i.castLE (by decide : 4 ≤ 32))]
  unfold Host.topK Host.sort2
  dsimp only
  rw [slice_at, dif_pos (by decide : 1 < 2)]
  exact congrArg X (along2 n _ _)

theorem iota_at (n : Fin 65536) (e k : Fin 32) :
    iotaInDim S65536x32 32 1 ((ix2 n e : S65536x32.Idx).along 1 k) = BitVec.ofNat 32 k.val := by
  rw [along2]
  rfl

theorem iota_sorted (X : FVec Ideal S65536x32 .f32) :
    (Host.topK S65536x4 1 (FloatOps.cmpfTotal .gt) X sliceFits_S65536x32_S65536x4).2
      = extractStridedSlice S65536x4 (fun _ => 0) (fun j : S65536x32.Idx => iotaInDim S65536x32 32 1 (j.along 1
          (sortedFrom (fun k k' : Fin 32 => FloatOps.cmpfTotal (F := Ideal) (φ := .f32) .gt (X (j.along 1 k))
            (X (j.along 1 k')) == 1#1) (j 1)))) sliceFits_S65536x32_S65536x4 := by
  unfold Host.topK
  dsimp only
  refine congrArg (fun Y => extractStridedSlice S65536x4 (fun _ => 0) Y sliceFits_S65536x32_S65536x4) ?_
  unfold Host.sort2
  rw [dif_pos (by decide : 1 < 2)]
  dsimp only
  funext j
  rw [dif_pos (by decide : 1 < 2)]
  rfl

theorem indices_at (X : FVec Ideal S65536x32 .f32) (n : Fin 65536) (hX : ∀ e, X (ix2 n e) ≠ ⊥) (i : Fin 4) :
    (Host.topK S65536x4 1 (FloatOps.cmpfTotal .gt) X sliceFits_S65536x32_S65536x4).2 (ix2 n i)
      = BitVec.ofNat 32 (choice (fun e => X (ix2 n e)) i.val).val := by
  have hs := sorted_at X n hX i
  rw [← greater_eq X n (i.castLE (by decide : 4 ≤ 32))] at hs
  rw [← hs]
  rw [iota_sorted, slice_at]
  exact iota_at n _ _

/-- The weights of each token's four values, before they are normalised. -/
theorem expo_at (X : FVec Ideal S65536x4 .f32) (n : Fin 65536) (i : Fin 4) :
    Host.exp (subf X (broadcastInDim S65536x4 ![0, 1] bcast_S65536x1_S65536x4_0_1 (broadcastInDim S65536x1 ![0]
      bcast_S65536_S65536x1_0 (maximumf (broadcastInDim S65536 ![] bcast_S_S65536 (constant S_ .f32 0xFF800000#32))
        (Host.reduce FloatOps.maximumf X (constant S_ .f32 0xFF800000#32) reducesTo_S65536x4_S65536_d1 h_S_))))) (ix2 n i)
      = Ideal.exp (X (ix2 n i)
          - Finset.univ.fold max (Ideal.ofBits .f32 0xFF800000#32) fun j : Fin 4 => X (ix2 n j)) := by
  have hm := max4_at X n
  generalize Host.reduce FloatOps.maximumf X (constant S_ .f32 0xFF800000#32) reducesTo_S65536x4_S65536_d1 h_S_ = Y at hm ⊢
  pointwise
  rw [hm, ninf, max_eq_right bot_le]

/-- The gates by batch. -/
theorem gates_at (E : FVec Ideal S65536x4 .f32) (i : Fin 16) (k : Fin 4) (s : Fin 4096) :
    transpose S16x4x4096 [0, 2, 1] (shapeCast S16x4096x4 (Host.divf E (broadcastInDim S65536x4 ![0, 1]
      bcast_S65536x1_S65536x4_0_1 (broadcastInDim S65536x1 ![0] bcast_S65536_S65536x1_0
        (Host.reduceAdd E (constant S_ .f32 0x00000000#32) reducesTo_S65536x4_S65536_d1 h_S_))))
      shapeCasts_S65536x4_S16x4096x4) transposes_S16x4096x4_S16x4x4096_0_2_1 (ix3 i k s)
      = Ideal.div (E (ix2 (tok i s) k)) (∑ j : Fin 4, E (ix2 (tok i s) j)) := by
  pointwise

/-- The experts by batch. -/
theorem experts_at (E : IVec S65536x4 32) (i : Fin 16) (k : Fin 4) (s : Fin 4096) :
    transpose S16x4x4096 [0, 2, 1] (shapeCast S16x4096x4 E shapeCasts_S65536x4_S16x4096x4)
      transposes_S16x4096x4_S16x4x4096_0_2_1 (ix3 i k s) = E (ix2 (tok i s) k) := by
  pointwise

end Cert.RefRow

end
-- ==== Proof.Meet.lean ====
/- The reference's results are the kernel's arrays where every argument is real. -/
module

public import proofs.«01_k».proof.Proof.RefRow
public import proofs.«01_k».proof.Proof.RefNorm
public import proofs.«01_k».proof.Proof.RefTop

@[expose] public section

set_option maxRecDepth 16384

noncomputable section

namespace Cert.RefRow

open Idealize.ShloMosaic Idealize.ShloMosaic.TcCoe Idealize.SL.Sem Cert.Reals
open Cert.ReferenceIdeal Cert.ReferenceIdeal.Gen Cert.ReferenceIdeal.Value Cert.Row Cert.Arrays Cert.Block Cert.Pick

variable (V0 : Valuation τ sig (Elt Ideal))

/-- The reference's normed row of token `n`. -/
abbrev yR (n : Fin 65536) : Fin 1024 → EReal :=
  normed (b0 V0) (b3 V0) (b4 V0) (b5 V0) (attR (b0 V0) (b1 V0) (b2 V0) n) n

theorem norm_row (i : Fin 16) (s : Fin 4096) (x : Fin 1024) :
    hostNorm (res_main_v28 V0) (res_main_v32 V0) (res_main_v34 V0) (b4 V0) (b5 V0) (ix3 i s x) = yR V0 (tok i s) x := by
  have hM : res_main_v32 V0 (ix3 i s 0) = mean (resid (tokens (b0 V0) (tok i s)) (fun x c => b3 V0 (ix2 x c))
      (attR (b0 V0) (b1 V0) (b2 V0) (tok i s))) :=
    (mean_at (res_main_v28 V0) i s).trans (congrArg mean (funext fun x => v28_at V0 i s x))
  refine hostNorm_at (res_main_v28 V0) (res_main_v32 V0) (res_main_v34 V0) (b4 V0) (b5 V0) i s _
    (fun x => v28_at V0 i s x) hM (fun x => ?_) x
  refine (centred_at (res_main_v28 V0) (res_main_v32 V0) i s x).trans ?_
  rw [hM, v28_at]

theorem rows_at (n : Fin 65536) (x : Fin 1024) :
    shapeCast S65536x1024 (hostNorm (res_main_v28 V0) (res_main_v32 V0) (res_main_v34 V0) (b4 V0) (b5 V0))
      shapeCasts_S16x4096x1024_S65536x1024 (ix2 n x) = yR V0 n x := by
  rw [flat_at, norm_row]
  have h : tok ⟨n.val / 4096, by have := n.isLt; omega⟩ ⟨n.val % 4096, by omega⟩ = n := Fin.ext (by
    show n.val / 4096 * 4096 + n.val % 4096 = n.val
    omega)
  rw [h]

theorem v57_at (n : Fin 65536) (e : Fin 32) : res_main_v57 V0 (ix2 n e) = logits (b6 V0) (b7 V0) (yR V0 n) e := by
  refine (hostLogits_at (shapeCast S65536x1024 (hostNorm (res_main_v28 V0) (res_main_v32 V0) (res_main_v34 V0) (b4 V0) (b5 V0))
      shapeCasts_S16x4096x1024_S65536x1024) (b6 V0) (b7 V0) n e).trans ?_
  exact congrArg (fun y => logits (b6 V0) (b7 V0) y e) (funext fun x => rows_at V0 n x)

section real

variable (h0 : ∀ i, IsR (b0 V0 i)) (h1 : ∀ i, IsR (b1 V0 i)) (h2 : ∀ i, IsR (b2 V0 i)) (h3 : ∀ i, IsR (b3 V0 i))
  (h4 : ∀ i, IsR (b4 V0 i)) (h5 : ∀ i, IsR (b5 V0 i)) (h6 : ∀ i, IsR (b6 V0 i)) (h7 : ∀ i, IsR (b7 V0 i))

include h0 h1 h2 in
theorem yR_eq (n : Fin 65536) : yR V0 n = yK (b0 V0) (b1 V0) (b2 V0) (b3 V0) (b4 V0) (b5 V0) n := by
  have h : attK (b0 V0) (b1 V0) (b2 V0) n = attR (b0 V0) (b1 V0) (b2 V0) n :=
    out_eq (fun _ => h0 _) (fun _ _ => h2 _) (fun _ _ => h1 _) fun _ _ => h1 _
  unfold yR yK
  rw [h]

include h0 h1 h2 h3 h4 h5 h6 h7 in
theorem v57_ne (n : Fin 65536) (e : Fin 32) : res_main_v57 V0 (ix2 n e) ≠ (⊥ : EReal) := by
  rw [v57_at]
  refine (logit_isR (fun x => ?_) (fun _ _ => h6 _) (fun _ => h7 _) e).ne_bot
  refine norm_isR (fun x => ?_) (fun _ => h4 _) (fun _ => h5 _) x
  exact resid_isR (fun _ => h0 _)
    (fun x => outR_isR (fun _ => h0 _) (fun _ _ => h2 _) (fun _ _ => h1 _) (fun _ _ => h1 _) x) (fun _ _ => h3 _) x

include h0 h1 h2 in
theorem row57 (n : Fin 65536) : (fun e => res_main_v57 V0 (ix2 n e))
    = logits (b6 V0) (b7 V0) (yK (b0 V0) (b1 V0) (b2 V0) (b3 V0) (b4 V0) (b5 V0) n) := by
  rw [← yR_eq V0 h0 h1 h2]
  exact funext fun e => v57_at V0 n e

include h0 h1 h2 in
theorem result8 : shapeCast S65536x1024 (hostNorm (res_main_v28 V0) (res_main_v32 V0) (res_main_v34 V0) (b4 V0) (b5 V0))
      shapeCasts_S16x4096x1024_S65536x1024 = G8 (b0 V0) (b1 V0) (b2 V0) (b3 V0) (b4 V0) (b5 V0) := by
  funext j
  idx_vars j
  rw [rows_at, yR_eq V0 h0 h1 h2]
  rfl

include h0 h1 h2 h3 h4 h5 h6 h7 in
theorem result9 : transpose S16x4x4096 [0, 2, 1] (shapeCast S16x4096x4 ((Host.topK S65536x4 1 (FloatOps.cmpfTotal (F := Ideal) (φ := .f32) .gt)
      (res_main_v57 V0 : FVec Ideal S65536x32 .f32) sliceFits_S65536x32_S65536x4).2) shapeCasts_S65536x4_S16x4096x4) transposes_S16x4096x4_S16x4x4096_0_2_1
    = G9 (b0 V0) (b1 V0) (b2 V0) (b3 V0) (b4 V0) (b5 V0) (b6 V0) (b7 V0) := by
  funext j
  idx_vars j
  refine (experts_at _ j0 j1 j2).trans ?_
  refine (indices_at (res_main_v57 V0) (tok j0 j2) (v57_ne V0 h0 h1 h2 h3 h4 h5 h6 h7 _) j1).trans ?_
  rw [row57 V0 h0 h1 h2]
  rfl

include h0 h1 h2 h3 h4 h5 h6 h7 in
theorem v64_at (n : Fin 65536) (i : Fin 4) : res_main_v64 V0 (ix2 n i)
    = Ideal.exp (tops (logits (b6 V0) (b7 V0) (yK (b0 V0) (b1 V0) (b2 V0) (b3 V0) (b4 V0) (b5 V0) n)) i
        - tops (logits (b6 V0) (b7 V0) (yK (b0 V0) (b1 V0) (b2 V0) (b3 V0) (b4 V0) (b5 V0) n)) 0) := by
  have hn := v57_ne V0 h0 h1 h2 h3 h4 h5 h6 h7 n
  have hv : ∀ i, res_main_values V0 (ix2 n i) = tops (fun e => res_main_v57 V0 (ix2 n e)) i :=
    fun i => values_at (res_main_v57 V0) n hn i
  refine (expo_at (res_main_values V0) n i).trans ?_
  have hf : (fun j : Fin 4 => res_main_values V0 (ix2 n j)) = tops (fun e => res_main_v57 V0 (ix2 n e)) := funext hv
  rw [hv, hf, tops_top _ hn, row57 V0 h0 h1 h2]

include h0 h1 h2 h3 h4 h5 h6 h7 in
theorem result10 : transpose S16x4x4096 [0, 2, 1] (shapeCast S16x4096x4 (Host.divf (F := Ideal) (φ := .f32) (res_main_v64 V0 : FVec Ideal S65536x4 .f32)
      (broadcastInDim S65536x4 ![0, 1] bcast_S65536x1_S65536x4_0_1 (broadcastInDim S65536x1 ![0] bcast_S65536_S65536x1_0
        (Host.reduceAdd (F := Ideal) (φ := .f32) (res_main_v64 V0 : FVec Ideal S65536x4 .f32) (constant S_ .f32 0x00000000#32) reducesTo_S65536x4_S65536_d1 h_S_))))
      shapeCasts_S65536x4_S16x4096x4) transposes_S16x4096x4_S16x4x4096_0_2_1
    = G10 (b0 V0) (b1 V0) (b2 V0) (b3 V0) (b4 V0) (b5 V0) (b6 V0) (b7 V0) := by
  funext j
  idx_vars j
  refine (gates_at (res_main_v64 V0) j0 j1 j2).trans ?_
  simp only [v64_at V0 h0 h1 h2 h3 h4 h5 h6 h7]
  rfl

end real

end Cert.RefRow

end
-- ==== Proof.FfnRun.lean ====
module

public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The prefetched tables and the two scratch buffers, whole. -/
abbrev tbl0 : Memref sig .tc .smem S544 .i32 := Memref.whole main_arg1
abbrev tbl1 : Memref sig .tc .smem S1 .i32 := Memref.whole main_arg2
abbrev scr0 : Memref sig .tc .vmem S1024x2048 .bf16 := Memref.whole cc0_scratch0
abbrev scr1 : Memref sig .tc .vmem S1024x1024 .bf16 := Memref.whole cc0_scratch1

/-- The words the body reads: the block's expert, the expert of the block before it, the number of blocks in use. -/
abbrev rdE (T0 : S544.Idx → Elt F .i32) (i : grid0.Coords) : Elt F .i32 :=
  View.readAt (Elt F) tbl0.view (Rect.unit (s := S544) (k0_off1 i) S1.size (k0_off1_inb i)).toLoadRect T0 (Shape.Idx.first (numel1_S1.symm ▸ Nat.one_pos))
abbrev rdP (T0 : S544.Idx → Elt F .i32) (i : grid0.Coords) : Elt F .i32 :=
  View.readAt (Elt F) tbl0.view (Rect.unit (s := S544) (k0_off2 i) S1.size (k0_off2_inb i)).toLoadRect T0 (Shape.Idx.first (numel1_S1.symm ▸ Nat.one_pos))
abbrev rdN (T1 : S1.Idx → Elt F .i32) : Elt F .i32 :=
  View.readAt (Elt F) tbl1.view (Rect.unit (s := S1) ![0] S1.size inb_S1_S1_0).toLoadRect T1 (Shape.Idx.first (numel1_S1.symm ▸ Nat.one_pos))

/-- Whether the body copies the expert's weights into the scratch buffers at coordinates `i`. -/
abbrev Reload (T0 : S544.Idx → Elt F .i32) (i : grid0.Coords) : Prop :=
  Scalar.cmpi .ne (Scalar.extui (Scalar.ori (Scalar.cmpi .eq (BitVec.ofNat 32 (i 0).val) 0#32) (Scalar.cmpi .ne (rdE T0 i) (rdP T0 i)))) 0#32 = 1#1

set_option backward.proofsInPublic true in
set_option maxHeartbeats 8000000 in
/-- The body where it copies the weights and the block is in use. -/
noncomputable def runRA (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .f32) (harg8 : arg8.IsWhole)
    (T0 : S544.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (a0 : S1024x2048.Idx → Elt F .bf16) (a1 : S1024x1024.Idx → Elt F .bf16)
    (hc0 : Reload T0 i) (k0_h2 : k0_cond2 i (rdN T1) = 1#1) (k0_h3 : ¬k0_cond3 i (rdN T1) = 1#1) :
    Σ' (out0 : List (View.Piece (Elt F) S512x1024 .f32)) (out1 : Buf (Elt F) ((c : Thread nD τ).loc cc0_scratch0)), { out2 : Buf (Elt F) ((c : Thread nD τ).loc cc0_scratch1) //
      ∀ K : PUnit → sProp 𝕄,
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbl0.view.loc (c : Thread nD τ) ↦{fullShare.right} T0)
          ∗ (tbl1.view.loc (c : Thread nD τ) ↦{fullShare.right} T1)
          ∗ (∃ d, owns (c : Thread nD τ) arg8 fullShare d)
          ∗ (scr0.view.loc (c : Thread nD τ) ↦{fullShare} a0)
          ∗ (scr1.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbl0.view.loc (c : Thread nD τ) ↦{fullShare.right} T0)
              ∗ (tbl1.view.loc (c : Thread nD τ) ↦{fullShare.right} T1)
              ∗ (∃ f, arg8.view.loc (c : Thread nD τ) ↦[arg8.view.set]{fullShare} arg8.view.writes (Elt F) f out0)
              ∗ (scr0.view.loc (c : Thread nD τ) ↦{fullShare} out1)
              ∗ (scr1.view.loc (c : Thread nD τ) ↦{fullShare} out2)) -∗ K ⟨⟩))
          ⊢ wp frame (wpE (defs₀ (F := F)) Variants.none c none) Set.univ (cc0_expert_ffn i tbl0 (Memref.isWhole_whole _) tbl1 (Memref.isWhole_whole _) arg3 harg3 arg4 harg4 arg5 harg5 arg6 harg6 arg7 harg7 arg8 harg8 scr0 (Memref.isWhole_whole _) scr1 (Memref.isWhole_whole _)) K } :=
  ⟨_, _, _, fun K => by
    unfold owns
    rw [cc0_expert_ffn_eq_skeleton]; unfold cc0_expert_ffn_skel
    iintro ⟨H0, H1, H2, H3, H4, HT0, HT1, ⟨%d5, %f5, -, HO5⟩, HS0, HS1, Hk⟩
    have hS0 : scr0.IsWhole := Memref.isWhole_whole _
    have hS1 : scr1.IsWhole := Memref.isWhole_whole _
    have hT0 : tbl0.IsWhole := Memref.isWhole_whole _
    have hT1 : tbl1.IsWhole := Memref.isWhole_whole _
    sl_exec! (disch := first | (guard_target = Scalar.cmpi = _; exact hc0) | (guard_target = k0_cond2 _ _ = _; exact k0_h2) | (guard_target = ¬(k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

set_option backward.proofsInPublic true in
set_option maxHeartbeats 8000000 in
/-- The body where it keeps the weights and the block is in use. -/
noncomputable def runKA (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .f32) (harg8 : arg8.IsWhole)
    (T0 : S544.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (a0 : S1024x2048.Idx → Elt F .bf16) (a1 : S1024x1024.Idx → Elt F .bf16)
    (hc0 : ¬Reload T0 i) (k0_h2 : k0_cond2 i (rdN T1) = 1#1) (k0_h3 : ¬k0_cond3 i (rdN T1) = 1#1) :
    Σ' (out0 : List (View.Piece (Elt F) S512x1024 .f32)) (out1 : Buf (Elt F) ((c : Thread nD τ).loc cc0_scratch0)), { out2 : Buf (Elt F) ((c : Thread nD τ).loc cc0_scratch1) //
      ∀ K : PUnit → sProp 𝕄,
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbl0.view.loc (c : Thread nD τ) ↦{fullShare.right} T0)
          ∗ (tbl1.view.loc (c : Thread nD τ) ↦{fullShare.right} T1)
          ∗ (∃ d, owns (c : Thread nD τ) arg8 fullShare d)
          ∗ (scr0.view.loc (c : Thread nD τ) ↦{fullShare} a0)
          ∗ (scr1.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbl0.view.loc (c : Thread nD τ) ↦{fullShare.right} T0)
              ∗ (tbl1.view.loc (c : Thread nD τ) ↦{fullShare.right} T1)
              ∗ (∃ f, arg8.view.loc (c : Thread nD τ) ↦[arg8.view.set]{fullShare} arg8.view.writes (Elt F) f out0)
              ∗ (scr0.view.loc (c : Thread nD τ) ↦{fullShare} out1)
              ∗ (scr1.view.loc (c : Thread nD τ) ↦{fullShare} out2)) -∗ K ⟨⟩))
          ⊢ wp frame (wpE (defs₀ (F := F)) Variants.none c none) Set.univ (cc0_expert_ffn i tbl0 (Memref.isWhole_whole _) tbl1 (Memref.isWhole_whole _) arg3 harg3 arg4 harg4 arg5 harg5 arg6 harg6 arg7 harg7 arg8 harg8 scr0 (Memref.isWhole_whole _) scr1 (Memref.isWhole_whole _)) K } :=
  ⟨_, _, _, fun K => by
    unfold owns
    rw [cc0_expert_ffn_eq_skeleton]; unfold cc0_expert_ffn_skel
    iintro ⟨H0, H1, H2, H3, H4, HT0, HT1, ⟨%d5, %f5, -, HO5⟩, HS0, HS1, Hk⟩
    have hS0 : scr0.IsWhole := Memref.isWhole_whole _
    have hS1 : scr1.IsWhole := Memref.isWhole_whole _
    have hT0 : tbl0.IsWhole := Memref.isWhole_whole _
    have hT1 : tbl1.IsWhole := Memref.isWhole_whole _
    sl_exec! (disch := first | (guard_target = ¬(Scalar.cmpi = _); exact hc0) | (guard_target = k0_cond2 _ _ = _; exact k0_h2) | (guard_target = ¬(k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

set_option backward.proofsInPublic true in
set_option maxHeartbeats 8000000 in
/-- The body where it copies the weights and the block is not in use. -/
noncomputable def runRZ (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .f32) (harg8 : arg8.IsWhole)
    (T0 : S544.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (a0 : S1024x2048.Idx → Elt F .bf16) (a1 : S1024x1024.Idx → Elt F .bf16)
    (hc0 : Reload T0 i) (k0_h2 : ¬k0_cond2 i (rdN T1) = 1#1) (k0_h3 : k0_cond3 i (rdN T1) = 1#1) :
    Σ' (out0 : List (View.Piece (Elt F) S512x1024 .f32)) (out1 : Buf (Elt F) ((c : Thread nD τ).loc cc0_scratch0)), { out2 : Buf (Elt F) ((c : Thread nD τ).loc cc0_scratch1) //
      ∀ K : PUnit → sProp 𝕄,
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbl0.view.loc (c : Thread nD τ) ↦{fullShare.right} T0)
          ∗ (tbl1.view.loc (c : Thread nD τ) ↦{fullShare.right} T1)
          ∗ (∃ d, owns (c : Thread nD τ) arg8 fullShare d)
          ∗ (scr0.view.loc (c : Thread nD τ) ↦{fullShare} a0)
          ∗ (scr1.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbl0.view.loc (c : Thread nD τ) ↦{fullShare.right} T0)
              ∗ (tbl1.view.loc (c : Thread nD τ) ↦{fullShare.right} T1)
              ∗ (∃ f, arg8.view.loc (c : Thread nD τ) ↦[arg8.view.set]{fullShare} arg8.view.writes (Elt F) f out0)
              ∗ (scr0.view.loc (c : Thread nD τ) ↦{fullShare} out1)
              ∗ (scr1.view.loc (c : Thread nD τ) ↦{fullShare} out2)) -∗ K ⟨⟩))
          ⊢ wp frame (wpE (defs₀ (F := F)) Variants.none c none) Set.univ (cc0_expert_ffn i tbl0 (Memref.isWhole_whole _) tbl1 (Memref.isWhole_whole _) arg3 harg3 arg4 harg4 arg5 harg5 arg6 harg6 arg7 harg7 arg8 harg8 scr0 (Memref.isWhole_whole _) scr1 (Memref.isWhole_whole _)) K } :=
  ⟨_, _, _, fun K => by
    unfold owns
    rw [cc0_expert_ffn_eq_skeleton]; unfold cc0_expert_ffn_skel
    iintro ⟨H0, H1, H2, H3, H4, HT0, HT1, ⟨%d5, %f5, -, HO5⟩, HS0, HS1, Hk⟩
    have hS0 : scr0.IsWhole := Memref.isWhole_whole _
    have hS1 : scr1.IsWhole := Memref.isWhole_whole _
    have hT0 : tbl0.IsWhole := Memref.isWhole_whole _
    have hT1 : tbl1.IsWhole := Memref.isWhole_whole _
    sl_exec! (disch := first | (guard_target = Scalar.cmpi = _; exact hc0) | (guard_target = ¬(k0_cond2 _ _ = _); exact k0_h2) | (guard_target = k0_cond3 _ _ = _; exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

set_option backward.proofsInPublic true in
set_option maxHeartbeats 8000000 in
/-- The body where it keeps the weights and the block is not in use. -/
noncomputable def runKZ (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .f32) (harg8 : arg8.IsWhole)
    (T0 : S544.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (a0 : S1024x2048.Idx → Elt F .bf16) (a1 : S1024x1024.Idx → Elt F .bf16)
    (hc0 : ¬Reload T0 i) (k0_h2 : ¬k0_cond2 i (rdN T1) = 1#1) (k0_h3 : k0_cond3 i (rdN T1) = 1#1) :
    Σ' (out0 : List (View.Piece (Elt F) S512x1024 .f32)) (out1 : Buf (Elt F) ((c : Thread nD τ).loc cc0_scratch0)), { out2 : Buf (Elt F) ((c : Thread nD τ).loc cc0_scratch1) //
      ∀ K : PUnit → sProp 𝕄,
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbl0.view.loc (c : Thread nD τ) ↦{fullShare.right} T0)
          ∗ (tbl1.view.loc (c : Thread nD τ) ↦{fullShare.right} T1)
          ∗ (∃ d, owns (c : Thread nD τ) arg8 fullShare d)
          ∗ (scr0.view.loc (c : Thread nD τ) ↦{fullShare} a0)
          ∗ (scr1.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbl0.view.loc (c : Thread nD τ) ↦{fullShare.right} T0)
              ∗ (tbl1.view.loc (c : Thread nD τ) ↦{fullShare.right} T1)
              ∗ (∃ f, arg8.view.loc (c : Thread nD τ) ↦[arg8.view.set]{fullShare} arg8.view.writes (Elt F) f out0)
              ∗ (scr0.view.loc (c : Thread nD τ) ↦{fullShare} out1)
              ∗ (scr1.view.loc (c : Thread nD τ) ↦{fullShare} out2)) -∗ K ⟨⟩))
          ⊢ wp frame (wpE (defs₀ (F := F)) Variants.none c none) Set.univ (cc0_expert_ffn i tbl0 (Memref.isWhole_whole _) tbl1 (Memref.isWhole_whole _) arg3 harg3 arg4 harg4 arg5 harg5 arg6 harg6 arg7 harg7 arg8 harg8 scr0 (Memref.isWhole_whole _) scr1 (Memref.isWhole_whole _)) K } :=
  ⟨_, _, _, fun K => by
    unfold owns
    rw [cc0_expert_ffn_eq_skeleton]; unfold cc0_expert_ffn_skel
    iintro ⟨H0, H1, H2, H3, H4, HT0, HT1, ⟨%d5, %f5, -, HO5⟩, HS0, HS1, Hk⟩
    have hS0 : scr0.IsWhole := Memref.isWhole_whole _
    have hS1 : scr1.IsWhole := Memref.isWhole_whole _
    have hT0 : tbl0.IsWhole := Memref.isWhole_whole _
    have hT1 : tbl1.IsWhole := Memref.isWhole_whole _
    sl_exec! (disch := first | (guard_target = ¬(Scalar.cmpi = _); exact hc0) | (guard_target = ¬(k0_cond2 _ _ = _); exact k0_h2) | (guard_target = k0_cond3 _ _ = _; exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

end Cert.Kernel2Ideal.Ffn

end

end
-- ==== Proof.FfnOut.lean ====
module

public import proofs.«01_k».proof.Proof.FfnRun
public import Idealize.ShloMosaic.Lib.VecWindow

@[expose] public section

set_option maxRecDepth 16384

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The four windows the body loads from the weights' and the bias's buffers. -/
abbrev winL (w : S1024x2048.Idx → Elt F .bf16) : S1024x1024.Idx → Elt F .bf16 :=
  VecWindow.window w ![0, 0] ![1024, 1024] inb_S1024x2048_S1024x1024_0_0
abbrev winR (w : S1024x2048.Idx → Elt F .bf16) : S1024x1024.Idx → Elt F .bf16 :=
  VecWindow.window w ![0, 1024] ![1024, 1024] inb_S1024x2048_S1024x1024_0_1024
abbrev winBL (b : S1x1x2048.Idx → Elt F .f32) : S1x1x1024.Idx → Elt F .f32 :=
  VecWindow.window b ![0, 0, 0] ![1, 1, 1024] inb_S1x1x2048_S1x1x1024_0_0_0
abbrev winBR (b : S1x1x2048.Idx → Elt F .f32) : S1x1x1024.Idx → Elt F .f32 :=
  VecWindow.window b ![0, 0, 1024] ![1, 1, 1024] inb_S1x1x2048_S1x1x1024_0_0_1024

/-- What the body stores of a block in use: from the block's rows, the two weight matrices and the two biases. -/
def actOut (x0 : S512x1024.Idx → Elt F .f32) (w1 : S1024x2048.Idx → Elt F .bf16) (b1 : S1x1x2048.Idx → Elt F .f32)
    (w2 : S1024x1024.Idx → Elt F .bf16) (b2 : S1x1x1024.Idx → Elt F .f32) : S512x1024.Idx → Elt F .f32 :=
  k0_pay3 (k0_pay5 x0 (winL w1) (winBL b1) (winR w1) (winBR b1)) w2 (constant S512x1024 .f32 0x00000000#32) b2

theorem actOut_of {v19 x0 : S512x1024.Idx → Elt F .f32} {v21 v29 : S1024x1024.Idx → Elt F .bf16} {v23 v31 : S1x1x1024.Idx → Elt F .f32}
    {w1 : S1024x2048.Idx → Elt F .bf16} {b1 : S1x1x2048.Idx → Elt F .f32} {v53 w2 : S1024x1024.Idx → Elt F .bf16} {v55 b2 : S1x1x1024.Idx → Elt F .f32}
    (h0 : v19 = x0) (h1 : v21 = winL w1) (h2 : v23 = winBL b1) (h3 : v29 = winR w1) (h4 : v31 = winBR b1) (h5 : v53 = w2) (h6 : v55 = b2) :
    k0_pay3 (k0_pay5 v19 v21 v23 v29 v31) v53 (constant S512x1024 .f32 0x00000000#32) v55 = actOut x0 w1 b1 w2 b2 := by
  subst h0 h1 h2 h3 h4 h5 h6; rfl

/-- Reading the whole of a whole buffer gives its contents. -/
theorem read_scr0 (a : S1024x2048.Idx → Elt F .bf16) : View.read (Elt F) scr0.view a = a := rfl
theorem read_scr1 (a : S1024x1024.Idx → Elt F .bf16) : View.read (Elt F) scr1.view a = a := rfl

theorem runRA_out (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .f32) (harg8 : arg8.IsWhole)
    (T0 : S544.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (a0 : S1024x2048.Idx → Elt F .bf16) (a1 : S1024x1024.Idx → Elt F .bf16)
    (hc0 : Reload T0 i) (k0_h2 : k0_cond2 i (rdN T1) = 1#1) (k0_h3 : ¬k0_cond3 i (rdN T1) = 1#1) (f : arg8.view.ty.Contents (Elt F)) :
    arg8.view.read (Elt F) (arg8.view.writes (Elt F) f (runRA c i arg3 harg3 arg4 harg4 arg5 harg5 arg6 harg6 arg7 harg7 arg8 harg8 T0 T1 x0 x1 x2 x3 x4 a0 a1 hc0 k0_h2 k0_h3).1) = actOut x0 (k0_pay1 x1) x2 (k0_pay2 x3) x4 := by
  refine (View.read_writes_full _ _ inb_S512x1024_S512x1024_0_0 _ []).trans ?_
  unfold runRA.sl.r_3 runRA.sl.v53 runRA.sl.cst_27 runRA.sl.v21 runRA.sl.v29 runRA.sl.HS0_1 runRA.sl.HS1_1
  refine actOut_of (View.readAt_rep_full _ _ _) ?_ (View.readAt_rep_unit _ _ _ rfl _) ?_ (View.readAt_rep_unit _ _ _ rfl _) ?_ (View.readAt_rep_full _ _ _)
  · refine (View.readAt_unit _ _ _ rfl _).trans (congrArg winL ?_)
    exact (View.read_writes_full _ _ _ _ []).trans (congrArg k0_pay1 (View.readAt_rep_full _ _ _))
  · refine (View.readAt_unit _ _ _ rfl _).trans (congrArg winR ?_)
    exact (View.read_writes_full _ _ _ _ []).trans (congrArg k0_pay1 (View.readAt_rep_full _ _ _))
  · exact (View.readCov_full _ _ _ _ []).trans (congrArg k0_pay2 (View.readAt_rep_full _ _ _))

theorem runRA_s0 (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .f32) (harg8 : arg8.IsWhole)
    (T0 : S544.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (a0 : S1024x2048.Idx → Elt F .bf16) (a1 : S1024x1024.Idx → Elt F .bf16)
    (hc0 : Reload T0 i) (k0_h2 : k0_cond2 i (rdN T1) = 1#1) (k0_h3 : ¬k0_cond3 i (rdN T1) = 1#1) :
    (runRA c i arg3 harg3 arg4 harg4 arg5 harg5 arg6 harg6 arg7 harg7 arg8 harg8 T0 T1 x0 x1 x2 x3 x4 a0 a1 hc0 k0_h2 k0_h3).2.1 = (k0_pay1 x1) := by
  unfold runRA
  dsimp only
  unfold runRA.sl.HS0_1
  refine (read_scr0 (F := F) _).symm.trans ?_
  refine (View.read_writes_full (scr0 : Memref sig .tc .vmem S1024x2048 .bf16).view _ inb_S1024x2048_S1024x2048_0_0 _ []).trans ?_
  exact congrArg k0_pay1 (View.readAt_rep_full _ _ _)

theorem runRA_s1 (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .f32) (harg8 : arg8.IsWhole)
    (T0 : S544.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (a0 : S1024x2048.Idx → Elt F .bf16) (a1 : S1024x1024.Idx → Elt F .bf16)
    (hc0 : Reload T0 i) (k0_h2 : k0_cond2 i (rdN T1) = 1#1) (k0_h3 : ¬k0_cond3 i (rdN T1) = 1#1) :
    (runRA c i arg3 harg3 arg4 harg4 arg5 harg5 arg6 harg6 arg7 harg7 arg8 harg8 T0 T1 x0 x1 x2 x3 x4 a0 a1 hc0 k0_h2 k0_h3).2.2.1 = (k0_pay2 x3) := by
  unfold runRA
  dsimp only
  unfold runRA.sl.HS1_1
  refine (read_scr1 (F := F) _).symm.trans ?_
  refine (View.read_writes_full (scr1 : Memref sig .tc .vmem S1024x1024 .bf16).view _ inb_S1024x1024_S1024x1024_0_0 _ []).trans ?_
  exact congrArg k0_pay2 (View.readAt_rep_full _ _ _)

theorem runKA_out (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .f32) (harg8 : arg8.IsWhole)
    (T0 : S544.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (a0 : S1024x2048.Idx → Elt F .bf16) (a1 : S1024x1024.Idx → Elt F .bf16)
    (hc0 : ¬Reload T0 i) (k0_h2 : k0_cond2 i (rdN T1) = 1#1) (k0_h3 : ¬k0_cond3 i (rdN T1) = 1#1) (f : arg8.view.ty.Contents (Elt F)) :
    arg8.view.read (Elt F) (arg8.view.writes (Elt F) f (runKA c i arg3 harg3 arg4 harg4 arg5 harg5 arg6 harg6 arg7 harg7 arg8 harg8 T0 T1 x0 x1 x2 x3 x4 a0 a1 hc0 k0_h2 k0_h3).1) = actOut x0 a0 x2 a1 x4 := by
  refine (View.read_writes_full _ _ inb_S512x1024_S512x1024_0_0 _ []).trans ?_
  unfold runKA.sl.r_3 runKA.sl.r_4 runKA.sl.cst_27
  exact actOut_of (View.readAt_rep_full _ _ _) (View.readAt_unit _ _ _ rfl _) (View.readAt_rep_unit _ _ _ rfl _)
    (View.readAt_unit _ _ _ rfl _) (View.readAt_rep_unit _ _ _ rfl _) (View.readAt_full _ _ _) (View.readAt_rep_full _ _ _)

theorem runKA_s0 (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .f32) (harg8 : arg8.IsWhole)
    (T0 : S544.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (a0 : S1024x2048.Idx → Elt F .bf16) (a1 : S1024x1024.Idx → Elt F .bf16)
    (hc0 : ¬Reload T0 i) (k0_h2 : k0_cond2 i (rdN T1) = 1#1) (k0_h3 : ¬k0_cond3 i (rdN T1) = 1#1) :
    (runKA c i arg3 harg3 arg4 harg4 arg5 harg5 arg6 harg6 arg7 harg7 arg8 harg8 T0 T1 x0 x1 x2 x3 x4 a0 a1 hc0 k0_h2 k0_h3).2.1 = a0 := by
  rfl

theorem runKA_s1 (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .f32) (harg8 : arg8.IsWhole)
    (T0 : S544.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (a0 : S1024x2048.Idx → Elt F .bf16) (a1 : S1024x1024.Idx → Elt F .bf16)
    (hc0 : ¬Reload T0 i) (k0_h2 : k0_cond2 i (rdN T1) = 1#1) (k0_h3 : ¬k0_cond3 i (rdN T1) = 1#1) :
    (runKA c i arg3 harg3 arg4 harg4 arg5 harg5 arg6 harg6 arg7 harg7 arg8 harg8 T0 T1 x0 x1 x2 x3 x4 a0 a1 hc0 k0_h2 k0_h3).2.2.1 = a1 := by
  rfl

theorem runRZ_out (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .f32) (harg8 : arg8.IsWhole)
    (T0 : S544.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (a0 : S1024x2048.Idx → Elt F .bf16) (a1 : S1024x1024.Idx → Elt F .bf16)
    (hc0 : Reload T0 i) (k0_h2 : ¬k0_cond2 i (rdN T1) = 1#1) (k0_h3 : k0_cond3 i (rdN T1) = 1#1) (f : arg8.view.ty.Contents (Elt F)) :
    arg8.view.read (Elt F) (arg8.view.writes (Elt F) f (runRZ c i arg3 harg3 arg4 harg4 arg5 harg5 arg6 harg6 arg7 harg7 arg8 harg8 T0 T1 x0 x1 x2 x3 x4 a0 a1 hc0 k0_h2 k0_h3).1) = k0_pay4 := by
  exact View.read_writes_full _ _ inb_S512x1024_S512x1024_0_0 _ []

theorem runRZ_s0 (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .f32) (harg8 : arg8.IsWhole)
    (T0 : S544.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (a0 : S1024x2048.Idx → Elt F .bf16) (a1 : S1024x1024.Idx → Elt F .bf16)
    (hc0 : Reload T0 i) (k0_h2 : ¬k0_cond2 i (rdN T1) = 1#1) (k0_h3 : k0_cond3 i (rdN T1) = 1#1) :
    (runRZ c i arg3 harg3 arg4 harg4 arg5 harg5 arg6 harg6 arg7 harg7 arg8 harg8 T0 T1 x0 x1 x2 x3 x4 a0 a1 hc0 k0_h2 k0_h3).2.1 = (k0_pay1 x1) := by
  unfold runRZ
  dsimp only
  unfold runRZ.sl.HS0_1
  refine (read_scr0 (F := F) _).symm.trans ?_
  refine (View.read_writes_full (scr0 : Memref sig .tc .vmem S1024x2048 .bf16).view _ inb_S1024x2048_S1024x2048_0_0 _ []).trans ?_
  exact congrArg k0_pay1 (View.readAt_rep_full _ _ _)

theorem runRZ_s1 (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .f32) (harg8 : arg8.IsWhole)
    (T0 : S544.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (a0 : S1024x2048.Idx → Elt F .bf16) (a1 : S1024x1024.Idx → Elt F .bf16)
    (hc0 : Reload T0 i) (k0_h2 : ¬k0_cond2 i (rdN T1) = 1#1) (k0_h3 : k0_cond3 i (rdN T1) = 1#1) :
    (runRZ c i arg3 harg3 arg4 harg4 arg5 harg5 arg6 harg6 arg7 harg7 arg8 harg8 T0 T1 x0 x1 x2 x3 x4 a0 a1 hc0 k0_h2 k0_h3).2.2.1 = (k0_pay2 x3) := by
  unfold runRZ
  dsimp only
  unfold runRZ.sl.HS1_1
  refine (read_scr1 (F := F) _).symm.trans ?_
  refine (View.read_writes_full (scr1 : Memref sig .tc .vmem S1024x1024 .bf16).view _ inb_S1024x1024_S1024x1024_0_0 _ []).trans ?_
  exact congrArg k0_pay2 (View.readAt_rep_full _ _ _)

theorem runKZ_out (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .f32) (harg8 : arg8.IsWhole)
    (T0 : S544.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (a0 : S1024x2048.Idx → Elt F .bf16) (a1 : S1024x1024.Idx → Elt F .bf16)
    (hc0 : ¬Reload T0 i) (k0_h2 : ¬k0_cond2 i (rdN T1) = 1#1) (k0_h3 : k0_cond3 i (rdN T1) = 1#1) (f : arg8.view.ty.Contents (Elt F)) :
    arg8.view.read (Elt F) (arg8.view.writes (Elt F) f (runKZ c i arg3 harg3 arg4 harg4 arg5 harg5 arg6 harg6 arg7 harg7 arg8 harg8 T0 T1 x0 x1 x2 x3 x4 a0 a1 hc0 k0_h2 k0_h3).1) = k0_pay4 := by
  exact View.read_writes_full _ _ inb_S512x1024_S512x1024_0_0 _ []

theorem runKZ_s0 (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .f32) (harg8 : arg8.IsWhole)
    (T0 : S544.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (a0 : S1024x2048.Idx → Elt F .bf16) (a1 : S1024x1024.Idx → Elt F .bf16)
    (hc0 : ¬Reload T0 i) (k0_h2 : ¬k0_cond2 i (rdN T1) = 1#1) (k0_h3 : k0_cond3 i (rdN T1) = 1#1) :
    (runKZ c i arg3 harg3 arg4 harg4 arg5 harg5 arg6 harg6 arg7 harg7 arg8 harg8 T0 T1 x0 x1 x2 x3 x4 a0 a1 hc0 k0_h2 k0_h3).2.1 = a0 := by
  rfl

theorem runKZ_s1 (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .f32) (harg8 : arg8.IsWhole)
    (T0 : S544.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (a0 : S1024x2048.Idx → Elt F .bf16) (a1 : S1024x1024.Idx → Elt F .bf16)
    (hc0 : ¬Reload T0 i) (k0_h2 : ¬k0_cond2 i (rdN T1) = 1#1) (k0_h3 : k0_cond3 i (rdN T1) = 1#1) :
    (runKZ c i arg3 harg3 arg4 harg4 arg5 harg5 arg6 harg6 arg7 harg7 arg8 harg8 T0 T1 x0 x1 x2 x3 x4 a0 a1 hc0 k0_h2 k0_h3).2.2.1 = a1 := by
  rfl

end Cert.Kernel2Ideal.Ffn

end

end
-- ==== Proof.FfnTab.lean ====
module

public import proofs.«01_k».proof.Proof.FfnRun

@[expose] public section

set_option maxRecDepth 16384

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The body's decisions -/

/-- A bit widened to a word is nonzero where it is set. -/
theorem bit_eq (x : BitVec 1) : Scalar.cmpi .ne (Scalar.extui x : BitVec 32) 0#32 = x := by revert x; decide

theorem ofBool_iff (b : Bool) : BitVec.ofBool b = 1#1 ↔ b = true := by cases b <;> decide

theorem cond2_iff (i : grid0.Coords) (v : BitVec 32) : k0_cond2 i v = 1#1 ↔ (BitVec.ofNat 32 (i 0).val).toInt < v.toInt := by
  rw [show k0_cond2 i v = _ from bit_eq _, show Scalar.cmpi .slt (BitVec.ofNat 32 (i 0).val) v = BitVec.ofBool _ from rfl, ofBool_iff]
  simp only [BitVec.slt, decide_eq_true_eq]

theorem cond3_iff (i : grid0.Coords) (v : BitVec 32) : k0_cond3 i v = 1#1 ↔ ¬ k0_cond2 i v = 1#1 := by
  rw [cond2_iff, show k0_cond3 i v = _ from bit_eq _, show Scalar.cmpi .sge (BitVec.ofNat 32 (i 0).val) v = BitVec.ofBool _ from rfl, ofBool_iff]
  simp only [BitVec.sle, decide_eq_true_eq, not_lt]

/-- The words read, as entries of the tables. -/
def eIdx (n : Fin 544) : S544.Idx := fun a => ⟨n.val, by fin_cases a; exact n.isLt⟩
def nIdx : S1.Idx := fun a => ⟨0, by fin_cases a; exact Nat.one_pos⟩

theorem off2_eq (i : grid0.Coords) : k0_off2 i = ![(i 0).val - 1] := by
  have r_i0 : (i 0).val < 544 := (i 0).isLt
  have h_arg0 : Affine.IsInt (BitVec.ofNat 32 (i 0).val) (((i 0).val : Int)) := Affine.ofNat _ (by omega)
  have h_c1_i32 : Affine.IsInt 1#32 (1) := Affine.ofNat _ (by omega)
  have h_v3 : Affine.IsInt _ (((i 0).val : Int) - 1) := Affine.subi h_arg0 h_c1_i32 (by omega)
  have h_c0_i32_0 : Affine.IsInt 0#32 (0) := Affine.ofNat _ (by omega)
  have h_v4 : Affine.IsInt _ ((max (((i 0).val : Int) - 1) 0)) := Affine.maxsi h_v3 h_c0_i32_0 (by omega)
  have h_v5 : Affine.IsInt _ ((max (((i 0).val : Int) - 1) 0)) := Affine.indexCast h_v4
  exact Affine.vec_cons h_v5 (by omega) <| Affine.vec_nil

theorem rdE_eq (T0 : S544.Idx → Elt F .i32) (i : grid0.Coords) : rdE T0 i = T0 (eIdx (i 0)) :=
  congrArg T0 (funext fun a => Fin.ext (by
    fin_cases a
    show k0_off1 i 0 + 1 * 0 = (i 0).val
    rw [k0_off1_eq]; simp))

theorem rdP_eq (T0 : S544.Idx → Elt F .i32) (i : grid0.Coords) : rdP T0 i = T0 (eIdx ⟨(i 0).val - 1, lt_of_le_of_lt (Nat.sub_le _ _) (i 0).isLt⟩) :=
  congrArg T0 (funext fun a => Fin.ext (by
    fin_cases a
    show k0_off2 i 0 + 1 * 0 = (i 0).val - 1
    rw [off2_eq]; simp))

theorem rdN_eq (T1 : S1.Idx → Elt F .i32) : rdN T1 = T1 nIdx :=
  congrArg T1 (funext fun a => Fin.ext (by fin_cases a; rfl))

/-- Where the body keeps the weights the block is not the first and its expert is the one of the block before it. -/
theorem kept (T0 : S544.Idx → Elt F .i32) (i : grid0.Coords) (h : ¬ Reload T0 i) :
    (i 0).val ≠ 0 ∧ T0 (eIdx (i 0)) = T0 (eIdx ⟨(i 0).val - 1, lt_of_le_of_lt (Nat.sub_le _ _) (i 0).isLt⟩) := by
  unfold Reload at h
  rw [bit_eq, rdE_eq, rdP_eq] at h
  constructor
  · intro h0
    apply h
    have : Scalar.cmpi .eq (BitVec.ofNat 32 (i 0).val) 0#32 = 1#1 := (ofBool_iff _).mpr (beq_iff_eq.mpr (by rw [h0]))
    rw [this]
    generalize Scalar.cmpi .ne _ _ = b
    revert b; decide
  · by_contra hne
    apply h
    have : Scalar.cmpi .ne (T0 (eIdx (i 0))) (T0 (eIdx ⟨(i 0).val - 1, lt_of_le_of_lt (Nat.sub_le _ _) (i 0).isLt⟩)) = 1#1 :=
      (ofBool_iff _).mpr (bne_iff_ne.mpr hne)
    rw [this]
    generalize Scalar.cmpi .eq _ _ = b
    revert b; decide

/-! ## The index maps at tables in range -/

/-- The tables as the region reads them. -/
def tabs (T0 : S544.Idx → Elt F .i32) (T1 : S1.Idx → Elt F .i32) : pre0.Contents (Elt F) :=
  fun | ⟨0, _⟩ => T0 | ⟨1, _⟩ => T1 | ⟨_ + 2, h⟩ => absurd h (by simp)

/-- Every block's expert is one of the 32, and at least one block is in use. -/
structure InRange (T0 : S544.Idx → BitVec 32) (T1 : S1.Idx → BitVec 32) : Prop where
  e : ∀ x, (T0 x).toNat < 32
  n : 1 ≤ (T1 nIdx).toInt

variable (T0 : S544.Idx → Elt F .i32) (T1 : S1.Idx → Elt F .i32)

/-- The block of rows read at coordinates `i`. -/
abbrev rowBlk (i : grid0.Coords) : ℕ := (Scalar.minsi (BitVec.ofNat 32 (i 0).val) (Scalar.subi (T1 nIdx) 1#32)).toNat

theorem at1_eq : (tabs T0 T1).at 1 (Rect.unit (s := S1) ![0] S1.size inb_S1_S1_0) numel1_S1 = T1 nIdx :=
  congrArg T1 (funext fun a => Fin.ext (by fin_cases a; rfl))
theorem at0_eq (i : grid0.Coords) : (tabs T0 T1).at 0 (Rect.unit (s := S544) (k0_off1 i) S1.size (k0_off1_inb i)) numel1_S1 = T0 (eIdx (i 0)) :=
  rdE_eq T0 i

theorem map0 (i : grid0.Coords) : cc0_transform_0 inb_S1_S1_0 numel1_S1 (tabs T0 T1) i = ![rowBlk T1 i, 0] := by
  unfold cc0_transform_0
  dsimp only
  rw [at1_eq]; rfl
theorem map1 (i : grid0.Coords) : cc0_transform_1 k0_off1_inb numel1_S1 (tabs T0 T1) i = ![0, (T0 (eIdx (i 0))).toNat, 0, 0] :=
  congrArg (fun n : BitVec 32 => ![0, n.toNat, 0, 0]) (at0_eq T0 T1 i)
theorem map2 (i : grid0.Coords) : cc0_transform_2 k0_off1_inb numel1_S1 (tabs T0 T1) i = ![(T0 (eIdx (i 0))).toNat, 0, 0] :=
  congrArg (fun n : BitVec 32 => ![n.toNat, 0, 0]) (at0_eq T0 T1 i)
theorem map3 (i : grid0.Coords) : cc0_transform_3 k0_off1_inb numel1_S1 (tabs T0 T1) i = ![0, (T0 (eIdx (i 0))).toNat, 0, 0] :=
  congrArg (fun n : BitVec 32 => ![0, n.toNat, 0, 0]) (at0_eq T0 T1 i)
theorem map4 (i : grid0.Coords) : cc0_transform_4 k0_off1_inb numel1_S1 (tabs T0 T1) i = ![(T0 (eIdx (i 0))).toNat, 0, 0] :=
  congrArg (fun n : BitVec 32 => ![n.toNat, 0, 0]) (at0_eq T0 T1 i)

/-- A signed minimum of a small number and a number that is not negative. -/
theorem minsi_toNat (n : ℕ) (hn : n < 544) (v : BitVec 32) (hv : 1 ≤ v.toInt) :
    (Scalar.minsi (BitVec.ofNat 32 n) (Scalar.subi v 1#32)).toNat = min n (v.toInt.toNat - 1) := by
  have hvl := BitVec.toInt_lt (x := v)
  have h1 : (BitVec.ofNat 32 n).toInt = n := by
    rw [BitVec.toInt_eq_toNat_cond, BitVec.toNat_ofNat]; omega
  have e : (v.toNat : Int) = v.toInt := by
    rw [BitVec.toInt_eq_toNat_cond] at hv ⊢
    split at hv <;> omega
  have h2 : (Scalar.subi v 1#32).toNat = v.toNat - 1 := by
    show (v - 1#32).toNat = _
    rw [BitVec.toNat_sub]; simp; omega
  have h3 : (Scalar.subi v 1#32).toInt = v.toInt - 1 := by
    rw [BitVec.toInt_eq_toNat_cond, h2]; omega
  have : Scalar.minsi (BitVec.ofNat 32 n) (Scalar.subi v 1#32) = if (BitVec.ofNat 32 n).slt (Scalar.subi v 1#32) then BitVec.ofNat 32 n else Scalar.subi v 1#32 := rfl
  rw [this]
  simp only [BitVec.slt, decide_eq_true_eq, h1, h3]
  split
  · rw [BitVec.toNat_ofNat]; omega
  · rw [h2]; omega

theorem rowBlk_eq (h : InRange T0 T1) (i : grid0.Coords) : rowBlk T1 i = min (i 0).val ((T1 nIdx).toInt.toNat - 1) :=
  minsi_toNat _ (i 0).isLt _ h.n

/-- At tables in range every block lies in its array. -/
theorem ok_tabs (h : InRange T0 T1) : ok0 (tabs T0 T1) := by
  refine ⟨fun i => ⟨?_, .inl rfl⟩, fun i => ⟨?_, .inl rfl⟩, fun i => ⟨?_, .inl rfl⟩, fun i => ⟨?_, .inl rfl⟩, fun i => ⟨?_, .inl rfl⟩⟩
  · rw [map0]
    have hr := rowBlk_eq T0 T1 h i
    have hi : (i 0).val < 544 := (i 0).isLt
    intro a
    fin_cases a
    · show (rowBlk T1 i + 1) * 512 ≤ 278528
      omega
    · show (0 + 1) * 1024 ≤ 1024
      omega
  · rw [map1]
    have he : (T0 (eIdx (i 0)) : BitVec 32).toNat < 32 := h.e _
    intro a
    fin_cases a
    · show (0 + 1) * 1 ≤ 4
      omega
    · show ((T0 (eIdx (i 0)) : BitVec 32).toNat + 1) * 1 ≤ 32
      omega
    · show (0 + 1) * 1024 ≤ 1024
      omega
    · show (0 + 1) * 2048 ≤ 2048
      omega
  · rw [map2]
    have he : (T0 (eIdx (i 0)) : BitVec 32).toNat < 32 := h.e _
    intro a
    fin_cases a
    · show ((T0 (eIdx (i 0)) : BitVec 32).toNat + 1) * 1 ≤ 32
      omega
    · show (0 + 1) * 1 ≤ 1
      omega
    · show (0 + 1) * 2048 ≤ 2048
      omega
  · rw [map3]
    have he : (T0 (eIdx (i 0)) : BitVec 32).toNat < 32 := h.e _
    intro a
    fin_cases a
    · show (0 + 1) * 1 ≤ 4
      omega
    · show ((T0 (eIdx (i 0)) : BitVec 32).toNat + 1) * 1 ≤ 32
      omega
    · show (0 + 1) * 1024 ≤ 1024
      omega
    · show (0 + 1) * 1024 ≤ 1024
      omega
  · rw [map4]
    have he : (T0 (eIdx (i 0)) : BitVec 32).toNat < 32 := h.e _
    intro a
    fin_cases a
    · show ((T0 (eIdx (i 0)) : BitVec 32).toNat + 1) * 1 ≤ 32
      omega
    · show (0 + 1) * 1 ≤ 1
      omega
    · show (0 + 1) * 1024 ≤ 1024
      omega

/-- The output's buffer is stored at every point. -/
theorem idle_out (i : grid0.Coords) (w : Fin 6) : idle0 (tabs T0 T1) w i = false := by
  fin_cases w
  · rfl
  · rfl
  · rfl
  · rfl
  · rfl
  · show (!(k0_cond2 i ((tabs T0 T1).atD 1 ![0]) == 1#1) && !(k0_cond3 i ((tabs T0 T1).atD 1 ![0]) == 1#1)) = false
    generalize (tabs T0 T1).atD 1 ![0] = v
    by_cases h : k0_cond2 i v = 1#1
    · rw [h]; rfl
    · rw [(cond3_iff i v).mpr h, beq_self_eq_true, Bool.not_true, Bool.and_false]

/-- The tables as admissible contents, and the pipeline at them. -/
def adm (h : InRange T0 T1) : (pcfg0 (F := F)).Adm := ⟨tabs T0 T1, ok_tabs T0 T1 h⟩
abbrev cfgA (h : InRange T0 T1) : Pipeline.Cfg sig Λ₀ := cfg0 (F := F) (adm T0 T1 h)
abbrev pcs (h : InRange T0 T1) : Fin 1 → Pipeline.Cfg sig Λ₀ := Pipeline.pin (pcfgs (F := F)) fun _ => adm T0 T1 h

end Cert.Kernel2Ideal.Ffn

end

end
-- ==== Proof.FfnBody.lean ====
module

public import proofs.«01_k».proof.Proof.FfnOut
public import proofs.«01_k».proof.Proof.FfnTab

@[expose] public section

set_option maxRecDepth 16384

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What the scratch buffers hold after the body, and what the output's buffer holds. -/
abbrev keep0 (T0 : S544.Idx → Elt F .i32) (i : grid0.Coords) (x1 : S1x1x1024x2048.Idx → Elt F .f32) (a0 : S1024x2048.Idx → Elt F .bf16) :
    S1024x2048.Idx → Elt F .bf16 := if Reload T0 i then k0_pay1 x1 else a0
abbrev keep1 (T0 : S544.Idx → Elt F .i32) (i : grid0.Coords) (x3 : S1x1x1024x1024.Idx → Elt F .f32) (a1 : S1024x1024.Idx → Elt F .bf16) :
    S1024x1024.Idx → Elt F .bf16 := if Reload T0 i then k0_pay2 x3 else a1
abbrev outB (T1 : S1.Idx → Elt F .i32) (i : grid0.Coords) (x0 : S512x1024.Idx → Elt F .f32) (w1 : S1024x2048.Idx → Elt F .bf16)
    (x2 : S1x1x2048.Idx → Elt F .f32) (w2 : S1024x1024.Idx → Elt F .bf16) (x4 : S1x1x1024.Idx → Elt F .f32) : S512x1024.Idx → Elt F .f32 :=
  if k0_cond2 i (rdN T1) = 1#1 then actOut x0 w1 x2 w2 x4 else k0_pay4

set_option maxHeartbeats 1000000 in
/-- The body at any coordinates, tables and blocks. -/
theorem body_run (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .f32) (harg8 : arg8.IsWhole)
    (T0 : S544.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (a0 : S1024x2048.Idx → Elt F .bf16) (a1 : S1024x1024.Idx → Elt F .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (tbl0.view.loc (c : Thread nD τ) ↦{fullShare.right} T0) ∗ (tbl1.view.loc (c : Thread nD τ) ↦{fullShare.right} T1)
        ∗ (∃ d, owns (c : Thread nD τ) arg8 fullShare d)
        ∗ (scr0.view.loc (c : Thread nD τ) ↦{fullShare} a0) ∗ (scr1.view.loc (c : Thread nD τ) ↦{fullShare} a1)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (tbl0.view.loc (c : Thread nD τ) ↦{fullShare.right} T0) ∗ (tbl1.view.loc (c : Thread nD τ) ↦{fullShare.right} T1)
            ∗ owns (c : Thread nD τ) arg8 fullShare (outB T1 i x0 (keep0 T0 i x1 a0) x2 (keep1 T0 i x3 a1) x4)
            ∗ (scr0.view.loc (c : Thread nD τ) ↦{fullShare} keep0 T0 i x1 a0) ∗ (scr1.view.loc (c : Thread nD τ) ↦{fullShare} keep1 T0 i x3 a1)) -∗ K ⟨⟩))
      ⊢ wp frame (wpE (defs₀ (F := F)) Variants.none c none) Set.univ (cc0_expert_ffn i tbl0 (Memref.isWhole_whole _) tbl1 (Memref.isWhole_whole _) arg3 harg3 arg4 harg4 arg5 harg5 arg6 harg6 arg7 harg7 arg8 harg8 scr0 (Memref.isWhole_whole _) scr1 (Memref.isWhole_whole _)) K := by
  by_cases hc0 : Reload T0 i <;> by_cases k0_h2 : k0_cond2 i (rdN T1) = 1#1
  · have k0_h3 : ¬k0_cond3 i (rdN T1) = 1#1 := fun h => (cond3_iff i _).mp h k0_h2
    have e0 : keep0 T0 i x1 a0 = _ := if_pos hc0
    have e1 : keep1 T0 i x3 a1 = _ := if_pos hc0
    have e2 : ∀ w1 w2, outB T1 i x0 w1 x2 w2 x4 = _ := fun w1 w2 => if_pos k0_h2
    rw [e0, e1, e2]
    have hs0 := runRA_s0 c i arg3 harg3 arg4 harg4 arg5 harg5 arg6 harg6 arg7 harg7 arg8 harg8 T0 T1 x0 x1 x2 x3 x4 a0 a1 hc0 k0_h2 k0_h3
    have hs1 := runRA_s1 c i arg3 harg3 arg4 harg4 arg5 harg5 arg6 harg6 arg7 harg7 arg8 harg8 T0 T1 x0 x1 x2 x3 x4 a0 a1 hc0 k0_h2 k0_h3
    have ho := runRA_out c i arg3 harg3 arg4 harg4 arg5 harg5 arg6 harg6 arg7 harg7 arg8 harg8 T0 T1 x0 x1 x2 x3 x4 a0 a1 hc0 k0_h2 k0_h3
    generalize runRA c i arg3 harg3 arg4 harg4 arg5 harg5 arg6 harg6 arg7 harg7 arg8 harg8 T0 T1 x0 x1 x2 x3 x4 a0 a1 hc0 k0_h2 k0_h3 = r at hs0 hs1 ho
    obtain ⟨o, s0, s1, hr⟩ := r
    dsimp only at hs0 hs1 ho
    subst hs0 hs1
    iintro ⟨H0, H1, H2, H3, H4, HT0, HT1, H5, HS0, HS1, Hk⟩
    iapply (hr K)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexact H5
    isplitl [HS0]; · iexact HS0
    isplitl [HS1]; · iexact HS1
    iintro ⟨H0, H1, H2, H3, H4, HT0, HT1, ⟨%e5, H5⟩, HS0, HS1⟩
    iapply Hk
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [HT0]; · iexact HT0
    isplitl [HT1]; · iexact HT1
    isplitl [H5]
    · unfold owns; iexists _; isplitr; swap
      · iexact H5
      · ipureintro; exact ho e5
    isplitl [HS0]; · iexact HS0
    iexact HS1
  · have k0_h3 : k0_cond3 i (rdN T1) = 1#1 := (cond3_iff i _).mpr k0_h2
    have e0 : keep0 T0 i x1 a0 = _ := if_pos hc0
    have e1 : keep1 T0 i x3 a1 = _ := if_pos hc0
    have e2 : ∀ w1 w2, outB T1 i x0 w1 x2 w2 x4 = _ := fun w1 w2 => if_neg k0_h2
    rw [e0, e1, e2]
    have hs0 := runRZ_s0 c i arg3 harg3 arg4 harg4 arg5 harg5 arg6 harg6 arg7 harg7 arg8 harg8 T0 T1 x0 x1 x2 x3 x4 a0 a1 hc0 k0_h2 k0_h3
    have hs1 := runRZ_s1 c i arg3 harg3 arg4 harg4 arg5 harg5 arg6 harg6 arg7 harg7 arg8 harg8 T0 T1 x0 x1 x2 x3 x4 a0 a1 hc0 k0_h2 k0_h3
    have ho := runRZ_out c i arg3 harg3 arg4 harg4 arg5 harg5 arg6 harg6 arg7 harg7 arg8 harg8 T0 T1 x0 x1 x2 x3 x4 a0 a1 hc0 k0_h2 k0_h3
    generalize runRZ c i arg3 harg3 arg4 harg4 arg5 harg5 arg6 harg6 arg7 harg7 arg8 harg8 T0 T1 x0 x1 x2 x3 x4 a0 a1 hc0 k0_h2 k0_h3 = r at hs0 hs1 ho
    obtain ⟨o, s0, s1, hr⟩ := r
    dsimp only at hs0 hs1 ho
    subst hs0 hs1
    iintro ⟨H0, H1, H2, H3, H4, HT0, HT1, H5, HS0, HS1, Hk⟩
    iapply (hr K)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexact H5
    isplitl [HS0]; · iexact HS0
    isplitl [HS1]; · iexact HS1
    iintro ⟨H0, H1, H2, H3, H4, HT0, HT1, ⟨%e5, H5⟩, HS0, HS1⟩
    iapply Hk
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [HT0]; · iexact HT0
    isplitl [HT1]; · iexact HT1
    isplitl [H5]
    · unfold owns; iexists _; isplitr; swap
      · iexact H5
      · ipureintro; exact ho e5
    isplitl [HS0]; · iexact HS0
    iexact HS1
  · have k0_h3 : ¬k0_cond3 i (rdN T1) = 1#1 := fun h => (cond3_iff i _).mp h k0_h2
    have e0 : keep0 T0 i x1 a0 = _ := if_neg hc0
    have e1 : keep1 T0 i x3 a1 = _ := if_neg hc0
    have e2 : ∀ w1 w2, outB T1 i x0 w1 x2 w2 x4 = _ := fun w1 w2 => if_pos k0_h2
    rw [e0, e1, e2]
    have hs0 := runKA_s0 c i arg3 harg3 arg4 harg4 arg5 harg5 arg6 harg6 arg7 harg7 arg8 harg8 T0 T1 x0 x1 x2 x3 x4 a0 a1 hc0 k0_h2 k0_h3
    have hs1 := runKA_s1 c i arg3 harg3 arg4 harg4 arg5 harg5 arg6 harg6 arg7 harg7 arg8 harg8 T0 T1 x0 x1 x2 x3 x4 a0 a1 hc0 k0_h2 k0_h3
    have ho := runKA_out c i arg3 harg3 arg4 harg4 arg5 harg5 arg6 harg6 arg7 harg7 arg8 harg8 T0 T1 x0 x1 x2 x3 x4 a0 a1 hc0 k0_h2 k0_h3
    generalize runKA c i arg3 harg3 arg4 harg4 arg5 harg5 arg6 harg6 arg7 harg7 arg8 harg8 T0 T1 x0 x1 x2 x3 x4 a0 a1 hc0 k0_h2 k0_h3 = r at hs0 hs1 ho
    obtain ⟨o, s0, s1, hr⟩ := r
    dsimp only at hs0 hs1 ho
    subst hs0 hs1
    iintro ⟨H0, H1, H2, H3, H4, HT0, HT1, H5, HS0, HS1, Hk⟩
    iapply (hr K)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexact H5
    isplitl [HS0]; · iexact HS0
    isplitl [HS1]; · iexact HS1
    iintro ⟨H0, H1, H2, H3, H4, HT0, HT1, ⟨%e5, H5⟩, HS0, HS1⟩
    iapply Hk
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [HT0]; · iexact HT0
    isplitl [HT1]; · iexact HT1
    isplitl [H5]
    · unfold owns; iexists _; isplitr; swap
      · iexact H5
      · ipureintro; exact ho e5
    isplitl [HS0]; · iexact HS0
    iexact HS1
  · have k0_h3 : k0_cond3 i (rdN T1) = 1#1 := (cond3_iff i _).mpr k0_h2
    have e0 : keep0 T0 i x1 a0 = _ := if_neg hc0
    have e1 : keep1 T0 i x3 a1 = _ := if_neg hc0
    have e2 : ∀ w1 w2, outB T1 i x0 w1 x2 w2 x4 = _ := fun w1 w2 => if_neg k0_h2
    rw [e0, e1, e2]
    have hs0 := runKZ_s0 c i arg3 harg3 arg4 harg4 arg5 harg5 arg6 harg6 arg7 harg7 arg8 harg8 T0 T1 x0 x1 x2 x3 x4 a0 a1 hc0 k0_h2 k0_h3
    have hs1 := runKZ_s1 c i arg3 harg3 arg4 harg4 arg5 harg5 arg6 harg6 arg7 harg7 arg8 harg8 T0 T1 x0 x1 x2 x3 x4 a0 a1 hc0 k0_h2 k0_h3
    have ho := runKZ_out c i arg3 harg3 arg4 harg4 arg5 harg5 arg6 harg6 arg7 harg7 arg8 harg8 T0 T1 x0 x1 x2 x3 x4 a0 a1 hc0 k0_h2 k0_h3
    generalize runKZ c i arg3 harg3 arg4 harg4 arg5 harg5 arg6 harg6 arg7 harg7 arg8 harg8 T0 T1 x0 x1 x2 x3 x4 a0 a1 hc0 k0_h2 k0_h3 = r at hs0 hs1 ho
    obtain ⟨o, s0, s1, hr⟩ := r
    dsimp only at hs0 hs1 ho
    subst hs0 hs1
    iintro ⟨H0, H1, H2, H3, H4, HT0, HT1, H5, HS0, HS1, Hk⟩
    iapply (hr K)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexact H5
    isplitl [HS0]; · iexact HS0
    isplitl [HS1]; · iexact HS1
    iintro ⟨H0, H1, H2, H3, H4, HT0, HT1, ⟨%e5, H5⟩, HS0, HS1⟩
    iapply Hk
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [HT0]; · iexact HT0
    isplitl [HT1]; · iexact HT1
    isplitl [H5]
    · unfold owns; iexists _; isplitr; swap
      · iexact H5
      · ipureintro; exact ho e5
    isplitl [HS0]; · iexact HS0
    iexact HS1

end Cert.Kernel2Ideal.Ffn

end

end
-- ==== Proof.FfnData.lean ====
module

public import proofs.«01_k».proof.Proof.FfnBody

@[expose] public section

set_option maxRecDepth 16384

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers' contents where the region starts. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, Finset.mem_singleton]
    repeat' apply And.intro
    all_goals exact StableHlo.devRef_ne_of_ne (by decide)))

/-- The tables the region reads. -/
abbrev c₀ : Dev nD := ⟨0, by decide⟩
theorem dev_eq (c : Dev nD) : c = c₀ := Subsingleton.elim _ _
abbrev T0 : S544.Idx → Elt F .i32 := m (((c₀ : Dev nD) : Thread nD τ).loc main_arg1)
abbrev T1 : S1.Idx → Elt F .i32 := m (((c₀ : Dev nD) : Thread nD τ).loc main_arg2)

/-! ## The windows' blocks -/

/-- Where block `e` of the rows reads its array. -/
def src0 (e : ℕ) (y : S512x1024.Idx) : S278528x1024.Idx := fun a => ⟨![min e 543 * 512 + (y 0).val, (y 1).val] a, by
  fin_cases a
  · have : (y 0).val < 512 := (y 0).isLt; show min e 543 * 512 + (y 0).val < 278528; omega
  · exact (y 1).isLt⟩
/-- Where expert `e`'s first weights are. -/
def src1 (e : ℕ) (y : S1x1x1024x2048.Idx) : S4x32x1024x2048.Idx := fun a => ⟨![0, min e 31, (y 2).val, (y 3).val] a, by
  fin_cases a
  · show 0 < 4; omega
  · show min e 31 < 32; omega
  · exact (y 2).isLt
  · exact (y 3).isLt⟩
/-- Where expert `e`'s first bias is. -/
def src2 (e : ℕ) (y : S1x1x2048.Idx) : S32x1x2048.Idx := fun a => ⟨![min e 31, 0, (y 2).val] a, by
  fin_cases a
  · show min e 31 < 32; omega
  · show 0 < 1; omega
  · exact (y 2).isLt⟩
/-- Where expert `e`'s second weights are. -/
def src3 (e : ℕ) (y : S1x1x1024x1024.Idx) : S4x32x1024x1024.Idx := fun a => ⟨![0, min e 31, (y 2).val, (y 3).val] a, by
  fin_cases a
  · show 0 < 4; omega
  · show min e 31 < 32; omega
  · exact (y 2).isLt
  · exact (y 3).isLt⟩
/-- Where expert `e`'s second bias is. -/
def src4 (e : ℕ) (y : S1x1x1024.Idx) : S32x1x1024.Idx := fun a => ⟨![min e 31, 0, (y 2).val] a, by
  fin_cases a
  · show min e 31 < 32; omega
  · show 0 < 1; omega
  · exact (y 2).isLt⟩

variable (h : InRange (T0 m) (T1 m))

/-- Point `t`'s coordinates, and the memrefs of the windows' current buffers there. -/
abbrev crd (t : Fin (cfgA (T0 m) (T1 m) h).N) : grid0.Coords := (cfgA (T0 m) (T1 m) h).grid.coords t
abbrev ms0 (t : Fin (cfgA (T0 m) (T1 m) h).N) : Memref sig .tc .vmem S512x1024 .f32 := spec0_0.stage ((cfgA (T0 m) (T1 m) h).slots t (0 : Fin 6))
abbrev hs0 (t : Fin (cfgA (T0 m) (T1 m) h).N) : (ms0 m h t).IsWhole := hstage0_0 (((cfgA (T0 m) (T1 m) h).slots t (0 : Fin 6)).cast nbuf0_0)
abbrev ms1 (t : Fin (cfgA (T0 m) (T1 m) h).N) : Memref sig .tc .vmem S1x1x1024x2048 .f32 := spec0_1.stage ((cfgA (T0 m) (T1 m) h).slots t (1 : Fin 6))
abbrev hs1 (t : Fin (cfgA (T0 m) (T1 m) h).N) : (ms1 m h t).IsWhole := hstage0_1 (((cfgA (T0 m) (T1 m) h).slots t (1 : Fin 6)).cast nbuf0_1)
abbrev ms2 (t : Fin (cfgA (T0 m) (T1 m) h).N) : Memref sig .tc .vmem S1x1x2048 .f32 := spec0_2.stage ((cfgA (T0 m) (T1 m) h).slots t (2 : Fin 6))
abbrev hs2 (t : Fin (cfgA (T0 m) (T1 m) h).N) : (ms2 m h t).IsWhole := hstage0_2 (((cfgA (T0 m) (T1 m) h).slots t (2 : Fin 6)).cast nbuf0_2)
abbrev ms3 (t : Fin (cfgA (T0 m) (T1 m) h).N) : Memref sig .tc .vmem S1x1x1024x1024 .f32 := spec0_3.stage ((cfgA (T0 m) (T1 m) h).slots t (3 : Fin 6))
abbrev hs3 (t : Fin (cfgA (T0 m) (T1 m) h).N) : (ms3 m h t).IsWhole := hstage0_3 (((cfgA (T0 m) (T1 m) h).slots t (3 : Fin 6)).cast nbuf0_3)
abbrev ms4 (t : Fin (cfgA (T0 m) (T1 m) h).N) : Memref sig .tc .vmem S1x1x1024 .f32 := spec0_4.stage ((cfgA (T0 m) (T1 m) h).slots t (4 : Fin 6))
abbrev hs4 (t : Fin (cfgA (T0 m) (T1 m) h).N) : (ms4 m h t).IsWhole := hstage0_4 (((cfgA (T0 m) (T1 m) h).slots t (4 : Fin 6)).cast nbuf0_4)
abbrev ms5 (t : Fin (cfgA (T0 m) (T1 m) h).N) : Memref sig .tc .vmem S512x1024 .f32 := spec0_5.stage ((cfgA (T0 m) (T1 m) h).slots t (5 : Fin 6))
abbrev hs5 (t : Fin (cfgA (T0 m) (T1 m) h).N) : (ms5 m h t).IsWhole := hstage0_5 (((cfgA (T0 m) (T1 m) h).slots t (5 : Fin 6)).cast nbuf0_5)

/-- The expert and the block of rows of point `t`. -/
abbrev ex (t : Fin (cfgA (T0 m) (T1 m) h).N) : ℕ := (T0 m (eIdx (crd m h t 0)) : BitVec 32).toNat
abbrev rb (t : Fin (cfgA (T0 m) (T1 m) h).N) : ℕ := rowBlk (T1 m) (crd m h t)

def iblk0 (c : Dev nD) (t : Fin (cfgA (T0 m) (T1 m) h).N) : S512x1024.Idx → Elt F .f32 := fun y => V m c main_arg0 (src0 (rb m h t) y)
def iblk1 (c : Dev nD) (t : Fin (cfgA (T0 m) (T1 m) h).N) : S1x1x1024x2048.Idx → Elt F .f32 := fun y => V m c main_arg3 (src1 (ex m h t) y)
def iblk2 (c : Dev nD) (t : Fin (cfgA (T0 m) (T1 m) h).N) : S1x1x2048.Idx → Elt F .f32 := fun y => V m c main_v0 (src2 (ex m h t) y)
def iblk3 (c : Dev nD) (t : Fin (cfgA (T0 m) (T1 m) h).N) : S1x1x1024x1024.Idx → Elt F .f32 := fun y => V m c main_arg5 (src3 (ex m h t) y)
def iblk4 (c : Dev nD) (t : Fin (cfgA (T0 m) (T1 m) h).N) : S1x1x1024.Idx → Elt F .f32 := fun y => V m c main_v1 (src4 (ex m h t) y)

theorem read0 (c : Dev nD) (t : Fin (cfgA (T0 m) (T1 m) h).N) :
    ((((cfgA (T0 m) (T1 m) h).win (0 : Fin 6)).blk t).view.read (Elt F) (V m c (Pipeline.arrRef spec0 (0 : Fin 6))) : S512x1024.Idx → Elt F .f32) = iblk0 m h c t := by
  have hm := map0 (T0 m) (T1 m) (crd m h t)
  have hr : rb m h t = _ := rowBlk_eq (T0 m) (T1 m) h (crd m h t)
  have hi : (crd m h t 0).val < 544 := (crd m h t 0).isLt
  funext y
  refine congrArg (V m c main_arg0) (funext fun a => Fin.ext ?_)
  fin_cases a
  · show cc0_transform_0 inb_S1_S1_0 numel1_S1 (tabs (T0 m) (T1 m)) (crd m h t) 0 * 512 + 1 * (y 0).val = min (rb m h t) 543 * 512 + (y 0).val
    rw [hm]
    show rb m h t * 512 + 1 * (y 0).val = min (rb m h t) 543 * 512 + (y 0).val
    have hy : (y 0).val < 512 := (y 0).isLt
    omega
  · show cc0_transform_0 inb_S1_S1_0 numel1_S1 (tabs (T0 m) (T1 m)) (crd m h t) 1 * 1024 + 1 * (y 1).val = (y 1).val
    rw [hm]
    show 0 * 1024 + 1 * (y 1).val = (y 1).val
    have hy : (y 1).val < 1024 := (y 1).isLt
    omega

theorem read1 (c : Dev nD) (t : Fin (cfgA (T0 m) (T1 m) h).N) :
    ((((cfgA (T0 m) (T1 m) h).win (1 : Fin 6)).blk t).view.read (Elt F) (V m c (Pipeline.arrRef spec0 (1 : Fin 6))) : S1x1x1024x2048.Idx → Elt F .f32) = iblk1 m h c t := by
  have hm := map1 (T0 m) (T1 m) (crd m h t)
  have he : ex m h t < 32 := h.e _
  funext y
  refine congrArg (V m c main_arg3) (funext fun a => Fin.ext ?_)
  fin_cases a
  · show cc0_transform_1 k0_off1_inb numel1_S1 (tabs (T0 m) (T1 m)) (crd m h t) 0 * 1 + 1 * (y 0).val = 0
    rw [hm]
    show 0 * 1 + 1 * (y 0).val = 0
    have hy : (y 0).val < 1 := (y 0).isLt
    omega
  · show cc0_transform_1 k0_off1_inb numel1_S1 (tabs (T0 m) (T1 m)) (crd m h t) 1 * 1 + 1 * (y 1).val = min (ex m h t) 31
    rw [hm]
    show ex m h t * 1 + 1 * (y 1).val = min (ex m h t) 31
    have hy : (y 1).val < 1 := (y 1).isLt
    omega
  · show cc0_transform_1 k0_off1_inb numel1_S1 (tabs (T0 m) (T1 m)) (crd m h t) 2 * 1024 + 1 * (y 2).val = (y 2).val
    rw [hm]
    show 0 * 1024 + 1 * (y 2).val = (y 2).val
    have hy : (y 2).val < 1024 := (y 2).isLt
    omega
  · show cc0_transform_1 k0_off1_inb numel1_S1 (tabs (T0 m) (T1 m)) (crd m h t) 3 * 2048 + 1 * (y 3).val = (y 3).val
    rw [hm]
    show 0 * 2048 + 1 * (y 3).val = (y 3).val
    have hy : (y 3).val < 2048 := (y 3).isLt
    omega

theorem read2 (c : Dev nD) (t : Fin (cfgA (T0 m) (T1 m) h).N) :
    ((((cfgA (T0 m) (T1 m) h).win (2 : Fin 6)).blk t).view.read (Elt F) (V m c (Pipeline.arrRef spec0 (2 : Fin 6))) : S1x1x2048.Idx → Elt F .f32) = iblk2 m h c t := by
  have hm := map2 (T0 m) (T1 m) (crd m h t)
  have he : ex m h t < 32 := h.e _
  funext y
  refine congrArg (V m c main_v0) (funext fun a => Fin.ext ?_)
  fin_cases a
  · show cc0_transform_2 k0_off1_inb numel1_S1 (tabs (T0 m) (T1 m)) (crd m h t) 0 * 1 + 1 * (y 0).val = min (ex m h t) 31
    rw [hm]
    show ex m h t * 1 + 1 * (y 0).val = min (ex m h t) 31
    have hy : (y 0).val < 1 := (y 0).isLt
    omega
  · show cc0_transform_2 k0_off1_inb numel1_S1 (tabs (T0 m) (T1 m)) (crd m h t) 1 * 1 + 1 * (y 1).val = 0
    rw [hm]
    show 0 * 1 + 1 * (y 1).val = 0
    have hy : (y 1).val < 1 := (y 1).isLt
    omega
  · show cc0_transform_2 k0_off1_inb numel1_S1 (tabs (T0 m) (T1 m)) (crd m h t) 2 * 2048 + 1 * (y 2).val = (y 2).val
    rw [hm]
    show 0 * 2048 + 1 * (y 2).val = (y 2).val
    have hy : (y 2).val < 2048 := (y 2).isLt
    omega

theorem read3 (c : Dev nD) (t : Fin (cfgA (T0 m) (T1 m) h).N) :
    ((((cfgA (T0 m) (T1 m) h).win (3 : Fin 6)).blk t).view.read (Elt F) (V m c (Pipeline.arrRef spec0 (3 : Fin 6))) : S1x1x1024x1024.Idx → Elt F .f32) = iblk3 m h c t := by
  have hm := map3 (T0 m) (T1 m) (crd m h t)
  have he : ex m h t < 32 := h.e _
  funext y
  refine congrArg (V m c main_arg5) (funext fun a => Fin.ext ?_)
  fin_cases a
  · show cc0_transform_3 k0_off1_inb numel1_S1 (tabs (T0 m) (T1 m)) (crd m h t) 0 * 1 + 1 * (y 0).val = 0
    rw [hm]
    show 0 * 1 + 1 * (y 0).val = 0
    have hy : (y 0).val < 1 := (y 0).isLt
    omega
  · show cc0_transform_3 k0_off1_inb numel1_S1 (tabs (T0 m) (T1 m)) (crd m h t) 1 * 1 + 1 * (y 1).val = min (ex m h t) 31
    rw [hm]
    show ex m h t * 1 + 1 * (y 1).val = min (ex m h t) 31
    have hy : (y 1).val < 1 := (y 1).isLt
    omega
  · show cc0_transform_3 k0_off1_inb numel1_S1 (tabs (T0 m) (T1 m)) (crd m h t) 2 * 1024 + 1 * (y 2).val = (y 2).val
    rw [hm]
    show 0 * 1024 + 1 * (y 2).val = (y 2).val
    have hy : (y 2).val < 1024 := (y 2).isLt
    omega
  · show cc0_transform_3 k0_off1_inb numel1_S1 (tabs (T0 m) (T1 m)) (crd m h t) 3 * 1024 + 1 * (y 3).val = (y 3).val
    rw [hm]
    show 0 * 1024 + 1 * (y 3).val = (y 3).val
    have hy : (y 3).val < 1024 := (y 3).isLt
    omega

theorem read4 (c : Dev nD) (t : Fin (cfgA (T0 m) (T1 m) h).N) :
    ((((cfgA (T0 m) (T1 m) h).win (4 : Fin 6)).blk t).view.read (Elt F) (V m c (Pipeline.arrRef spec0 (4 : Fin 6))) : S1x1x1024.Idx → Elt F .f32) = iblk4 m h c t := by
  have hm := map4 (T0 m) (T1 m) (crd m h t)
  have he : ex m h t < 32 := h.e _
  funext y
  refine congrArg (V m c main_v1) (funext fun a => Fin.ext ?_)
  fin_cases a
  · show cc0_transform_4 k0_off1_inb numel1_S1 (tabs (T0 m) (T1 m)) (crd m h t) 0 * 1 + 1 * (y 0).val = min (ex m h t) 31
    rw [hm]
    show ex m h t * 1 + 1 * (y 0).val = min (ex m h t) 31
    have hy : (y 0).val < 1 := (y 0).isLt
    omega
  · show cc0_transform_4 k0_off1_inb numel1_S1 (tabs (T0 m) (T1 m)) (crd m h t) 1 * 1 + 1 * (y 1).val = 0
    rw [hm]
    show 0 * 1 + 1 * (y 1).val = 0
    have hy : (y 1).val < 1 := (y 1).isLt
    omega
  · show cc0_transform_4 k0_off1_inb numel1_S1 (tabs (T0 m) (T1 m)) (crd m h t) 2 * 1024 + 1 * (y 2).val = (y 2).val
    rw [hm]
    show 0 * 1024 + 1 * (y 2).val = (y 2).val
    have hy : (y 2).val < 1024 := (y 2).isLt
    omega

end Cert.Kernel2Ideal.Ffn

end

end
-- ==== Proof.FfnFrame.lean ====
module

public import proofs.«01_k».proof.Proof.FfnData

@[expose] public section

set_option maxRecDepth 16384

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (h : InRange (T0 m) (T1 m))

/-- What point `t` leaves in the scratch buffers and in the output's buffer. -/
abbrev sc0 (c : Dev nD) (t : Fin (cfgA (T0 m) (T1 m) h).N) : S1024x2048.Idx → Elt F .bf16 := k0_pay1 (iblk1 m h c t)
abbrev sc1 (c : Dev nD) (t : Fin (cfgA (T0 m) (T1 m) h).N) : S1024x1024.Idx → Elt F .bf16 := k0_pay2 (iblk3 m h c t)
def outA (c : Dev nD) (t : Fin (cfgA (T0 m) (T1 m) h).N) : S512x1024.Idx → Elt F .f32 :=
  outB (T1 m) (crd m h t) (iblk0 m h c t) (sc0 m h c t) (iblk2 m h c t) (sc1 m h c t) (iblk4 m h c t)

theorem crd_val (t : Fin (cfgA (T0 m) (T1 m) h).N) : (crd m h t 0).val = t.val := by
  have ht : t.val < 544 := lt_of_lt_of_eq t.isLt N_0
  exact (Pipeline.Grid.coords_val (G := grid0) t 0 (S := 1) (B := 544) (by decide) (by decide)).trans
    (by rw [Nat.div_one]; exact Nat.mod_eq_of_lt ht)

/-- Where the point does not reload, its expert is that of the point before. -/
theorem ex_kept (t : Fin (cfgA (T0 m) (T1 m) h).N) (n : ℕ) (hn : n < (cfgA (T0 m) (T1 m) h).N) (ht : t.val = n + 1) (hr : ¬Reload (T0 m) (crd m h t)) :
    ex m h t = ex m h ⟨n, hn⟩ := by
  have hk := (kept (T0 m) (crd m h t) hr).2
  refine congrArg BitVec.toNat (hk.trans (congrArg (fun j => T0 m (eIdx j)) (Fin.ext ?_)))
  show (crd m h t 0).val - 1 = (crd m h ⟨n, hn⟩ 0).val
  rw [crd_val, crd_val, ht]; rfl

/-- The scratch buffers before point `t`: at the first anything, later the weights of the point before. -/
abbrev Held (c : Dev nD) (t : Fin ((cfgA (T0 m) (T1 m) h).N + 1)) (a0 : S1024x2048.Idx → Elt F .bf16) (a1 : S1024x1024.Idx → Elt F .bf16) : Prop :=
  ∀ (n : ℕ) (hn : n < (cfgA (T0 m) (T1 m) h).N), t.val = n + 1 → a0 = sc0 m h c ⟨n, hn⟩ ∧ a1 = sc1 m h c ⟨n, hn⟩

theorem keep_of_held (c : Dev nD) (t : Fin (cfgA (T0 m) (T1 m) h).N) (a0 : S1024x2048.Idx → Elt F .bf16) (a1 : S1024x1024.Idx → Elt F .bf16)
    (hh : Held m h c t.castSucc a0 a1) :
    keep0 (T0 m) (crd m h t) (iblk1 m h c t) a0 = sc0 m h c t ∧ keep1 (T0 m) (crd m h t) (iblk3 m h c t) a1 = sc1 m h c t := by
  by_cases hr : Reload (T0 m) (crd m h t)
  · exact ⟨if_pos hr, if_pos hr⟩
  · have h0 : t.val ≠ 0 := fun h0 => (kept (T0 m) (crd m h t) hr).1 ((crd_val m h t).trans h0)
    have hn : t.val - 1 < (cfgA (T0 m) (T1 m) h).N := lt_of_le_of_lt (Nat.sub_le _ _) t.isLt
    have ht : t.val = t.val - 1 + 1 := by omega
    obtain ⟨e0, e1⟩ := hh (t.val - 1) hn ht
    have he := ex_kept m h t (t.val - 1) hn ht hr
    refine ⟨(if_neg hr).trans (e0.trans ?_), (if_neg hr).trans (e1.trans ?_)⟩
    · exact congrArg k0_pay1 (funext fun y => congrArg (fun e => V m c main_arg3 (src1 e y)) he.symm)
    · exact congrArg k0_pay2 (funext fun y => congrArg (fun e => V m c main_arg5 (src3 e y)) he.symm)

/-- The invariant before point `t`. -/
def Phi (c : Dev nD) (t : Fin ((cfgA (T0 m) (T1 m) h).N + 1)) : sProp 𝕄 :=
  iprop((∃ a0, ∃ a1, ⌜Held m h c t a0 a1⌝ ∗ (scr0.view.loc (c : Thread nD τ) ↦{fullShare} a0) ∗ (scr1.view.loc (c : Thread nD τ) ↦{fullShare} a1))
    ∗ (tbl0.view.loc (c : Thread nD τ) ↦{fullShare.right} T0 m) ∗ (tbl1.view.loc (c : Thread nD τ) ↦{fullShare.right} T1 m) ∗ ∃ r, prngReg c r)

/-- The proof data of the one pipeline on core `c`. -/
def dats (_ : Fin 1) (c : Dev nD) : Dat τ (Elt F) Unit ℕ (UR sig nD τ) ℕ (cfgA (T0 m) (T1 m) h) c where
  A w := V m c (Pipeline.arrRef spec0 w)
  after w t := match w with
    | ⟨0, _⟩ => iblk0 m h c t
    | ⟨1, _⟩ => iblk1 m h c t
    | ⟨2, _⟩ => iblk2 m h c t
    | ⟨3, _⟩ => iblk3 m h c t
    | ⟨4, _⟩ => iblk4 m h c t
    | ⟨5, _⟩ => outA m h c t
  Φ t := Phi m h c t
  q _ := fullShare
  owed _ := 0

theorem after0 (c : Dev nD) (t : Fin (cfgA (T0 m) (T1 m) h).N) : (dats m h 0 c).after (0 : Fin 6) t = iblk0 m h c t := by dsimp only [dats]
theorem after1 (c : Dev nD) (t : Fin (cfgA (T0 m) (T1 m) h).N) : (dats m h 0 c).after (1 : Fin 6) t = iblk1 m h c t := by dsimp only [dats]
theorem after2 (c : Dev nD) (t : Fin (cfgA (T0 m) (T1 m) h).N) : (dats m h 0 c).after (2 : Fin 6) t = iblk2 m h c t := by dsimp only [dats]
theorem after3 (c : Dev nD) (t : Fin (cfgA (T0 m) (T1 m) h).N) : (dats m h 0 c).after (3 : Fin 6) t = iblk3 m h c t := by dsimp only [dats]
theorem after4 (c : Dev nD) (t : Fin (cfgA (T0 m) (T1 m) h).N) : (dats m h 0 c).after (4 : Fin 6) t = iblk4 m h c t := by dsimp only [dats]
theorem after5 (c : Dev nD) (t : Fin (cfgA (T0 m) (T1 m) h).N) : (dats m h 0 c).after (5 : Fin 6) t = outA m h c t := by dsimp only [dats]
theorem before0 (c : Dev nD) (t : Fin (cfgA (T0 m) (T1 m) h).N) (d) : (dats m h 0 c).before (0 : Fin 6) t d = iblk0 m h c t :=
  ((dats m h 0 c).before_in_eq_fetched (0 : Fin 6) rfl (fun _ => rfl) (fun _ _ _ => rfl)
    (fun t => by rw [after0]; unfold Dat.blockOf; exact (read0 m h c t).symm) t d).trans
    (by unfold Dat.fetched Dat.blockOf; exact read0 m h c t)
theorem before1 (c : Dev nD) (t : Fin (cfgA (T0 m) (T1 m) h).N) (d) : (dats m h 0 c).before (1 : Fin 6) t d = iblk1 m h c t :=
  ((dats m h 0 c).before_in_eq_fetched (1 : Fin 6) rfl (fun _ => rfl) (fun _ _ _ => rfl)
    (fun t => by rw [after1]; unfold Dat.blockOf; exact (read1 m h c t).symm) t d).trans
    (by unfold Dat.fetched Dat.blockOf; exact read1 m h c t)
theorem before2 (c : Dev nD) (t : Fin (cfgA (T0 m) (T1 m) h).N) (d) : (dats m h 0 c).before (2 : Fin 6) t d = iblk2 m h c t :=
  ((dats m h 0 c).before_in_eq_fetched (2 : Fin 6) rfl (fun _ => rfl) (fun _ _ _ => rfl)
    (fun t => by rw [after2]; unfold Dat.blockOf; exact (read2 m h c t).symm) t d).trans
    (by unfold Dat.fetched Dat.blockOf; exact read2 m h c t)
theorem before3 (c : Dev nD) (t : Fin (cfgA (T0 m) (T1 m) h).N) (d) : (dats m h 0 c).before (3 : Fin 6) t d = iblk3 m h c t :=
  ((dats m h 0 c).before_in_eq_fetched (3 : Fin 6) rfl (fun _ => rfl) (fun _ _ _ => rfl)
    (fun t => by rw [after3]; unfold Dat.blockOf; exact (read3 m h c t).symm) t d).trans
    (by unfold Dat.fetched Dat.blockOf; exact read3 m h c t)
theorem before4 (c : Dev nD) (t : Fin (cfgA (T0 m) (T1 m) h).N) (d) : (dats m h 0 c).before (4 : Fin 6) t d = iblk4 m h c t :=
  ((dats m h 0 c).before_in_eq_fetched (4 : Fin 6) rfl (fun _ => rfl) (fun _ _ _ => rfl)
    (fun t => by rw [after4]; unfold Dat.blockOf; exact (read4 m h c t).symm) t d).trans
    (by unfold Dat.fetched Dat.blockOf; exact read4 m h c t)

/-- The body at point `t` on its staging memrefs, as the pipeline calls it. -/
abbrev bodyAt (t : Fin (cfgA (T0 m) (T1 m) h).N) : Prog (TpuEff nD τ sig (Elt F) Λ₀ .tc) PUnit :=
  cc0_expert_ffn (crd m h t) tbl0 (Memref.isWhole_whole _) tbl1 (Memref.isWhole_whole _) (ms0 m h t) (hs0 m h t) (ms1 m h t) (hs1 m h t) (ms2 m h t) (hs2 m h t) (ms3 m h t) (hs3 m h t) (ms4 m h t) (hs4 m h t) (ms5 m h t) (hs5 m h t) scr0 (Memref.isWhole_whole _) scr1 (Memref.isWhole_whole _)

set_option maxHeartbeats 4000000 in
/-- The body obligation at point `t`. -/
theorem sound_body (c : Dev nD) (t : Fin (cfgA (T0 m) (T1 m) h).N) :
    iprop((dats m h 0 c).Φ t.castSucc ∗ (dats m h 0 c).owesAt () t.castSucc
        ∗ (∃ d, owns (c : Thread nD τ) (ms0 m h t) fullShare ((dats m h 0 c).before (0 : Fin 6) t d))
        ∗ (∃ d, owns (c : Thread nD τ) (ms1 m h t) fullShare ((dats m h 0 c).before (1 : Fin 6) t d))
        ∗ (∃ d, owns (c : Thread nD τ) (ms2 m h t) fullShare ((dats m h 0 c).before (2 : Fin 6) t d))
        ∗ (∃ d, owns (c : Thread nD τ) (ms3 m h t) fullShare ((dats m h 0 c).before (3 : Fin 6) t d))
        ∗ (∃ d, owns (c : Thread nD τ) (ms4 m h t) fullShare ((dats m h 0 c).before (4 : Fin 6) t d))
        ∗ (∃ d, owns (c : Thread nD τ) (ms5 m h t) fullShare ((dats m h 0 c).before (5 : Fin 6) t d)))
      ⊢ wp frame (wpE (defs₀ (F := F)) Variants.none c none) Set.univ (bodyAt m h t) fun _ =>
          iprop((dats m h 0 c).Φ t.succ ∗ (dats m h 0 c).owesAt () t.succ
            ∗ bigSep Finset.univ fun w : Fin (cfgA (T0 m) (T1 m) h).W =>
                match (cfgA (T0 m) (T1 m) h).idle w ((cfgA (T0 m) (T1 m) h).grid.coords t) with
                | true =>
                  match ((cfgA (T0 m) (T1 m) h).win w).flush t with
                  | false => iprop(∃ d, owns (c : Thread nD τ) (((cfgA (T0 m) (T1 m) h).win w).stage ((cfgA (T0 m) (T1 m) h).slots t w)) fullShare ((dats m h 0 c).before w t d))
                  | true => owns (c : Thread nD τ) (((cfgA (T0 m) (T1 m) h).win w).stage ((cfgA (T0 m) (T1 m) h).slots t w)) fullShare ((dats m h 0 c).after w t)
                | false => owns (c : Thread nD τ) (((cfgA (T0 m) (T1 m) h).win w).stage ((cfgA (T0 m) (T1 m) h).slots t w)) fullShare ((dats m h 0 c).after w t)) := by
  rw [bigSep_W0]
  rewrite [show (cfgA (T0 m) (T1 m) h).idle (5 : Fin 6) ((cfgA (T0 m) (T1 m) h).grid.coords t) = false from idle_out (T0 m) (T1 m) (crd m h t) 5]
  simp only [before0, before1, before2, before3, before4, after0, after1, after2, after3, after4, after5]
  rewrite [show (dats m h 0 c).Φ t.succ = Phi m h c t.succ from rfl, show (dats m h 0 c).Φ t.castSucc = Phi m h c t.castSucc from rfl,
    show (dats m h 0 c).owesAt () t.succ = (dats m h 0 c).owesAt () t.castSucc from rfl]
  unfold Phi
  iintro ⟨⟨⟨%a0, %a1, %hh, HS0, HS1⟩, HT0, HT1, Hp⟩, Ho, ⟨%d0, H0⟩, ⟨%d1, H1⟩, ⟨%d2, H2⟩, ⟨%d3, H3⟩, ⟨%d4, H4⟩, ⟨%d5, H5⟩⟩
  iapply (body_run c (crd m h t) (ms0 m h t) (hs0 m h t) (ms1 m h t) (hs1 m h t) (ms2 m h t) (hs2 m h t) (ms3 m h t) (hs3 m h t) (ms4 m h t) (hs4 m h t) (ms5 m h t) (hs5 m h t) (T0 m) (T1 m) (iblk0 m h c t) (iblk1 m h c t) (iblk2 m h c t) (iblk3 m h c t) (iblk4 m h c t) a0 a1 _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [H5]; · iexists _; iexact H5
  isplitl [HS0]; · iexact HS0
  isplitl [HS1]; · iexact HS1
  rewrite [(keep_of_held m h c t a0 a1 hh).1, (keep_of_held m h c t a0 a1 hh).2]
  iintro ⟨H0, H1, H2, H3, H4, HT0, HT1, H5, HS0, HS1⟩
  isplitl [HS0 HS1 HT0 HT1 Hp]
  · isplitl [HS0 HS1]
    · iexists _; iexists _; isplitr; swap
      · isplitl [HS0]
        · iexact HS0
        iexact HS1
      · ipureintro
        intro n hn e
        have e' : t = ⟨n, hn⟩ := Fin.ext (Nat.succ.inj e)
        subst e'
        exact ⟨rfl, rfl⟩
    isplitl [HT0]
    · iexact HT0
    isplitl [HT1]
    · iexact HT1
    iexact Hp
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats m h 0 c) (defs₀ (F := F)) Variants.none () Set.univ := fun t => by
  rw [bigSep_W0]
  exact sound_body m h c t

/-! ## The launch -/

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(Pipeline.ΦA spec0 c ∗ Pipeline.ΦT pre0 (adm (T0 m) (T1 m) h).1 c) ⊢ (dats m h 0 c).Φ 0 := by
  unfold Pipeline.ΦT
  rw [prefHeld_eq, show (dats m h 0 c).Φ 0 = Phi m h c 0 from rfl]
  unfold Phi Pipeline.ΦA
  rw [scopedRest0_eq]
  iintro ⟨⟨⟨⟨%a0, HS0⟩, ⟨%a1, HS1⟩⟩, Hp⟩, ⟨HT0, HT1⟩⟩
  isplitl [HS0 HS1]
  · iexists a0; iexists a1; isplitr; swap
    · isplitl [HS0]
      · iexact HS0
      iexact HS1
    · ipureintro; intro n hn e; exact absurd e (Nat.succ_ne_zero n).symm
  isplitl [HT0]
  · iexact HT0
  isplitl [HT1]
  · iexact HT1
  iexact Hp

theorem phiN_exit (c : Dev nD) : (dats m h 0 c).Φ (Fin.last (cfgA (T0 m) (T1 m) h).N) ⊢ Pipeline.ΦA spec0 c := by
  rw [show (dats m h 0 c).Φ (Fin.last (cfgA (T0 m) (T1 m) h).N) = Phi m h c (Fin.last _) from rfl]
  unfold Phi Pipeline.ΦA
  rw [scopedRest0_eq]
  iintro ⟨⟨%a0, %a1, -, HS0, HS1⟩, -, -, Hp⟩
  isplitl [HS0 HS1]
  · isplitl [HS0]
    · iexists a0; iexact HS0
    iexists a1; iexact HS1
  iexact Hp

theorem V_pre (c : Dev nD) (j : Fin 2) : V m c (pre0.ref j) = (adm (T0 m) (T1 m) h).1 j := by
  rw [dev_eq c]
  fin_cases j
  · exact V_main_arg1 m c₀
  · exact V_main_arg2 m c₀

set_option backward.isDefEq.respectTransparency.types false in
set_option maxHeartbeats 4000000 in
/-- Every weakly fair execution of @main terminates, with each array at the computed contents, every other buffer as it
    was where the region started, and every semaphore counter at zero. -/
theorem run_main_quiescent : θ_run (defs (F := F)) (onTc (τ := τ) (main (F := F))) ⟨m, fun _ => 0, ρ⟩
    (fun r => Pipeline.FramePost (pcs (T0 m) (T1 m) h) (dats m h) 0 (V m) r ∧ r.2.sem = fun _ => 0) :=
  Pipeline.θ_run_frameP_track (Q' := _) pcfgs (fun _ => adm (T0 m) (T1 m) h) (dats m h) 0 (launch0 (F := F)) defs₀ Variants.none m ρ main
    (hbody := fun c => (body_obligation m h c).loose) (hshare := fun c => (dats m h 0 c).share_full fun _ => rfl)
    (howed := fun _ _ => rfl) (V := V m) (hmain := hmain m Variants.none) (hA := fun _ _ => rfl)
    (hpf := V_pre m h) (hin := phi0_intro m h) (hout := phiN_exit m h)

theorem run_main : θ_run (defs (F := F)) (onTc (τ := τ) (main (F := F))) ⟨m, fun _ => 0, ρ⟩
    (fun r => Pipeline.FramePost (pcs (T0 m) (T1 m) h) (dats m h) 0 (V m) r) :=
  (θ_run defs _ _).mono (fun _ h => h.1) (run_main_quiescent m ρ h)

theorem rest1 : main_arg1 ∈ Pipeline.restRefs sig spec0 := Pipeline.mem_restRefs_of main_arg1 (by decide) (by decide)
theorem rest2 : main_arg2 ∈ Pipeline.restRefs sig spec0 := Pipeline.mem_restRefs_of main_arg2 (by decide) (by decide)
theorem rest4 : main_arg4 ∈ Pipeline.restRefs sig spec0 := Pipeline.mem_restRefs_of main_arg4 (by decide) (by decide)
theorem rest6 : main_arg6 ∈ Pipeline.restRefs sig spec0 := Pipeline.mem_restRefs_of main_arg6 (by decide) (by decide)

include h in
/-- The argument arrays end unchanged. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ g => ⟨fun c => ⟨((g.1 c).1 (0 : Fin 6)).trans (((dats m h 0 c).arrAt_in (0 : Fin 6) rfl _).trans (V_main_arg0 m c)),
    ((g.1 c).2 main_arg1 rest1).trans (V_main_arg1 m c),
    ((g.1 c).2 main_arg2 rest2).trans (V_main_arg2 m c),
    ((g.1 c).1 (1 : Fin 6)).trans (((dats m h 0 c).arrAt_in (1 : Fin 6) rfl _).trans (V_main_arg3 m c)),
    ((g.1 c).2 main_arg4 rest4).trans (V_main_arg4 m c),
    ((g.1 c).1 (3 : Fin 6)).trans (((dats m h 0 c).arrAt_in (3 : Fin 6) rfl _).trans (V_main_arg5 m c)),
    ((g.1 c).2 main_arg6 rest6).trans (V_main_arg6 m c)⟩, g.2⟩) (run_main_quiescent m ρ h)

end Cert.Kernel2Ideal.Ffn

end

end
-- ==== Proof.FfnPre.lean ====
/- The precondition on the tables: every block's expert is one of the 32, and at least one block is in use. -/
module

public import proofs.«01_k».proof.Proof.FfnTab
public import proofs.«01_k».proof.Proof.Gen.Pre_routed
public import Idealize.ShloMosaic.Lib.ReduceAll

@[expose] public section

set_option maxRecDepth 16384

noncomputable section

namespace Cert.Kernel2Ideal.Ffn

open Cert.Kernel2Ideal
open Idealize.ShloMosaic Idealize.SL.Sem

instance : Subsingleton Cert.Pre_routed.S_.Idx := ⟨fun a b => funext fun i => i.elim0⟩

instance : Subsingleton Cert.Pre_routed.S1.Idx := ⟨fun a b => funext fun i => by
  fin_cases i; exact Subsingleton.elim (α := Fin 1) _ _⟩

theorem bit_and (a b : BitVec 1) (h : a &&& b = 1#1) : a = 1#1 ∧ b = 1#1 := by revert a b; decide

theorem inRange_of_pre {F : FTy → Type} [FloatOps F] (x0 : FVec F Cert.Pre_routed.S278528x1024 .f32) (T0 : IVec Cert.Pre_routed.S544 32) (T1 : IVec Cert.Pre_routed.S1 32)
    (x3 : FVec F Cert.Pre_routed.S4x32x1024x2048 .f32) (x4 : FVec F Cert.Pre_routed.S32x2048 .f32) (x5 : FVec F Cert.Pre_routed.S4x32x1024x1024 .f32) (x6 : FVec F Cert.Pre_routed.S32x1024 .f32)
    (h : Cert.Pre_routed.fn x0 T0 T1 x3 x4 x5 x6 = constantI Cert.Pre_routed.S_ 1 1#1) : InRange T0 T1 := by
  have e : Cert.Pre_routed.fn x0 T0 T1 x3 x4 x5 x6 (fun i => i.elim0) = 1#1 := congrFun h _
  dsimp only [Cert.Pre_routed.fn] at e
  obtain ⟨e0, e1⟩ := bit_and _ _ e
  constructor
  · intro x
    have hx := Host.reduce_andi_all _ _ _ _ _ e0 x
    obtain ⟨ha, hb⟩ := bit_and _ _ hx
    have ha' : BitVec.ofBool ((0#32).sle (T0 x)) = 1#1 := ha
    have hb' : BitVec.ofBool ((T0 x).slt 32#32) = 1#1 := hb
    rw [ofBool_iff] at ha' hb'
    simp only [BitVec.sle, BitVec.slt, decide_eq_true_eq] at ha' hb'
    have h32 : (32#32).toInt = 32 := by decide
    have h0 : (0#32).toInt = 0 := by decide
    rw [h32] at hb'
    rw [h0] at ha'
    rw [BitVec.toInt_eq_toNat_cond] at ha' hb'
    split at ha' <;> omega
  · have e1' : BitVec.ofBool ((1#32).sle (T1 nIdx)) = 1#1 := by
      refine Eq.trans ?_ e1
      exact congrArg (fun x => BitVec.ofBool ((1#32).sle (T1 x))) (Subsingleton.elim _ _)
    rw [ofBool_iff] at e1'
    simp only [BitVec.sle, decide_eq_true_eq] at e1'
    exact e1'

end Cert.Kernel2Ideal.Ffn

end
-- ==== Proof.FfnMain.lean ====
/- The frames of the expert kernel, at the machine's words and at the extended reals. -/
module

public import proofs.«01_k».proof.Defs
public import proofs.«01_k».proof.Proof.FfnFrame
public import proofs.«01_k».proof.Proof.FfnPre
public import proofs.«01_k».proof.Proof.Gen.Kernel2
public import proofs.«01_k».proof.Proof.Gen.Kernel2Ideal
public import proofs.«01_k».proof.Proof.Gen.Pre_routed

@[expose] public section

noncomputable section

namespace Cert.FfnMain

open Idealize.ShloMosaic Idealize.SL.Sem

theorem frame_ideal : Cert.quiescent_Kernel2Ideal := fun m ρ h =>
  Cert.Kernel2Ideal.Ffn.frame m ρ (Cert.Kernel2Ideal.Ffn.inRange_of_pre _ _ _ _ _ _ _ (h Cert.Kernel2Ideal.Ffn.c₀))

/-! ## The two printed programs have one text -/

section
variable {F : FTy → Type} [FloatOps F]

set_option maxHeartbeats 1000000 in
theorem defs₀_eq : Cert.Kernel2.defs₀ (F := F) = Cert.Kernel2Ideal.defs₀ (F := F) := by
  unfold Cert.Kernel2.defs₀ Cert.Kernel2Ideal.defs₀
  refine congrArg (Defs.onTc (nD := Cert.Kernel2Ideal.nD) (τ := Cert.Kernel2Ideal.τ) (sig := Cert.Kernel2Ideal.sig)
    (Λ := Cert.Kernel2Ideal.Λ₀)) (funext fun l => funext fun a => ?_)
  match l, a with
  | ⟨0, _⟩, (t, s) => rfl
  | ⟨n + 1, h⟩, _ => exact absurd h (Nat.not_lt.2 (Nat.le_add_left _ _))

theorem defs_eq : Cert.Kernel2.defs (F := F) = Cert.Kernel2Ideal.defs (F := F) :=
  congrArg (Pipeline.defs (Cert.Kernel2Ideal.pcfgs (F := F))) defs₀_eq

theorem main_eq : Cert.Kernel2.main (F := F) = Cert.Kernel2Ideal.main (F := F) := rfl
end

theorem frame_bits : Cert.quiescent_Kernel2 := by
  intro m ρ h
  have hr := Cert.Kernel2Ideal.Ffn.inRange_of_pre _ _ _ _ _ _ _ (h Cert.Kernel2Ideal.Ffn.c₀)
  have hf := Cert.Kernel2Ideal.Ffn.frame (F := Bits) m ρ hr
  rw [← defs_eq, ← main_eq] at hf
  exact hf

end Cert.FfnMain

end
-- ==== Proof.FfnSpec.lean ====
/- One row of an expert's feed-forward network, over the extended reals. -/
module

public import Idealize.ShloMosaic.Lib.ValueIdx

@[expose] public section

noncomputable section

namespace Cert.FfnSpec

open Idealize.ShloMosaic

/-- The columns of the first product that gate, and those that are gated. -/
abbrev lo (f : Fin 1024) : Fin 2048 := ⟨f.val, by have := f.isLt; omega⟩
abbrev hi (f : Fin 1024) : Fin 2048 := ⟨1024 + f.val, by have := f.isLt; omega⟩

/-- The first product's column `f` of the row `x`. -/
def hid (x : Fin 1024 → EReal) (w : Fin 1024 → Fin 2048 → EReal) (b : Fin 2048 → EReal) (f : Fin 2048) : EReal :=
  (∑ d : Fin 1024, x d * w d f) + b f

/-- The gate. -/
def gate (g : EReal) : EReal := min g (Ideal.ofBits .f32 0x40E00000#32)

/-- The clamped gated unit. -/
def swiglu (g l : EReal) : EReal :=
  gate g * Ideal.div (1)
      (1 + Ideal.exp (-(Ideal.ofBits .f32 0x3FD9DB23#32 * gate g)))
    * (min (Ideal.ofBits .f32 0x40E00000#32) (max (Ideal.ofBits .f32 0xC0E00000#32) l) + 1)

/-- The row's result at column `j`. -/
def ffn (x : Fin 1024 → EReal) (w : Fin 1024 → Fin 2048 → EReal) (b : Fin 2048 → EReal) (w' : Fin 1024 → Fin 1024 → EReal)
    (b' : Fin 1024 → EReal) (j : Fin 1024) : EReal :=
  (∑ f : Fin 1024, swiglu (hid x w b (lo f)) (hid x w b (hi f)) * w' f j) + b' j

theorem ffn_congr {x y : Fin 1024 → EReal} {w v : Fin 1024 → Fin 2048 → EReal} {b a : Fin 2048 → EReal}
    {w' v' : Fin 1024 → Fin 1024 → EReal} {b' a' : Fin 1024 → EReal} (hx : x = y) (hw : w = v) (hb : b = a) (hw' : w' = v')
    (hb' : b' = a') (j : Fin 1024) : ffn x w b w' b' j = ffn y v a v' a' j := by
  subst hx hw hb hw' hb'; rfl

end Cert.FfnSpec

end
-- ==== Proof.FfnPay.lean ====
/- What the expert kernel's body stores, at an index. -/
module

public import proofs.«01_k».proof.Proof.FfnOut
public import proofs.«01_k».proof.Proof.FfnSpec
public import Idealize.ShloMosaic.Lib.Pipeline.ValueKit

@[expose] public section

set_option maxRecDepth 16384

noncomputable section

namespace Cert.FfnPay

open Idealize.ShloMosaic Idealize.ShloMosaic.TcCoe Idealize.SL.Sem
open Cert.Kernel2Ideal Cert.Kernel2Ideal.Gen Cert.FfnSpec
open Cert.Kernel2Ideal.Ffn (actOut winL winR winBL winBR)

theorem pay1_at (x : Vec Ideal S1x1x1024x2048 .f32) (d : Fin 1024) (f : Fin 2048) : k0_pay1 x (ix2 d f) = x (ix4 0 0 d f) := by
  pointwise [k0_pay1]

theorem pay2_at (x : Vec Ideal S1x1x1024x1024 .f32) (f : Fin 1024) (j : Fin 1024) : k0_pay2 x (ix2 f j) = x (ix4 0 0 f j) := by
  pointwise [k0_pay2]

theorem pay4_at (i : S512x1024.Idx) : k0_pay4 (F := Ideal) i = Ideal.ofBits .f32 0x00000000#32 := rfl

theorem pay5_at (x : Vec Ideal S512x1024 .f32) (wl : Vec Ideal S1024x1024 .bf16) (bl : Vec Ideal S1x1x1024 .f32)
    (wr : Vec Ideal S1024x1024 .bf16) (br : Vec Ideal S1x1x1024 .f32) (r : Fin 512) (f : Fin 1024) :
    k0_pay5 x wl bl wr br (ix2 r f)
      = swiglu ((∑ d : Fin 1024, x (ix2 r d) * wl (ix2 d f)) + bl (ix3 0 0 f)) ((∑ d : Fin 1024, x (ix2 r d) * wr (ix2 d f)) + br (ix3 0 0 f)) := by
  pointwise [k0_pay5]
  unfold swiglu gate
  simp only [sub_eq_add_neg, zero_add]

theorem pay3_at (v : FVec Ideal S512x1024 .bf16) (w : Vec Ideal S1024x1024 .bf16) (b : Vec Ideal S1x1x1024 .f32) (r : Fin 512) (j : Fin 1024) :
    k0_pay3 v w (constant S512x1024 .f32 0x00000000#32) b (ix2 r j) = (∑ f : Fin 1024, v (ix2 r f) * w (ix2 f j)) + b (ix3 0 0 j) := by
  pointwise [k0_pay3]

theorem winL_at (w : S1024x2048.Idx → EReal) (d f : Fin 1024) : winL (F := Ideal) w (ix2 d f) = w (ix2 d (lo f)) :=
  congrArg w (funext fun a => Fin.ext (by fin_cases a <;> simp))
theorem winR_at (w : S1024x2048.Idx → EReal) (d f : Fin 1024) : winR (F := Ideal) w (ix2 d f) = w (ix2 d (hi f)) :=
  congrArg w (funext fun a => Fin.ext (by fin_cases a <;> simp))
theorem winBL_at (b : S1x1x2048.Idx → EReal) (f : Fin 1024) : winBL (F := Ideal) b (ix3 0 0 f) = b (ix3 0 0 (lo f)) :=
  congrArg b (funext fun a => Fin.ext (by fin_cases a <;> simp))
theorem winBR_at (b : S1x1x2048.Idx → EReal) (f : Fin 1024) : winBR (F := Ideal) b (ix3 0 0 f) = b (ix3 0 0 (hi f)) :=
  congrArg b (funext fun a => Fin.ext (by fin_cases a <;> simp))

theorem actOut_at (x : S512x1024.Idx → EReal) (w : S1x1x1024x2048.Idx → EReal) (b : S1x1x2048.Idx → EReal)
    (w' : S1x1x1024x1024.Idx → EReal) (b' : S1x1x1024.Idx → EReal) (r : Fin 512) (j : Fin 1024) :
    actOut (F := Ideal) x (k0_pay1 (F := Ideal) w) b (k0_pay2 (F := Ideal) w') b' (ix2 r j)
      = ffn (fun d => x (ix2 r d)) (fun d f => w (ix4 0 0 d f)) (fun f => b (ix3 0 0 f)) (fun f j => w' (ix4 0 0 f j)) (fun j => b' (ix3 0 0 j)) j := by
  unfold actOut ffn hid
  refine (pay3_at _ _ _ r j).trans (congrArg (· + b' (ix3 0 0 j)) (Finset.sum_congr rfl fun f _ => ?_))
  refine congrArg₂ (· * ·) ((pay5_at _ _ _ _ _ r f).trans (congrArg₂ swiglu ?_ ?_)) (pay2_at w' f j)
  · refine congrArg₂ (· + ·) (Finset.sum_congr rfl fun d _ => congrArg (x (ix2 r d) * ·) ?_) (winBL_at b f)
    exact (winL_at _ d f).trans (pay1_at w d (lo f))
  · refine congrArg₂ (· + ·) (Finset.sum_congr rfl fun d _ => congrArg (x (ix2 r d) * ·) ?_) (winBR_at b f)
    exact (winR_at _ d f).trans (pay1_at w d (hi f))

end Cert.FfnPay

end
-- ==== Proof.FfnGoal.lean ====
/- The experts' result array, from the argument arrays. -/
module

public import proofs.«01_k».proof.Proof.FfnSpec
public import Idealize.ShloMosaic.Lib.Pipeline.ValueKit

@[expose] public section

noncomputable section

namespace Cert.FfnGoal

open Idealize.ShloMosaic Cert.FfnSpec

/-- Row `r` of block `t`. -/
abbrev row (t : Fin 544) (r : Fin 512) : Fin 278528 := ⟨t.val * 512 + r.val, by have := t.isLt; have := r.isLt; omega⟩

theorem row_surj (n : Fin 278528) : ∃ t r, n = row t r :=
  ⟨⟨n.val / 512, by have := n.isLt; omega⟩, ⟨n.val % 512, by omega⟩, Fin.ext (by show n.val = n.val / 512 * 512 + n.val % 512; omega)⟩

variable (X : (⟨2, ![278528, 1024]⟩ : Shape).Idx → EReal) (T0 : (⟨1, ![544]⟩ : Shape).Idx → BitVec 32)
  (T1 : (⟨1, ![1]⟩ : Shape).Idx → BitVec 32) (W1 : (⟨4, ![4, 32, 1024, 2048]⟩ : Shape).Idx → EReal)
  (B1 : (⟨2, ![32, 2048]⟩ : Shape).Idx → EReal) (W2 : (⟨4, ![4, 32, 1024, 1024]⟩ : Shape).Idx → EReal)
  (B2 : (⟨2, ![32, 1024]⟩ : Shape).Idx → EReal)

/-- Block `t`'s expert. -/
abbrev expert (t : Fin 544) : Fin 32 := ⟨min (T0 (ix1 t)).toNat 31, by omega⟩

/-- Block `t` is in use. -/
def Used (t : Fin 544) : Prop := (BitVec.ofNat 32 t.val).toInt < (T1 (ix1 0)).toInt

instance (t : Fin 544) : Decidable (Used T1 t) := inferInstanceAs (Decidable (_ < _))

/-- A row of a block in use through its block's expert. -/
def through (t : Fin 544) (r : Fin 512) (j : Fin 1024) : EReal :=
  ffn (fun d => X (ix2 (row t r) d)) (fun d f => W1 (ix4 0 (expert T0 t) d f)) (fun f => B1 (ix2 (expert T0 t) f))
    (fun f k => W2 (ix4 0 (expert T0 t) f k)) (fun k => B2 (ix2 (expert T0 t) k)) j

def entry (t : Fin 544) (r : Fin 512) (j : Fin 1024) : EReal := if Used T1 t then through X T0 W1 B1 W2 B2 t r j else 0

/-- The result array. -/
def G : (⟨2, ![278528, 1024]⟩ : Shape).Idx → EReal := fun i =>
  entry X T0 T1 W1 B1 W2 B2 ⟨(i 0).val / 512, by have : (i 0).val < 278528 := (i 0).isLt; omega⟩
    ⟨(i 0).val % 512, by omega⟩ ⟨(i 1).val, (i 1).isLt⟩

theorem G_at (t : Fin 544) (r : Fin 512) (j : Fin 1024) :
    G X T0 T1 W1 B1 W2 B2 (ix2 (row t r) j) = entry X T0 T1 W1 B1 W2 B2 t r j := by
  have ht : (⟨(row t r).val / 512, by have := (row t r).isLt; omega⟩ : Fin 544) = t :=
    Fin.ext (by have := r.isLt; show (t.val * 512 + r.val) / 512 = t.val; omega)
  have hr : (⟨(row t r).val % 512, by omega⟩ : Fin 512) = r :=
    Fin.ext (by have := r.isLt; show (t.val * 512 + r.val) % 512 = r.val; omega)
  show entry X T0 T1 W1 B1 W2 B2 ⟨(row t r).val / 512, _⟩ ⟨(row t r).val % 512, _⟩ j = _
  rw [ht, hr]

end Cert.FfnGoal

end
-- ==== Proof.FfnFinal.lean ====
/- The expert kernel's result array: each grid point leaves its block of the array of `FfnGoal`. -/
module

public import proofs.«01_k».proof.Proof.FfnFrame
public import proofs.«01_k».proof.Proof.FfnPay
public import proofs.«01_k».proof.Proof.FfnGoal
public import Idealize.ShloMosaic.Lib.Pipeline.Covers

@[expose] public section

set_option maxRecDepth 16384

noncomputable section

namespace Cert.FfnFinal

open Idealize.ShloMosaic Idealize.ShloMosaic.TcCoe Idealize.SL.Sem
open Idealize.ShloMosaic.Pipeline (Dat)
open Cert.Kernel2Ideal Cert.Kernel2Ideal.Gen Cert.Kernel2Ideal.Ffn Cert.FfnSpec Cert.FfnGoal Cert.FfnPay

variable (m : (ℓ : Loc nD τ sig) → Buf (Elt Ideal) ℓ) (h : InRange (T0 m) (T1 m)) (c : Dev nD)

/-! ## The operands the host prepares -/

theorem entry0 : V m c main_v0 = broadcastInDim S32x1x2048 ![0, 2] bcast_S32x2048_S32x1x2048_0_2 (m ((c : Thread nD τ).loc main_arg4)) := by
  show StableHlo.after _ _ _ = _
  simp only [hostOps0]
  after_results_simp

theorem entry1 : V m c main_v1 = broadcastInDim S32x1x1024 ![0, 2] bcast_S32x1024_S32x1x1024_0_2 (m ((c : Thread nD τ).loc main_arg6)) := by
  show StableHlo.after _ _ _ = _
  simp only [hostOps0]
  after_results_simp

theorem bc0_at (B : FVec Ideal S32x2048 .f32) (e : Fin 32) (f : Fin 2048) :
    broadcastInDim S32x1x2048 ![0, 2] bcast_S32x2048_S32x1x2048_0_2 B (ix3 e 0 f) = B (ix2 e f) := by
  pointwise

theorem bc1_at (B : FVec Ideal S32x1024 .f32) (e : Fin 32) (f : Fin 1024) :
    broadcastInDim S32x1x1024 ![0, 2] bcast_S32x1024_S32x1x1024_0_2 B (ix3 e 0 f) = B (ix2 e f) := by
  pointwise

/-! ## A block -/

theorem pay4_zero (r : Fin 512) (j : Fin 1024) : k0_pay4 (F := Ideal) (ix2 r j) = 0 := by
  pointwise [k0_pay4]

theorem nIdx_eq : nIdx = ix1 0 := by
  funext a; fin_cases a; rfl

theorem eIdx_eq (n : Fin 544) : eIdx n = ix1 n := by
  funext a; fin_cases a; rfl

theorem small (n : ℕ) (hn : n < 544) : (BitVec.ofNat 32 n).toInt = n := by
  rw [BitVec.toInt_eq_toNat_cond, BitVec.toNat_ofNat]; omega

theorem cond_iff (t : Fin (cfgA (T0 m) (T1 m) h).N) (n : Fin 544) (hn : n.val = t.val) :
    k0_cond2 (crd m h t) (rdN (T1 m)) = 1#1 ↔ Used (T1 m) n := by
  rw [cond2_iff, rdN_eq, nIdx_eq, crd_val, ← hn]
  exact Iff.rfl

theorem rb_used (t : Fin (cfgA (T0 m) (T1 m) h).N) (n : Fin 544) (hn : n.val = t.val) (hu : Used (T1 m) n) :
    min (rb m h t) 543 = n.val := by
  have hr : rb m h t = _ := rowBlk_eq (T0 m) (T1 m) h (crd m h t)
  have hv := crd_val m h t
  have hlt := n.isLt
  unfold Used at hu
  rw [small n.val n.isLt, ← nIdx_eq] at hu
  have hu' : (n.val : Int) < (T1 m nIdx : BitVec 32).toInt := hu
  rw [hr, hv, ← hn]
  omega

theorem ex_eq (t : Fin (cfgA (T0 m) (T1 m) h).N) (n : Fin 544) (hn : n.val = t.val) :
    min (ex m h t) 31 = (expert (T0 m) n).val := by
  have : crd m h t 0 = n := Fin.ext ((crd_val m h t).trans hn.symm)
  show min (T0 m (eIdx (crd m h t 0)) : BitVec 32).toNat 31 = min (T0 m (ix1 n) : BitVec 32).toNat 31
  rw [this, eIdx_eq]

theorem src0_eq (e : ℕ) (n : Fin 544) (he : min e 543 = n.val) (r : Fin 512) (d : Fin 1024) : src0 e (ix2 r d) = ix2 (row n r) d := by
  funext a
  fin_cases a
  · exact Fin.ext (congrArg (· * 512 + r.val) he)
  · rfl

theorem src1_eq (e : ℕ) (n : Fin 32) (he : min e 31 = n.val) (d : Fin 1024) (f : Fin 2048) : src1 e (ix4 0 0 d f) = ix4 0 n d f := by
  funext a
  fin_cases a
  · rfl
  · exact Fin.ext he
  · rfl
  · rfl

theorem src2_eq (e : ℕ) (n : Fin 32) (he : min e 31 = n.val) (f : Fin 2048) : src2 e (ix3 0 0 f) = ix3 n 0 f := by
  funext a
  fin_cases a
  · exact Fin.ext he
  · rfl
  · rfl

theorem src3_eq (e : ℕ) (n : Fin 32) (he : min e 31 = n.val) (d : Fin 1024) (f : Fin 1024) : src3 e (ix4 0 0 d f) = ix4 0 n d f := by
  funext a
  fin_cases a
  · rfl
  · exact Fin.ext he
  · rfl
  · rfl

theorem src4_eq (e : ℕ) (n : Fin 32) (he : min e 31 = n.val) (f : Fin 1024) : src4 e (ix3 0 0 f) = ix3 n 0 f := by
  funext a
  fin_cases a
  · exact Fin.ext he
  · rfl
  · rfl

abbrev goal : (⟨2, ![278528, 1024]⟩ : Shape).Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem outA_at (t : Fin (cfgA (T0 m) (T1 m) h).N) (n : Fin 544) (hn : n.val = t.val) (r : Fin 512) (j : Fin 1024) :
    outA m h c t (ix2 r j) = goal m c (ix2 (row n r) j) := by
  rw [goal, G_at]
  obtain rfl : c = c₀ := dev_eq c
  unfold entry outA
  by_cases hu : Used (T1 m) n
  · rw [if_pos hu]
    refine (congrFun (if_pos ((cond_iff m h t n hn).mpr hu)) _).trans ((actOut_at _ _ _ _ _ r j).trans (ffn_congr ?_ ?_ ?_ ?_ ?_ j))
    · funext d
      exact (congrArg _ (src0_eq _ n (rb_used m h t n hn hu) r d)).trans (congrFun (V_main_arg0 m c₀) _)
    · funext d f
      exact (congrArg _ (src1_eq _ _ (ex_eq m h t n hn) d f)).trans (congrFun (V_main_arg3 m c₀) _)
    · funext f
      exact (congrArg _ (src2_eq _ _ (ex_eq m h t n hn) f)).trans ((congrFun (entry0 m c₀) _).trans (bc0_at _ _ f))
    · funext d f
      exact (congrArg _ (src3_eq _ _ (ex_eq m h t n hn) d f)).trans (congrFun (V_main_arg5 m c₀) _)
    · funext f
      exact (congrArg _ (src4_eq _ _ (ex_eq m h t n hn) f)).trans ((congrFun (entry1 m c₀) _).trans (bc1_at _ _ f))
  · rw [if_neg hu]
    exact (congrFun (if_neg fun hc => hu ((cond_iff m h t n hn).mp hc)) _).trans (pay4_zero r j)

/-! ## The array -/

theorem nblk0 : ((cfgA (T0 m) (T1 m) h).win (5 : Fin 6)).nblk (0 : Fin 2) = 544 := by
  show (278528 + 512 - 1) / 512 = 544
  norm_num
theorem nblk1 : ((cfgA (T0 m) (T1 m) h).win (5 : Fin 6)).nblk (1 : Fin 2) = 1 := by
  show (1024 + 1024 - 1) / 1024 = 1
  norm_num

theorem covers : ((cfgA (T0 m) (T1 m) h).win (5 : Fin 6)).Covers := by
  refine ((cfgA (T0 m) (T1 m) h).win (5 : Fin 6)).covers_of_indexMap_surj rfl (fun a => ?_) fun β => ?_
  · match a with
    | ⟨0, _⟩ => show 0 < 512; omega
    | ⟨1, _⟩ => show 0 < 1024; omega
  · have h0 : (β (0 : Fin 2)).val < 544 := lt_of_lt_of_eq (β (0 : Fin 2)).isLt (nblk0 m h)
    have h1 : (β (1 : Fin 2)).val < 1 := lt_of_lt_of_eq (β (1 : Fin 2)).isLt (nblk1 m h)
    refine ⟨fun a => match a with | ⟨0, _⟩ => ⟨(β (0 : Fin 2)).val, h0⟩, fun a => ?_⟩
    match a with
    | ⟨0, _⟩ =>
      show (BitVec.ofNat 32 (β (0 : Fin 2)).val).toNat = (β (0 : Fin 2)).val
      rw [BitVec.toNat_ofNat]; omega
    | ⟨1, _⟩ =>
      show 0 = (β (1 : Fin 2)).val
      omega

theorem emb_eq (t : Fin (cfgA (T0 m) (T1 m) h).N) (n : Fin 544) (hn : n.val = t.val) (r : Fin 512) (j : Fin 1024) :
    (((cfgA (T0 m) (T1 m) h).win (5 : Fin 6)).blk t).view.emb (ix2 r j) = ix2 (row n r) j := by
  have hv := crd_val m h t
  funext a
  match a with
  | ⟨0, _⟩ =>
    refine Fin.ext ?_
    show (BitVec.ofNat 32 (crd m h t 0).val).toNat * 512 + 1 * r.val = n.val * 512 + r.val
    have := n.isLt
    rw [hv, ← hn, BitVec.toNat_ofNat]; omega
  | ⟨1, _⟩ =>
    refine Fin.ext ?_
    show 0 * 1024 + 1 * j.val = j.val
    omega

theorem N_eq : (cfgA (T0 m) (T1 m) h).N = 544 := N_0

theorem final : (dats m h 0 c).arrAt (5 : Fin 6) (cfgA (T0 m) (T1 m) h).N = goal m c := by
  refine (dats m h 0 c).arrAt_eq_of_covers (5 : Fin 6) _ (covers m h) fun t _ y => ?_
  blk_simp
  rw [after5]
  have key : ∀ y : S512x1024.Idx, outA m h c t y = goal m c ((((cfgA (T0 m) (T1 m) h).win (5 : Fin 6)).blk t).view.emb y) := by
    intro y
    idx_vars y
    have ht : t.val < 544 := lt_of_lt_of_eq t.isLt (N_eq m h)
    exact (outA_at m h c t ⟨t.val, ht⟩ rfl y0 y1).trans (congrArg (goal m c) (emb_eq m h t ⟨t.val, ht⟩ rfl y0 y1).symm)
  exact key y

end Cert.FfnFinal

end
-- ==== Proof.FfnGather.lean ====
/- Whole slabs of a stack gathered by a list of slab numbers. -/
module

public import Idealize.ShloMosaic.Lib.Routing.Ops
public import Idealize.ShloMosaic.Lib.Pipeline.ValueKit

@[expose] public section

noncomputable section

namespace Cert.FfnGather

open Idealize.ShloMosaic Idealize.ShloMosaic.Routing

variable {α : Type}

/-- The gather of `n` slabs of a stack of `N` slabs `A` by `B`. -/
abbrev slabDims (N A B n : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Slab `c` of the result is the slab that entry `c` of the list names. -/
theorem gather_slab {N A B n : Nat} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (c : Fin n) (p : Fin A) (q : Fin B) (b : Fin N)
    (hb : idx (ix2 c (0 : Fin 1)) = BitVec.ofNat 32 b.val) (hN : N < 2 ^ 31) :
    Host.gather (slabDims N A B n wf) x idx (ix3 c p q) = x (ix3 b p q) := by
  unfold Host.gather
  refine congrArg x (funext fun a => Fin.ext ?_)
  show (slabDims N A B n wf).start (ix3 c p q) idx a + (slabDims N A B n wf).batchCoord (ix3 c p q) a
      + (slabDims N A B n wf).offCoord (ix3 c p q) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 3) ∈ (slabDims N A B n wf).startIndexMap from List.mem_singleton.mpr rfl)]
    have hsi : (slabDims N A B n wf).siIdx (ix3 c p q) ⟨List.idxOf (0 : Fin 3) (slabDims N A B n wf).startIndexMap,
        List.idxOf_lt_length_iff.2 (List.mem_singleton.mpr rfl)⟩ = ix2 c (0 : Fin 1) := by
      funext b; refine Fin.ext ?_
      match b with
      | ⟨0, _⟩ => rfl
      | ⟨1, _⟩ => rfl
    have hbl := b.isLt
    refine (congrArg (fun v : BitVec 32 => min v.toInt.toNat (N - 1)) ((congrArg idx hsi).trans hb)).trans ?_
    show min (BitVec.ofNat 32 b.val).toInt.toNat (N - 1) = b.val
    rw [StableHlo.Predicate.toInt_ofNat_small _ (by omega)]
    omega
  | ⟨1, _⟩ =>
    have hm : (⟨1, by decide⟩ : Fin 3) ∉ ([0] : List (Fin 3)) := by decide
    unfold GatherDims.start
    rw [dif_neg hm]
    simp only [Nat.zero_add, Nat.add_zero]
    rfl
  | ⟨2, _⟩ =>
    have hm : (⟨2, by decide⟩ : Fin 3) ∉ ([0] : List (Fin 3)) := by decide
    unfold GatherDims.start
    rw [dif_neg hm]
    simp only [Nat.zero_add, Nat.add_zero]
    rfl

end Cert.FfnGather

end
-- ==== Proof.FfnStages.lean ====
/- The reference's result, stage by stage. -/
module

public import proofs.«01_k».proof.Proof.Gen.Reference2Ideal.Run
public import Idealize.ShloMosaic.Lib.Pipeline.ValueKit

@[expose] public section

set_option maxRecDepth 16384

noncomputable section

namespace Cert.FfnStages

open Idealize.ShloMosaic Idealize.ShloMosaic.TcCoe Idealize.SL.Sem
open Cert.Reference2Ideal Cert.Reference2Ideal.Gen

/-! ## The reference's stages -/

/-- The list of slab numbers, a negative number counting from the end. -/
def slabs (T0 : IVec S544 32) : IVec S544x1 32 :=
  broadcastInDim S544x1 ![0] bcast_S544_S544x1_0 (select (cmpi .slt T0 (broadcastInDim S544 ![] bcast_S_S544 (constantI S_ 32 0#32)))
    (addi T0 (broadcastInDim S544 ![] bcast_S_S544 (constantI S_ 32 32#32))) T0)

def hidRows (X : FVec Ideal S278528x1024 .f32) (W1 : FVec Ideal S4x32x1024x2048 .f32) (B1 : FVec Ideal S32x2048 .f32)
    (l : IVec S544x1 32) : FVec Ideal S544x512x2048 .f32 :=
  addf (Host.dotGeneral dot_S544x512x1024_S544x1024x2048_S544x512x2048_2_1_1_2_0_0 none
      (shapeCast _ X shapeCasts_S278528x1024_S544x512x1024)
      (Host.gather gather_S32x1024x2048_S544x1_S544x1024x2048_12_0_n_n_0_1_110242048
        (shapeCast _ (extractStridedSlice S1x32x1024x2048 ![0, 0, 0, 0] W1 slices_S4x32x1024x2048_S1x32x1024x2048_0_0_0_0)
          shapeCasts_S1x32x1024x2048_S32x1024x2048) l))
    (broadcastInDim S544x512x2048 ![0, 1, 2] bcast_S544x1x2048_S544x512x2048_0_1_2
      (broadcastInDim S544x1x2048 ![0, 2] bcast_S544x2048_S544x1x2048_0_2
        (Host.gather gather_S32x2048_S544x1_S544x2048_1_0_n_n_0_1_12048 B1 l)))

def gated (h : FVec Ideal S544x512x2048 .f32) : FVec Ideal S544x512x1024 .f32 :=
  mulf (mulf (minimumf (extractStridedSlice S544x512x1024 ![0, 0, 0] h slices_S544x512x2048_S544x512x1024_0_0_0)
      (broadcastInDim S544x512x1024 ![] bcast_S_S544x512x1024 (constant S_ .f32 0x40E00000#32)))
    (Host.divf (broadcastInDim S544x512x1024 ![] bcast_S_S544x512x1024 (constant S_ .f32 0x3F800000#32))
      (addf (broadcastInDim S544x512x1024 ![] bcast_S_S544x512x1024 (constant S_ .f32 0x3F800000#32))
        (Host.exp (Host.negf (mulf (broadcastInDim S544x512x1024 ![] bcast_S_S544x512x1024 (constant S_ .f32 0x3FD9DB23#32))
          (minimumf (extractStridedSlice S544x512x1024 ![0, 0, 0] h slices_S544x512x2048_S544x512x1024_0_0_0)
            (broadcastInDim S544x512x1024 ![] bcast_S_S544x512x1024 (constant S_ .f32 0x40E00000#32)))))))))
  (addf (minimumf (broadcastInDim S544x512x1024 ![] bcast_S_S544x512x1024 (id (constant S_ .f32 0x40E00000#32)))
      (maximumf (broadcastInDim S544x512x1024 ![] bcast_S_S544x512x1024 (id (constant S_ .f32 0xC0E00000#32)))
        (extractStridedSlice S544x512x1024 ![0, 0, 1024] h slices_S544x512x2048_S544x512x1024_0_0_1024)))
    (broadcastInDim S544x512x1024 ![] bcast_S_S544x512x1024 (constant S_ .f32 0x3F800000#32)))

def expertOut (a : FVec Ideal S544x512x1024 .f32) (W2 : FVec Ideal S4x32x1024x1024 .f32) (B2 : FVec Ideal S32x1024 .f32)
    (l : IVec S544x1 32) : FVec Ideal S544x512x1024 .f32 :=
  addf (Host.dotGeneral dot_S544x512x1024_S544x1024x1024_S544x512x1024_2_1_1_2_0_0 none a
      (Host.gather gather_S32x1024x1024_S544x1_S544x1024x1024_12_0_n_n_0_1_110241024
        (shapeCast _ (extractStridedSlice S1x32x1024x1024 ![0, 0, 0, 0] W2 slices_S4x32x1024x1024_S1x32x1024x1024_0_0_0_0)
          shapeCasts_S1x32x1024x1024_S32x1024x1024) l))
    (broadcastInDim S544x512x1024 ![0, 1, 2] bcast_S544x1x1024_S544x512x1024_0_1_2
      (broadcastInDim S544x1x1024 ![0, 2] bcast_S544x1024_S544x1x1024_0_2
        (Host.gather gather_S32x1024_S544x1_S544x1024_1_0_n_n_0_1_11024 B2 l)))

def masked (T1 : IVec S1 32) (y : FVec Ideal S544x512x1024 .f32) : FVec Ideal S544x512x1024 .f32 :=
  select (broadcastInDim S544x512x1024 ![0, 1, 2] bcast_S544x1x1_S544x512x1024_0_1_2
      (broadcastInDim S544x1x1 ![0] bcast_S544_S544x1x1_0
        (cmpi .slt (iotaInDim S544 32 0) (broadcastInDim S544 ![] bcast_S_S544 (shapeCast _ T1 shapeCasts_S1_S_)))))
    y (broadcastInDim S544x512x1024 ![] bcast_S_S544x512x1024 (id (constant S_ .f32 0x00000000#32)))

theorem res_eq (m : (ℓ : Loc nD τ sig) → Buf (Elt Ideal) ℓ) (c : Dev nD) :
    Cert.Reference2Ideal.Value.res_main_v64 m c
      = shapeCast _ (masked (m ((c.tc : Thread nD τ).loc main_arg2))
          (expertOut (gated (hidRows (m ((c.tc : Thread nD τ).loc main_arg0)) (m ((c.tc : Thread nD τ).loc main_arg3))
              (m ((c.tc : Thread nD τ).loc main_arg4)) (slabs (m ((c.tc : Thread nD τ).loc main_arg1)))))
            (m ((c.tc : Thread nD τ).loc main_arg5)) (m ((c.tc : Thread nD τ).loc main_arg6)) (slabs (m ((c.tc : Thread nD τ).loc main_arg1)))))
          shapeCasts_S544x512x1024_S278528x1024 := by
  unfold Cert.Reference2Ideal.Value.res_main_v64 masked expertOut gated hidRows slabs
  rfl

end Cert.FfnStages

end
-- ==== Proof.FfnRef.lean ====
/- The reference's result is the experts' result array. -/
module

public import proofs.«01_k».proof.Proof.FfnGoal
public import proofs.«01_k».proof.Proof.FfnGather
public import Idealize.ShloMosaic.Lib.Pipeline.ValueKit
public import proofs.«01_k».proof.Proof.FfnStages

@[expose] public section

set_option maxRecDepth 16384

noncomputable section

namespace Cert.FfnRef

open Idealize.ShloMosaic Idealize.ShloMosaic.TcCoe Idealize.SL.Sem
open Cert.Reference2Ideal Cert.Reference2Ideal.Gen Cert.FfnSpec Cert.FfnGoal Cert.FfnStages

/-! ## The stages at an index -/

theorem word_small (v : BitVec 32) (h : v.toNat < 32) : v.toInt = v.toNat := by
  rw [BitVec.toInt_eq_toNat_cond]; omega

theorem slabs_at (T0 : IVec S544 32) (t : Fin 544) (h : (T0 (ix1 t)).toNat < 32) :
    slabs T0 (ix2 t (0 : Fin 1)) = BitVec.ofNat 32 (expert T0 t).val := by
  have e : BitVec.ofNat 32 (expert T0 t).val = T0 (ix1 t) := by
    show BitVec.ofNat 32 (min (T0 (ix1 t)).toNat 31) = _
    rw [Nat.min_eq_left (by omega), BitVec.ofNat_toNat]; simp
  rw [e]
  have hz : Scalar.cmpi .slt (T0 (ix1 t)) 0#32 = 0#1 := by
    have : (T0 (ix1 t)).slt 0#32 = false := by
      have := word_small _ h
      simp only [BitVec.slt, decide_eq_false_iff_not]
      simp only [BitVec.toInt_zero]; omega
    show BitVec.ofBool ((T0 (ix1 t)).slt 0#32) = 0#1
    rw [this]; rfl
  pointwise [slabs]
  exact (congrArg (fun b => Scalar.select b (IntOp.addi (T0 (ix1 t)) 32#32) (T0 (ix1 t))) hz).trans rfl

theorem gated_at (h : FVec Ideal S544x512x2048 .f32) (t : Fin 544) (r : Fin 512) (f : Fin 1024) :
    gated h (ix3 t r f) = swiglu (h (ix3 t r (lo f))) (h (ix3 t r (hi f))) := by
  pointwise [gated]
  rfl

/-- Slab `t` of the gathered weights and biases. -/
theorem weights1_at (W1 : FVec Ideal S4x32x1024x2048 .f32) (l : IVec S544x1 32) (t : Fin 544) (e : Fin 32)
    (hl : l (ix2 t (0 : Fin 1)) = BitVec.ofNat 32 e.val) (d : Fin 1024) (f : Fin 2048) :
    Host.gather gather_S32x1024x2048_S544x1_S544x1024x2048_12_0_n_n_0_1_110242048
      (shapeCast S32x1024x2048 (extractStridedSlice S1x32x1024x2048 ![0, 0, 0, 0] W1 slices_S4x32x1024x2048_S1x32x1024x2048_0_0_0_0)
        shapeCasts_S1x32x1024x2048_S32x1024x2048) l (ix3 t d f) = W1 (ix4 0 e d f) := by
  refine (Cert.FfnGather.gather_slab gather_S32x1024x2048_S544x1_S544x1024x2048_12_0_n_n_0_1_110242048_wf _ l t d f e hl (by decide)).trans ?_
  pointwise

theorem weights2_at (W2 : FVec Ideal S4x32x1024x1024 .f32) (l : IVec S544x1 32) (t : Fin 544) (e : Fin 32)
    (hl : l (ix2 t (0 : Fin 1)) = BitVec.ofNat 32 e.val) (f : Fin 1024) (j : Fin 1024) :
    Host.gather gather_S32x1024x1024_S544x1_S544x1024x1024_12_0_n_n_0_1_110241024
      (shapeCast S32x1024x1024 (extractStridedSlice S1x32x1024x1024 ![0, 0, 0, 0] W2 slices_S4x32x1024x1024_S1x32x1024x1024_0_0_0_0)
        shapeCasts_S1x32x1024x1024_S32x1024x1024) l (ix3 t f j) = W2 (ix4 0 e f j) := by
  refine (Cert.FfnGather.gather_slab gather_S32x1024x1024_S544x1_S544x1024x1024_12_0_n_n_0_1_110241024_wf _ l t f j e hl (by decide)).trans ?_
  pointwise

theorem ix2_eq {n k : ℕ} (a : Fin n) (b : Fin k) : (ValueIdx.ix2 a b : (⟨2, ![n, k]⟩ : Shape).Idx) = ix2 a b := by
  funext x
  fin_cases x <;> rfl

theorem bias1_at (B1 : FVec Ideal S32x2048 .f32) (l : IVec S544x1 32) (t : Fin 544) (e : Fin 32)
    (hl : l (ix2 t (0 : Fin 1)) = BitVec.ofNat 32 e.val) (f : Fin 2048) :
    Host.gather gather_S32x2048_S544x1_S544x2048_1_0_n_n_0_1_12048 B1 l (ix2 t f) = B1 (ix2 e f) := by
  rw [← ix2_eq] at hl
  rw [← ix2_eq, ← ix2_eq]
  exact Routing.gather_row gather_S32x2048_S544x1_S544x2048_1_0_n_n_0_1_12048 rfl rfl rfl rfl rfl B1 l t f e hl (by decide)

theorem bias2_at (B2 : FVec Ideal S32x1024 .f32) (l : IVec S544x1 32) (t : Fin 544) (e : Fin 32)
    (hl : l (ix2 t (0 : Fin 1)) = BitVec.ofNat 32 e.val) (f : Fin 1024) :
    Host.gather gather_S32x1024_S544x1_S544x1024_1_0_n_n_0_1_11024 B2 l (ix2 t f) = B2 (ix2 e f) := by
  rw [← ix2_eq] at hl
  rw [← ix2_eq, ← ix2_eq]
  exact Routing.gather_row gather_S32x1024_S544x1_S544x1024_1_0_n_n_0_1_11024 rfl rfl rfl rfl rfl B2 l t f e hl (by decide)

theorem hidRows_at (X : FVec Ideal S278528x1024 .f32) (W1 : FVec Ideal S4x32x1024x2048 .f32) (B1 : FVec Ideal S32x2048 .f32)
    (l : IVec S544x1 32) (t : Fin 544) (e : Fin 32) (hl : l (ix2 t (0 : Fin 1)) = BitVec.ofNat 32 e.val) (r : Fin 512) (f : Fin 2048) :
    hidRows X W1 B1 l (ix3 t r f)
      = hid (fun d => X (ix2 (row t r) d)) (fun d f => W1 (ix4 0 e d f)) (fun f => B1 (ix2 e f)) f := by
  pointwise [hidRows]
  exact congrArg₂ (· + ·) (Finset.sum_congr rfl fun d _ => congrArg (X (ix2 (row t r) d) * ·) (weights1_at W1 l t e hl d f))
    (bias1_at B1 l t e hl f)

theorem expertOut_at (a : FVec Ideal S544x512x1024 .f32) (W2 : FVec Ideal S4x32x1024x1024 .f32) (B2 : FVec Ideal S32x1024 .f32)
    (l : IVec S544x1 32) (t : Fin 544) (e : Fin 32) (hl : l (ix2 t (0 : Fin 1)) = BitVec.ofNat 32 e.val) (r : Fin 512) (j : Fin 1024) :
    expertOut a W2 B2 l (ix3 t r j) = (∑ f : Fin 1024, a (ix3 t r f) * W2 (ix4 0 e f j)) + B2 (ix2 e j) := by
  pointwise [expertOut]
  exact congrArg₂ (· + ·) (Finset.sum_congr rfl fun f _ => congrArg (a (ix3 t r f) * ·) (weights2_at W2 l t e hl f j))
    (bias2_at B2 l t e hl j)

theorem zero_at : constant (F := Ideal) S_ .f32 0x00000000#32 (fun a => a.elim0) = 0 := by
  pointwise

theorem masked_at (T1 : IVec S1 32) (y : FVec Ideal S544x512x1024 .f32) (t : Fin 544) (r : Fin 512) (j : Fin 1024) :
    masked T1 y (ix3 t r j) = if Used T1 t then y (ix3 t r j) else 0 := by
  pointwise [masked]
  have hb : IntOp.cmpi .slt (BitVec.ofNat 32 t.val) (T1 (ix1 0)) = 1#1 ↔ Used T1 t := by
    show BitVec.ofBool (BitVec.slt (BitVec.ofNat 32 t.val) (T1 (ix1 0))) = 1#1 ↔ (BitVec.ofNat 32 t.val).toInt < (T1 (ix1 0)).toInt
    rw [StableHlo.Predicate.ofBool_eq_one_iff]
    simp only [BitVec.slt, decide_eq_true_eq]
  by_cases hu : Used T1 t
  · rw [if_pos hu]
    exact (congrArg (fun b => Scalar.select b (y (ix3 t r j)) _) (hb.mpr hu)).trans rfl
  · rw [if_neg hu]
    exact (if_neg fun h => hu (hb.mp h)).trans zero_at

theorem flat_at (y : FVec Ideal S544x512x1024 .f32) (t : Fin 544) (r : Fin 512) (j : Fin 1024) :
    shapeCast S278528x1024 y shapeCasts_S544x512x1024_S278528x1024 (ix2 (row t r) j) = y (ix3 t r j) := by
  pointwise
  have ht : (⟨(t.val * 512 + r.val) / 512, by have := t.isLt; have := r.isLt; omega⟩ : Fin 544) = t :=
    Fin.ext (by have := r.isLt; show (t.val * 512 + r.val) / 512 = t.val; omega)
  have hr : (⟨(t.val * 512 + r.val) % 512, by omega⟩ : Fin 512) = r :=
    Fin.ext (by have := r.isLt; show (t.val * 512 + r.val) % 512 = r.val; omega)
  rw [ht, hr]

/-- The reference's result. -/
theorem result (m : (ℓ : Loc nD τ sig) → Buf (Elt Ideal) ℓ) (c : Dev nD)
    (he : ∀ x, (m ((c.tc : Thread nD τ).loc main_arg1) x : BitVec 32).toNat < 32) :
    Cert.Reference2Ideal.Value.res_main_v64 m c
      = G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  rw [res_eq]
  funext i
  idx_vars i
  obtain ⟨t, r, rfl⟩ := row_surj i0
  refine (flat_at _ t r i1).trans ?_
  rw [G_at, masked_at]
  unfold entry
  have hl := slabs_at (m ((c.tc : Thread nD τ).loc main_arg1)) t (he _)
  refine congrArg (fun v => if Used _ t then v else 0) ?_
  refine (expertOut_at _ _ _ _ t _ hl r i1).trans ?_
  unfold through ffn
  refine congrArg (· + _) (Finset.sum_congr rfl fun f _ => congrArg (· * _) ?_)
  exact (gated_at _ t r f).trans (congrArg₂ swiglu (hidRows_at _ _ _ _ t _ hl r (lo f)) (hidRows_at _ _ _ _ t _ hl r (hi f)))

end Cert.FfnRef

end
-- ==== Proof.FfnAgree.lean ====
/- The expert kernel and its reference end with equal results; the reference's frame. -/
module

public import proofs.«01_k».proof.Proof.FfnMain
public import proofs.«01_k».proof.Proof.FfnFinal
public import proofs.«01_k».proof.Proof.FfnRef

@[expose] public section

noncomputable section

namespace Cert.FfnAgree

open Idealize.ShloMosaic Idealize.ShloMosaic.TcCoe Idealize.SL.Sem
open Cert.Kernel2Ideal Cert.Kernel2Ideal.Gen Cert.Kernel2Ideal.Ffn

/-- The kernel ends with the experts' result array, and keeps its arguments. -/
theorem run (m : (ℓ : Loc nD τ sig) → Buf (Elt Ideal) ℓ) (ρ : Dev nD → PrngReg) (h : InRange (T0 m) (T1 m)) :
    θ_run (defs (F := Ideal)) (onTc (τ := τ) (main (F := Ideal))) ⟨m, fun _ => 0, ρ⟩ (fun r => ∀ c : Dev nD,
      r.2.mem ((c.tc : Thread nD τ).loc main_v2) = Cert.FfnFinal.goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ g c => ⟨((g c).1 (5 : Fin 6)).trans (Cert.FfnFinal.final m h c),
    ((g c).1 (0 : Fin 6)).trans (((dats m h 0 c).arrAt_in (0 : Fin 6) rfl _).trans (V_main_arg0 m c)),
    ((g c).2 main_arg1 rest1).trans (V_main_arg1 m c),
    ((g c).2 main_arg2 rest2).trans (V_main_arg2 m c),
    ((g c).1 (1 : Fin 6)).trans (((dats m h 0 c).arrAt_in (1 : Fin 6) rfl _).trans (V_main_arg3 m c)),
    ((g c).2 main_arg4 rest4).trans (V_main_arg4 m c),
    ((g c).1 (3 : Fin 6)).trans (((dats m h 0 c).arrAt_in (3 : Fin 6) rfl _).trans (V_main_arg5 m c)),
    ((g c).2 main_arg6 rest6).trans (V_main_arg6 m c)⟩) (run_main m ρ h)

/-- From equal arguments the kernel and the reference end with equal results. -/
theorem agree : Cert.algebraic_Kernel2Ideal_Reference2Ideal := by
  intro m g m' g' hp hin
  have h : InRange (T0 m) (T1 m) := inRange_of_pre _ _ _ _ _ _ _ (hp c₀)
  refine ⟨fun c => Cert.FfnFinal.goal m c, run m g h, ?_⟩
  refine (θ_run Cert.Reference2Ideal.defs _ _).mono (fun r hr c => ?_) (Cert.Reference2Ideal.Value.run m' g')
  obtain ⟨h0, hrest⟩ := hr c
  obtain ⟨e0, e1, e2, e3, e4, e5, e6⟩ := hin c
  refine ⟨h0.trans ?_, hrest⟩
  refine (Cert.FfnRef.result m' c fun x => ?_).trans ?_
  · have hx : (T0 m x : BitVec 32).toNat < 32 := h.e x
    obtain rfl : c = c₀ := dev_eq c
    exact lt_of_eq_of_lt (congrArg BitVec.toNat (congrFun e1 x)) hx
  · unfold Cert.FfnFinal.goal
    congr 1

/-- The reference runs, and keeps its arguments; it declares no semaphore. -/
theorem frame_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

end Cert.FfnAgree

end
-- ==== Proof.HgrnSpec.lean ====
/- The gated recurrence's inputs, over the extended reals: four products of a token's row, and the gates. -/
module

public import Idealize.ShloMosaic.Lib.Pipeline.ValueKit

@[expose] public section

noncomputable section

namespace Cert.HgrnSpec

open Idealize.ShloMosaic

/-- Column `j` of the `o`-th quarter of the weight. -/
abbrev quarter (o : Nat) (ho : o < 4) (j : Fin 1024) : Fin 4096 := ⟨o * 1024 + j.val, by have := j.isLt; omega⟩

/-- The row's product with the `o`-th quarter, at column `j`. -/
def lin (x : Fin 1024 → EReal) (w : Fin 1024 → Fin 4096 → EReal) (o : Nat) (ho : o < 4) (j : Fin 1024) : EReal :=
  ∑ d : Fin 1024, x d * w d (quarter o ho j)

/-- The logistic function. -/
def gateOf (a : EReal) : EReal := Ideal.div 1 (1 + Ideal.exp (-a))

/-- The logistic unit. -/
def silu (a : EReal) : EReal := a * gateOf a

/-- The forget gate, at least the lower bound `b`. -/
def keep (b a : EReal) : EReal := b + (1 - b) * gateOf a

/-- The logarithm of the forget gate, which is first held above a small number. -/
def logKeep (b a : EReal) : EReal := Ideal.log (max (keep b a) (Ideal.ofBits .f32 0x358637BD#32))

section arrays

variable (X : (⟨2, ![65536, 1024]⟩ : Shape).Idx → EReal) (W : (⟨2, ![1024, 4096]⟩ : Shape).Idx → EReal)
  (B : (⟨1, ![1024]⟩ : Shape).Idx → EReal)

/-- Token `n`'s product with the `o`-th quarter. -/
abbrev linAt (o : Nat) (ho : o < 4) (n : Fin 65536) (j : Fin 1024) : EReal :=
  lin (fun d => X (ix2 n d)) (fun d f => W (ix2 d f)) o ho j

/-- The queries. -/
def GQ : (⟨2, ![65536, 1024]⟩ : Shape).Idx → EReal := fun i => silu (linAt X W 0 (by decide) (i 0) (i 1))
/-- The keys: what the forget gate lets go. -/
def GK : (⟨2, ![65536, 1024]⟩ : Shape).Idx → EReal := fun i => 1 - keep (B (ix1 (i 1))) (linAt X W 1 (by decide) (i 0) (i 1))
/-- The values. -/
def GV : (⟨2, ![65536, 1024]⟩ : Shape).Idx → EReal := fun i => linAt X W 2 (by decide) (i 0) (i 1)
/-- The logarithms of the forget gates. -/
def GF : (⟨2, ![65536, 1024]⟩ : Shape).Idx → EReal := fun i => logKeep (B (ix1 (i 1))) (linAt X W 1 (by decide) (i 0) (i 1))
/-- The output gates. -/
def GG : (⟨2, ![65536, 1024]⟩ : Shape).Idx → EReal := fun i => silu (linAt X W 3 (by decide) (i 0) (i 1))

end arrays

end Cert.HgrnSpec

end
-- ==== Proof.HgrnBlock.lean ====
/- What a grid point of the recurrence's input kernel leaves in its output blocks, index by index. -/
module

public import proofs.«01_k».proof.Proof.Gen.Kernel3Ideal.Value
public import proofs.«01_k».proof.Proof.HgrnSpec
public import Idealize.ShloMosaic.Lib.Pipeline.ValueKit

@[expose] public section

set_option maxRecDepth 16384

noncomputable section

namespace Cert.HgrnBlock

open Idealize.ShloMosaic Idealize.ShloMosaic.TcCoe Idealize.SL.Sem
open Cert.Kernel3Ideal Cert.Kernel3Ideal.Gen Cert.HgrnSpec

variable (x0 : Vec Ideal S256x1024 .f32) (x1 : Vec Ideal S1024x4096 .bf16) (x2 : Vec Ideal S1x1024 .f32)

theorem zero2 : (![0, 0] : Fin 2 → Nat) = fun _ => 0 := by funext a; fin_cases a <;> rfl

theorem ld_row : View.ld x0 r0_0 = x0 := View.ld_unit_zero zero2 _ _

/-- The `o`-th quarter of the weight. -/
theorem ld_quarter (o : Nat) (ho : o < 4) (inb) (d j : Fin 1024) :
    View.ld x1 (Rect.unit (s := S1024x4096) ![0, o * 1024] S1024x1024.size inb) (ix2 d j) = x1 (ix2 d (quarter o ho j)) := by
  refine View.ld_unit_apply_of x1 _ _ inb _ _ fun a => ?_
  fin_cases a <;> simp [ix2]

/-! ## The payloads -/

theorem lin_of (w : Vec Ideal S1024x1024 .bf16) (o : Nat) (ho : o < 4) (hw : ∀ d j, w (ix2 d j) = x1 (ix2 d (quarter o ho j)))
    (r : Fin 256) (j : Fin 1024) :
    (∑ d : Fin 1024, x0 (ix2 r d) * w (ix2 d j)) = lin (fun d => x0 (ix2 r d)) (fun d f => x1 (ix2 d f)) o ho j :=
  Finset.sum_congr rfl fun d _ => by rw [hw]

theorem pay2_at (v : FVec Ideal S256x1024 .bf16) (w : Vec Ideal S1024x1024 .bf16) (r : Fin 256) (j : Fin 1024) :
    k0_pay2 v w (ix2 r j) = ∑ d : Fin 1024, v (ix2 r d) * w (ix2 d j) := by
  pointwise [k0_pay2]

theorem pay3_at (v : FVec Ideal S256x1024 .bf16) (w : Vec Ideal S1024x1024 .bf16) (r : Fin 256) (j : Fin 1024) :
    k0_pay3 v w (ix2 r j) = silu (∑ d : Fin 1024, v (ix2 r d) * w (ix2 d j)) := by
  pointwise [k0_pay3]
  unfold silu gateOf
  simp only [sub_eq_add_neg, zero_add]

theorem pay5_at (v : Vec Ideal S256x1024 .f32) (w : Vec Ideal S1024x1024 .bf16) (r : Fin 256) (j : Fin 1024) :
    k0_pay5 v w (ix2 r j) = silu (∑ d : Fin 1024, v (ix2 r d) * w (ix2 d j)) := by
  pointwise [k0_pay5, k0_pay4]
  unfold silu gateOf
  simp only [sub_eq_add_neg, zero_add]

theorem pay6_at (v : Vec Ideal S256x1024 .f32) (w : Vec Ideal S1024x1024 .bf16) (b : Vec Ideal S1x1024 .f32) (r : Fin 256) (j : Fin 1024) :
    k0_pay6 v w b (ix2 r j) = keep (b (ix2 0 j)) (∑ d : Fin 1024, v (ix2 r d) * w (ix2 d j)) := by
  pointwise [k0_pay6, k0_pay4]
  unfold keep gateOf
  simp only [sub_eq_add_neg, zero_add]

theorem pay1_at (v : FVec Ideal S256x1024 .f32) (r : Fin 256) (j : Fin 1024) : k0_pay1 v (ix2 r j) = 1 - v (ix2 r j) := by
  pointwise [k0_pay1]

theorem pay7_at (v : Vec Ideal S256x1024 .f32) (w : Vec Ideal S1024x1024 .bf16) (b : Vec Ideal S1x1024 .f32) (r : Fin 256) (j : Fin 1024) :
    k0_pay7 v w b (ix2 r j) = logKeep (b (ix2 0 j)) (∑ d : Fin 1024, v (ix2 r d) * w (ix2 d j)) := by
  unfold logKeep
  rw [← pay6_at]
  pointwise [k0_pay7]

theorem pay8_at (r : Fin 256) (d : Fin 1024) : k0_pay8 x0 x1 x2 (ix2 r d) = x0 (ix2 r d) := by
  unfold k0_pay8
  rw [ld_row]
  pointwise [k0_pay4]

/-! ## The stores -/

abbrev blkLin (o : Nat) (ho : o < 4) (r : Fin 256) (j : Fin 1024) : EReal :=
  lin (fun d => x0 (ix2 r d)) (fun d f => x1 (ix2 d f)) o ho j

theorem store3 (r : Fin 256) (j : Fin 1024) :
    k0_pay5 x0 (View.ld x1 r0_1) (ix2 r j) = silu (blkLin x0 x1 0 (by decide) r j) := by
  rw [pay5_at, lin_of x0 x1 _ 0 (by decide) (fun d j => ld_quarter x1 0 (by decide) _ d j)]

theorem store4 (r : Fin 256) (j : Fin 1024) :
    k0_pay1 (k0_pay6 x0 (View.ld x1 r0_2) x2) (ix2 r j)
      = 1 - keep (x2 (ix2 0 j)) (blkLin x0 x1 1 (by decide) r j) := by
  rw [pay1_at, pay6_at, lin_of x0 x1 _ 1 (by decide) (fun d j => ld_quarter x1 1 (by decide) _ d j)]

theorem store5 (r : Fin 256) (j : Fin 1024) :
    k0_pay2 (k0_pay8 x0 x1 x2) (View.ld x1 r0_4) (ix2 r j) = blkLin x0 x1 2 (by decide) r j := by
  rw [pay2_at]
  simp only [pay8_at]
  exact lin_of x0 x1 _ 2 (by decide) (fun d j => ld_quarter x1 2 (by decide) _ d j) r j

theorem store6 (r : Fin 256) (j : Fin 1024) :
    k0_pay7 x0 (View.ld x1 r0_2) x2 (ix2 r j)
      = logKeep (x2 (ix2 0 j)) (blkLin x0 x1 1 (by decide) r j) := by
  rw [pay7_at, lin_of x0 x1 _ 1 (by decide) (fun d j => ld_quarter x1 1 (by decide) _ d j)]

theorem store7 (r : Fin 256) (j : Fin 1024) :
    k0_pay3 (k0_pay8 x0 x1 x2) (View.ld x1 r0_5) (ix2 r j) = silu (blkLin x0 x1 3 (by decide) r j) := by
  rw [pay3_at]
  simp only [pay8_at]
  exact congrArg silu (lin_of x0 x1 _ 3 (by decide) (fun d j => ld_quarter x1 3 (by decide) _ d j) r j)

end Cert.HgrnBlock

end
-- ==== Proof.HgrnFinal.lean ====
/- The input kernel's five result arrays: each grid point leaves its block of the arrays of `HgrnSpec`. -/
module

public import proofs.«01_k».proof.Proof.HgrnBlock

@[expose] public section

set_option maxRecDepth 16384

noncomputable section

namespace Cert.HgrnFinal

open Idealize.ShloMosaic Idealize.ShloMosaic.TcCoe Idealize.SL.Sem
open Idealize.ShloMosaic.Pipeline (Dat)
open Cert.Kernel3Ideal Cert.Kernel3Ideal.Gen Cert.HgrnSpec Cert.HgrnBlock

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

abbrev X : FVec Ideal S65536x1024 .f32 := m ((c : Thread nD τ).loc main_arg0)
abbrev W : FVec Ideal S1024x4096 .f32 := m ((c : Thread nD τ).loc main_arg1)
abbrev B : FVec Ideal S1024 .f32 := m ((c : Thread nD τ).loc main_arg2)

theorem lt_N (t : Fin cfg0.N) : t.val < 256 := lt_of_lt_of_eq t.isLt N_0

/-- The token of row `r` of point `t`. -/
abbrev row (t : Fin cfg0.N) (r : Fin 256) : Fin 65536 :=
  ⟨t.val * 256 + r.val, by have := lt_N t; have := r.isLt; omega⟩

/-! ## The operands the host prepares -/

theorem entry0 : V m c main_v0 = truncf .bf16 (W m c) bitsLt_bf16_f32 := by
  show StableHlo.after _ _ _ = _
  simp only [hostOps0, List.flatten_cons, List.flatten_nil, List.append_nil, List.cons_append, List.nil_append]
  after_results_simp

theorem entry1 : V m c main_v1 = shapeCast S1x1024 (B m c) shapeCasts_S1024_S1x1024 := by
  show StableHlo.after _ _ _ = _
  simp only [hostOps0, List.flatten_cons, List.flatten_nil, List.append_nil, List.cons_append, List.nil_append]
  after_results_simp
  rfl

/-! ## The blocks -/

theorem blk0 (t : Fin cfg0.N) (r : Fin 256) (x : Fin 1024) :
    (iblk m c 0 t : Vec Ideal S256x1024 .f32) (ix2 r x) = X m c (ix2 (row t r) x) := by
  blk_ext! [iblk, V, idx t]

theorem blk1 (t : Fin cfg0.N) (x : Fin 1024) (f : Fin 4096) :
    (iblk m c 1 t : Vec Ideal S1024x4096 .bf16) (ix2 x f) = W m c (ix2 x f) := by
  have h : (iblk m c 1 t : Vec Ideal S1024x4096 .bf16) (ix2 x f) = V m c main_v0 (ix2 x f) := by
    blk_ext! [iblk, idx t]
  rw [h, entry0]
  pointwise

theorem blk2 (t : Fin cfg0.N) (x : Fin 1024) :
    (iblk m c 2 t : Vec Ideal S1x1024 .f32) (ix2 0 x) = B m c (ix1 x) := by
  have h : (iblk m c 2 t : Vec Ideal S1x1024 .f32) (ix2 0 x) = V m c main_v1 (ix2 0 x) := by
    blk_ext! [iblk, idx t]
  rw [h, entry1]
  pointwise

/-- The row's products from the point's blocks are the token's. -/
theorem lin_eq (t : Fin cfg0.N) (o : Nat) (ho : o < 4) (r : Fin 256) (j : Fin 1024) :
    blkLin (iblk m c 0 t) (iblk m c 1 t) o ho r j = linAt (X m c) (W m c) o ho (row t r) j :=
  Finset.sum_congr rfl fun d _ => congrArg₂ (· * ·) (blk0 m c t r d) (blk1 m c t d (quarter o ho j))

/-! ## The arrays -/

theorem final3 : (dats m 0 c).arrAt 3 cfg0.N = GQ (X m c) (W m c) := by
  refine (dats m 0 c).arrAt_eq_of_covers 3 _ (by decide +kernel) fun t _ y => ?_
  blk_simp
  rw [after0_3]
  frame_out
  idx_vars y
  refine (store3 (iblk m c 0 t) (iblk m c 1 t) y0 y1).trans ?_
  have he : ((View.whole main_v2_0).slice (win0_3.rect t)).emb (ix2 y0 y1) = ix2 (row t y0) y1 := by
    blk_ext! [idx t]
  rw [he, lin_eq]
  rfl

theorem final4 : (dats m 0 c).arrAt 4 cfg0.N = GK (X m c) (W m c) (B m c) := by
  refine (dats m 0 c).arrAt_eq_of_covers 4 _ (by decide +kernel) fun t _ y => ?_
  blk_simp
  rw [after0_4]
  frame_out
  idx_vars y
  refine (store4 (iblk m c 0 t) (iblk m c 1 t) (iblk m c 2 t) y0 y1).trans ?_
  have he : ((View.whole main_v2_1).slice (win0_4.rect t)).emb (ix2 y0 y1) = ix2 (row t y0) y1 := by
    blk_ext! [idx t]
  rw [he, blk2, lin_eq]
  rfl

theorem final5 : (dats m 0 c).arrAt 5 cfg0.N = GV (X m c) (W m c) := by
  refine (dats m 0 c).arrAt_eq_of_covers 5 _ (by decide +kernel) fun t _ y => ?_
  blk_simp
  rw [after0_5]
  frame_out
  idx_vars y
  refine (store5 (iblk m c 0 t) (iblk m c 1 t) (iblk m c 2 t) y0 y1).trans ?_
  have he : ((View.whole main_v2_2).slice (win0_5.rect t)).emb (ix2 y0 y1) = ix2 (row t y0) y1 := by
    blk_ext! [idx t]
  rw [he, lin_eq]
  rfl

theorem final6 : (dats m 0 c).arrAt 6 cfg0.N = GF (X m c) (W m c) (B m c) := by
  refine (dats m 0 c).arrAt_eq_of_covers 6 _ (by decide +kernel) fun t _ y => ?_
  blk_simp
  rw [after0_6]
  frame_out
  idx_vars y
  refine (store6 (iblk m c 0 t) (iblk m c 1 t) (iblk m c 2 t) y0 y1).trans ?_
  have he : ((View.whole main_v2_3).slice (win0_6.rect t)).emb (ix2 y0 y1) = ix2 (row t y0) y1 := by
    blk_ext! [idx t]
  rw [he, blk2, lin_eq]
  rfl

theorem final7 : (dats m 0 c).arrAt 7 cfg0.N = GG (X m c) (W m c) := by
  refine (dats m 0 c).arrAt_eq_of_covers 7 _ (by decide +kernel) fun t _ y => ?_
  blk_simp
  rw [after0_7]
  frame_out
  idx_vars y
  refine (store7 (iblk m c 0 t) (iblk m c 1 t) (iblk m c 2 t) y0 y1).trans ?_
  have he : ((View.whole main_v2_4).slice (win0_7.rect t)).emb (ix2 y0 y1) = ix2 (row t y0) y1 := by
    blk_ext! [idx t]
  rw [he, lin_eq]
  rfl

end Cert.HgrnFinal

end
-- ==== Proof.HgrnRef.lean ====
/- The reference's five results are the recurrence's inputs. -/
module

public import proofs.«01_k».proof.Proof.Gen.Reference3Ideal.Run
public import proofs.«01_k».proof.Proof.HgrnSpec
public import Idealize.ShloMosaic.Lib.Pipeline.ValueKit

@[expose] public section

set_option maxRecDepth 16384

noncomputable section

namespace Cert.HgrnRef

open Idealize.ShloMosaic Idealize.ShloMosaic.TcCoe Idealize.SL.Sem
open Cert.Reference3Ideal Cert.Reference3Ideal.Gen Cert.HgrnSpec

variable (X : FVec Ideal S65536x1024 .f32) (W : FVec Ideal S1024x4096 .f32) (B : FVec Ideal S1024 .f32)

/-- The whole product. -/
abbrev prod : FVec Ideal S65536x4096 .f32 := Host.dotGeneral dot_S65536x1024_S1024x4096_S65536x4096_1_0_0_1_n_n none X W

theorem prod_at (o : Nat) (ho : o < 4) (n : Fin 65536) (j : Fin 1024) :
    prod X W (ix2 n (quarter o ho j)) = linAt X W o ho n j := by
  pointwise
  rfl

/-- The logistic function of an array. -/
abbrev gated (a : FVec Ideal S65536x1024 .f32) : FVec Ideal S65536x1024 .f32 :=
  Host.divf (broadcastInDim S65536x1024 ![] bcast_S_S65536x1024 (constant S_ .f32 0x3F800000#32))
    (addf (broadcastInDim S65536x1024 ![] bcast_S_S65536x1024 (constant S_ .f32 0x3F800000#32)) (Host.exp (Host.negf a)))

theorem gated_at (a : FVec Ideal S65536x1024 .f32) (n : Fin 65536) (j : Fin 1024) : gated a (ix2 n j) = gateOf (a (ix2 n j)) := by
  pointwise
  rfl

/-- The forget gates. -/
abbrev forget (a : FVec Ideal S65536x1024 .f32) : FVec Ideal S65536x1024 .f32 :=
  addf (broadcastInDim S65536x1024 ![0, 1] bcast_S1x1024_S65536x1024_0_1 (broadcastInDim S1x1024 ![1] bcast_S1024_S1x1024_1 B))
    (mulf (broadcastInDim S65536x1024 ![0, 1] bcast_S1x1024_S65536x1024_0_1 (broadcastInDim S1x1024 ![1] bcast_S1024_S1x1024_1
      (subf (broadcastInDim S1024 ![] bcast_S_S1024 (constant S_ .f32 0x3F800000#32)) B))) (gated a))

theorem forget_at (a : FVec Ideal S65536x1024 .f32) (n : Fin 65536) (j : Fin 1024) :
    forget B a (ix2 n j) = keep (B (ix1 j)) (a (ix2 n j)) := by
  unfold keep
  rw [← gated_at]
  pointwise

theorem slice0 (y : FVec Ideal S65536x4096 .f32) (n : Fin 65536) (j : Fin 1024) :
    extractStridedSlice S65536x1024 ![0, 0] y slices_S65536x4096_S65536x1024_0_0 (ix2 n j) = y (ix2 n (quarter 0 (by decide) j)) := by
  pointwise
  exact congrArg (fun i => y (ix2 n i)) (Fin.ext (by simp))
theorem slice1 (y : FVec Ideal S65536x4096 .f32) (n : Fin 65536) (j : Fin 1024) :
    extractStridedSlice S65536x1024 ![0, 1024] y slices_S65536x4096_S65536x1024_0_1024 (ix2 n j) = y (ix2 n (quarter 1 (by decide) j)) := by
  pointwise
theorem slice2 (y : FVec Ideal S65536x4096 .f32) (n : Fin 65536) (j : Fin 1024) :
    extractStridedSlice S65536x1024 ![0, 2048] y slices_S65536x4096_S65536x1024_0_2048 (ix2 n j) = y (ix2 n (quarter 2 (by decide) j)) := by
  pointwise
theorem slice3 (y : FVec Ideal S65536x4096 .f32) (n : Fin 65536) (j : Fin 1024) :
    extractStridedSlice S65536x1024 ![0, 3072] y slices_S65536x4096_S65536x1024_0_3072 (ix2 n j) = y (ix2 n (quarter 3 (by decide) j)) := by
  pointwise

theorem resultQ : mulf (extractStridedSlice S65536x1024 ![0, 0] (prod X W) slices_S65536x4096_S65536x1024_0_0)
    (gated (extractStridedSlice S65536x1024 ![0, 0] (prod X W) slices_S65536x4096_S65536x1024_0_0)) = GQ X W := by
  funext i
  idx_vars i
  show _ * gated _ (ix2 i0 i1) = silu _
  rw [gated_at, slice0, prod_at]
  rfl

theorem resultK : subf (broadcastInDim S65536x1024 ![] bcast_S_S65536x1024 (constant S_ .f32 0x3F800000#32))
    (forget B (extractStridedSlice S65536x1024 ![0, 1024] (prod X W) slices_S65536x4096_S65536x1024_0_1024)) = GK X W B := by
  funext i
  idx_vars i
  have h : forget B (extractStridedSlice S65536x1024 ![0, 1024] (prod X W) slices_S65536x4096_S65536x1024_0_1024) (ix2 i0 i1)
      = keep (B (ix1 i1)) (linAt X W 1 (by decide) i0 i1) := by rw [forget_at, slice1, prod_at]
  show _ = 1 - keep (B (ix1 i1)) (linAt X W 1 (by decide) i0 i1)
  rw [← h]
  generalize forget B _ = y
  pointwise

theorem resultV : extractStridedSlice S65536x1024 ![0, 2048] (prod X W) slices_S65536x4096_S65536x1024_0_2048 = GV X W := by
  funext i
  idx_vars i
  rw [slice2, prod_at]
  rfl

theorem resultF : Host.log (maximumf (forget B (extractStridedSlice S65536x1024 ![0, 1024] (prod X W) slices_S65536x4096_S65536x1024_0_1024))
    (broadcastInDim S65536x1024 ![] bcast_S_S65536x1024 (constant S_ .f32 0x358637BD#32))) = GF X W B := by
  funext i
  idx_vars i
  have h : forget B (extractStridedSlice S65536x1024 ![0, 1024] (prod X W) slices_S65536x4096_S65536x1024_0_1024) (ix2 i0 i1)
      = keep (B (ix1 i1)) (linAt X W 1 (by decide) i0 i1) := by rw [forget_at, slice1, prod_at]
  show _ = logKeep (B (ix1 i1)) (linAt X W 1 (by decide) i0 i1)
  unfold logKeep
  rw [← h]
  generalize forget B _ = y
  pointwise

theorem resultG : mulf (extractStridedSlice S65536x1024 ![0, 3072] (prod X W) slices_S65536x4096_S65536x1024_0_3072)
    (gated (extractStridedSlice S65536x1024 ![0, 3072] (prod X W) slices_S65536x4096_S65536x1024_0_3072)) = GG X W := by
  funext i
  idx_vars i
  show _ * gated _ (ix2 i0 i1) = silu _
  rw [gated_at, slice3, prod_at]
  rfl

end Cert.HgrnRef

end
-- ==== Proof.HgrnAgree.lean ====
/- The input kernel and its reference end with equal results; the reference's frame. -/
module

public import proofs.«01_k».proof.Defs
public import proofs.«01_k».proof.Proof.HgrnFinal
public import proofs.«01_k».proof.Proof.HgrnRef

@[expose] public section

noncomputable section

namespace Cert.HgrnAgree

open Idealize.ShloMosaic Idealize.ShloMosaic.TcCoe Idealize.SL.Sem
open Cert.HgrnSpec Cert.HgrnFinal

/-- From equal arguments the kernel and the reference end with equal results. -/
theorem agree : Cert.algebraic_Kernel3Ideal_Reference3Ideal := by
  intro m g m' g' _ hin
  refine ⟨fun c => GQ (X m c) (W m c), fun c => GK (X m c) (W m c) (B m c), fun c => GV (X m c) (W m c),
    fun c => GF (X m c) (W m c) (B m c), fun c => GG (X m c) (W m c), ?_, ?_⟩
  · refine (θ_run Cert.Kernel3Ideal.defs _ _).mono (fun r h c => ?_) (Cert.Kernel3Ideal.Value.run_blocks m g)
    obtain ⟨h0, h1, h2, h3, h4, hrest⟩ := h c
    exact ⟨h0.trans (final3 m c), h1.trans (final4 m c), h2.trans (final5 m c), h3.trans (final6 m c),
      h4.trans (final7 m c), hrest⟩
  · refine (θ_run Cert.Reference3Ideal.defs _ _).mono (fun r h c => ?_) (Cert.Reference3Ideal.Value.run m' g')
    obtain ⟨h0, h1, h2, h3, h4, hrest⟩ := h c
    obtain ⟨e0, e1, e2⟩ := hin c
    rw [e0, e1] at h0 h2 h4
    rw [e0, e1, e2] at h1 h3
    exact ⟨h0.trans (Cert.HgrnRef.resultQ _ _), h1.trans (Cert.HgrnRef.resultK _ _ _), h2.trans (Cert.HgrnRef.resultV _ _),
      h3.trans (Cert.HgrnRef.resultF _ _ _), h4.trans (Cert.HgrnRef.resultG _ _), hrest⟩

/-- The reference runs, and keeps its arguments; it declares no semaphore. -/
theorem frame_reference : Cert.quiescent_Reference3Ideal := fun m ρ _ =>
  (θ_run Cert.Reference3Ideal.defs _ _).mono
    (fun r h => ⟨fun c => (h c).2.2.2.2.2, Idealize.ShloMosaic.sem_eq_zero_of_no_sems (by decide) r.2⟩)
    (Cert.Reference3Ideal.Value.run m ρ)

end Cert.HgrnAgree

end
-- ==== Proof.DilSpec.lean ====
/- The projection for the dilated attention, and the product with a row of a one-hot matrix. -/
module

public import Idealize.ShloMosaic.Lib.Pipeline.ValueKit

@[expose] public section

noncomputable section

namespace Cert.DilSpec

open Idealize.ShloMosaic

/-- Token `n`'s product at column `j`. -/
def cell (X : (⟨2, ![65536, 1024]⟩ : Shape).Idx → EReal) (W : (⟨2, ![1024, 3072]⟩ : Shape).Idx → EReal) (n : Fin 65536)
    (j : Fin 3072) : EReal :=
  ∑ x : Fin 1024, X (ix2 n x) * W (ix2 x j)

/-- The one-hot entry, from the two words compared. -/
theorem oneHot (e : BitVec 32) (s k : Fin 512) (h : e = BitVec.ofNat 32 s.val) :
    (FloatOps.uitofp (F := Ideal) FTy.bf16 (IntOp.cmpi CmpIPredicate.eq e (BitVec.ofNat 32 k.val)) : EReal)
      = if k = s then 1 else 0 := by
  subst h
  by_cases hk : k = s
  · subst hk
    simp [IntOp.cmpi, FloatOps.uitofp]
  · have hne : ¬ BitVec.ofNat 32 s.val = BitVec.ofNat 32 k.val := by
      intro h
      have := congrArg BitVec.toNat h
      simp only [BitVec.toNat_ofNat] at this
      have := k.isLt
      have := s.isLt
      exact hk (Fin.ext (by omega))
    simp [IntOp.cmpi, FloatOps.uitofp, hk, hne]

/-- A sum against a one-hot row is the picked term. -/
theorem pick (p a : Fin 512 → EReal) (s : Fin 512) (hp : ∀ k, p k = if k = s then 1 else 0) : ∑ k, p k * a k = a s := by
  simp [hp]

/-- A row's product, from its entries. -/
theorem cell_eq {h h' a w b : Fin 1024 → EReal} (hh : ∀ x, h x = h' x) (ha : ∀ x, h' x = a x) (hb : ∀ x, w x = b x) :
    ∑ x, h x * w x = ∑ x, a x * b x :=
  Finset.sum_congr rfl fun x _ => by rw [hh, ha, hb]

/-- The product of a row regrouped by a one-hot row is the picked row's. -/
theorem part_eq {p : Fin 512 → EReal} {h h' : Fin 512 → Fin 1024 → EReal} {w a b : Fin 1024 → EReal} {s : Fin 512}
    (hp : ∀ k, p k = if k = s then 1 else 0) (hh : ∀ k x, h k x = h' k x) (ha : ∀ x, h' s x = a x) (hb : ∀ x, w x = b x) :
    ∑ x, (∑ k, p k * h k x) * w x = ∑ x, a x * b x :=
  Finset.sum_congr rfl fun x _ => by rw [pick p (fun k => h k x) s hp, hh, ha, hb]

end Cert.DilSpec

end
-- ==== Proof.DilOne.lean ====
/- The projection for the dilated attention of dilation 1: the rows keep their order. -/
module

public import proofs.«01_k».proof.Defs
public import proofs.«01_k».proof.Proof.Gen.Kernel4Ideal.Value
public import proofs.«01_k».proof.Proof.Gen.Reference4Ideal.Run
public import proofs.«01_k».proof.Proof.DilSpec

@[expose] public section

set_option maxRecDepth 16384

noncomputable section

namespace Cert.DilOne

open Idealize.ShloMosaic Idealize.ShloMosaic.TcCoe Idealize.SL.Sem
open Idealize.ShloMosaic.Pipeline (Dat)
open Cert.Kernel4Ideal Cert.Kernel4Ideal.Gen Cert.DilSpec

/-- The token of sequence `b` at position `s`. -/
abbrev tok (b : Fin 16) (r : Fin 1) (s : Fin 4096) : Fin 65536 :=
  ⟨b.val * 4096 + s.val, by have := b.isLt; have := s.isLt; omega⟩

/-- The product, by sequence. -/
def G (X : FVec Ideal S65536x1024 .f32) (W : FVec Ideal S1024x3072 .f32) : S16x1x4096x3072.Idx → EReal :=
  fun i => cell X W (tok (i 0) (i 1) (i 2)) (i 3)

/-! ## The kernel -/

theorem pay1_at (h : Vec Ideal S512x1024 .f32) (w : Vec Ideal S1024x3072 .bf16) (q : Fin 512) (j : Fin 3072) :
    k0_pay1 h w (ix4 0 0 q j) = ∑ x : Fin 1024, h (ix2 q x) * w (ix2 x j) := by
  pointwise [k0_pay1]

variable (m : (ℓ : Loc nD τ sig) → Buf (Elt Ideal) ℓ) (c : Dev nD)

abbrev X : FVec Ideal S65536x1024 .f32 := m ((c : Thread nD τ).loc main_arg0)
abbrev W : FVec Ideal S1024x3072 .f32 := m ((c : Thread nD τ).loc main_arg1)

theorem idx : ∀ t : Fin cfg0.N, win0_0.index t = ![t.val, 0] ∧ win0_1.index t = ![0, 0]
    ∧ win0_2.index t = ![t.val / 8, 0, t.val % 8, 0] :=
  (by decide +kernel : ∀ t : Fin grid0.N, _)

theorem lt_N (t : Fin cfg0.N) : t.val < 128 := lt_of_lt_of_eq t.isLt N_0

/-- The token of row `r` of point `t`. -/
abbrev row (t : Fin cfg0.N) (r : Fin 512) : Fin 65536 :=
  ⟨t.val * 512 + r.val, by have := lt_N t; have := r.isLt; omega⟩

theorem entry0 : V m c main_v0 = truncf .bf16 (W m c) bitsLt_bf16_f32 := by
  show StableHlo.after _ _ _ = _
  simp only [hostOps0, List.flatten_cons, List.flatten_nil, List.append_nil, List.cons_append, List.nil_append]
  after_results_simp

theorem blk0 (t : Fin cfg0.N) (r : Fin 512) (x : Fin 1024) :
    (iblk m c 0 t : Vec Ideal S512x1024 .f32) (ix2 r x) = X m c (ix2 (row t r) x) := by
  blk_ext! [iblk, V, idx t]

theorem blk1 (t : Fin cfg0.N) (x : Fin 1024) (f : Fin 3072) :
    (iblk m c 1 t : Vec Ideal S1024x3072 .bf16) (ix2 x f) = W m c (ix2 x f) := by
  have h : (iblk m c 1 t : Vec Ideal S1024x3072 .bf16) (ix2 x f) = V m c main_v0 (ix2 x f) := by
    blk_ext! [iblk, idx t]
  rw [h, entry0]
  pointwise

theorem final2 : (dats m 0 c).arrAt 2 cfg0.N = G (X m c) (W m c) := by
  refine (dats m 0 c).arrAt_eq_of_covers 2 _ (by decide +kernel) fun t _ y => ?_
  blk_simp
  rw [after0_2]
  frame_out
  idx_vars y
  obtain rfl : y0 = 0 := Subsingleton.elim _ _
  obtain rfl : y1 = 0 := Subsingleton.elim _ _
  refine (pay1_at (iblk m c 0 t) (iblk m c 1 t) y2 y3).trans ?_
  have ht := lt_N t
  have h2 := y2.isLt
  have he : ((View.whole main_v1).slice (win0_2.rect t)).emb (ix4 0 0 y2 y3)
      = ix4 ⟨t.val / 8, by omega⟩ 0 ⟨t.val % 8 * 512 + y2.val, by omega⟩ y3 := by
    blk_ext! [idx t]
  rw [he]
  refine cell_eq (a := fun x => X m c (ix2 (tok ⟨t.val / 8, by omega⟩ 0 ⟨t.val % 8 * 512 + y2.val, by omega⟩) x))
    (fun x => blk0 m c t y2 x) (fun x => ?_) fun x => blk1 m c t x y3
  refine congrArg (fun n => X m c (ix2 n x)) (Fin.ext ?_)
  show t.val * 512 + y2.val = t.val / 8 * 4096 + (t.val % 8 * 512 + y2.val)
  omega

/-! ## The reference -/

theorem result (X : FVec Ideal S65536x1024 .f32) (W : FVec Ideal S1024x3072 .f32) :
    transpose Cert.Reference4Ideal.S16x1x4096x3072 [0, 2, 1, 3]
      (shapeCast Cert.Reference4Ideal.S16x4096x1x3072
        (Host.dotGeneral Cert.Reference4Ideal.dot_S65536x1024_S1024x3072_S65536x3072_1_0_0_1_n_n none X W)
        Cert.Reference4Ideal.Gen.shapeCasts_S65536x3072_S16x4096x1x3072)
      Cert.Reference4Ideal.Gen.transposes_S16x4096x1x3072_S16x1x4096x3072_0_2_1_3 = G X W := by
  funext i
  idx_vars i
  show _ = ∑ x : Fin 1024, X (ix2 (tok i0 i1 i2) x) * W (ix2 x i3)
  pointwise

/-! ## Together -/

/-- From equal arguments the kernel and the reference end with equal results. -/
theorem agree : Cert.algebraic_Kernel4Ideal_Reference4Ideal := by
  intro m g m' g' _ hin
  refine ⟨fun c => G (X m c) (W m c), ?_, ?_⟩
  · refine (θ_run Cert.Kernel4Ideal.defs _ _).mono (fun r h c => ?_) (Cert.Kernel4Ideal.Value.run_blocks m g)
    obtain ⟨h0, hrest⟩ := h c
    exact ⟨h0.trans (final2 m c), hrest⟩
  · refine (θ_run Cert.Reference4Ideal.defs _ _).mono (fun r h c => ?_) (Cert.Reference4Ideal.Value.run m' g')
    obtain ⟨h0, hrest⟩ := h c
    obtain ⟨e0, e1⟩ := hin c
    rw [e0, e1] at h0
    exact ⟨h0.trans (result _ _), hrest⟩

/-- The reference runs, and keeps its arguments; it declares no semaphore. -/
theorem frame_reference : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run m ρ)

end Cert.DilOne

end
-- ==== Proof.DilFour.lean ====
/- The projection for the dilated attention of dilation 4: the kernel regroups each block of rows by a one-hot matrix, which
   is exact, and the reference transposes the product's rows. -/
module

public import proofs.«01_k».proof.Defs
public import proofs.«01_k».proof.Proof.Gen.Kernel5Ideal.Value
public import proofs.«01_k».proof.Proof.Gen.Reference5Ideal.Run
public import proofs.«01_k».proof.Proof.DilSpec

@[expose] public section

set_option maxRecDepth 16384

noncomputable section

namespace Cert.DilFour

open Idealize.ShloMosaic Idealize.ShloMosaic.TcCoe Idealize.SL.Sem
open Idealize.ShloMosaic.Pipeline (Dat)
open Cert.Kernel5Ideal Cert.Kernel5Ideal.Gen Cert.DilSpec

/-- The token of sequence `b` whose position has residue `r` and quotient `s`. -/
abbrev tok (b : Fin 16) (r : Fin 4) (s : Fin 1024) : Fin 65536 :=
  ⟨b.val * 4096 + s.val * 4 + r.val, by have := b.isLt; have := r.isLt; have := s.isLt; omega⟩

/-- The regrouped product. -/
def G (X : FVec Ideal S65536x1024 .f32) (W : FVec Ideal S1024x3072 .f32) : S16x4x1024x3072.Idx → EReal :=
  fun i => cell X W (tok (i 0) (i 1) (i 2)) (i 3)

/-! ## The kernel -/

/-- The place of residue `r`, quotient `q` in a regrouped block of 512 rows. -/
abbrev place (r : Fin 4) (q : Fin 128) : Fin 512 := ⟨r.val * 128 + q.val, by have := r.isLt; have := q.isLt; omega⟩

/-- The row that comes to place `j`. -/
abbrev src (j : Fin 512) : Fin 512 := ⟨j.val % 128 * 4 + j.val / 128, by have := j.isLt; omega⟩

theorem pay1_at (p : Vec Ideal S512x512 .bf16) (h : Vec Ideal S512x1024 .f32) (w : Vec Ideal S1024x3072 .bf16) (r : Fin 4)
    (q : Fin 128) (j : Fin 3072) : k0_pay1 p h w (ix4 0 r q j)
      = ∑ x : Fin 1024, (∑ k : Fin 512, p (ix2 (place r q) k) * h (ix2 k x)) * w (ix2 x j) := by
  pointwise [k0_pay1]

variable (m : (ℓ : Loc nD τ sig) → Buf (Elt Ideal) ℓ) (c : Dev nD)

abbrev X : FVec Ideal S65536x1024 .f32 := m ((c : Thread nD τ).loc main_arg0)
abbrev W : FVec Ideal S1024x3072 .f32 := m ((c : Thread nD τ).loc main_arg1)

theorem idx : ∀ t : Fin cfg0.N, win0_0.index t = ![t.val, 0] ∧ win0_1.index t = ![0, 0] ∧ win0_2.index t = ![0, 0]
    ∧ win0_3.index t = ![t.val / 8, 0, t.val % 8, 0] :=
  (by decide +kernel : ∀ t : Fin grid0.N, _)

theorem lt_N (t : Fin cfg0.N) : t.val < 128 := lt_of_lt_of_eq t.isLt N_0

/-- The token of row `r` of point `t`. -/
abbrev row (t : Fin cfg0.N) (r : Fin 512) : Fin 65536 :=
  ⟨t.val * 512 + r.val, by have := lt_N t; have := r.isLt; omega⟩

theorem entry0 : V m c main_v0 = truncf .bf16 (W m c) bitsLt_bf16_f32 := by
  show StableHlo.after _ _ _ = _
  simp only [hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp

/-- The host's matrix has its one of row `j` in column `src j`. -/
theorem entry13 (j k : Fin 512) :
    (V m c main_v13 : FVec Ideal S512x512 .bf16) (ix2 j k) = (if k = src j then 1 else 0 : EReal) := by
  show StableHlo.after _ _ _ _ = _
  simp only [hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise
  refine oneHot _ (src j) k ?_
  revert j
  decide +kernel

theorem blk0 (t : Fin cfg0.N) (r : Fin 512) (x : Fin 1024) :
    (iblk m c 0 t : Vec Ideal S512x1024 .f32) (ix2 r x) = X m c (ix2 (row t r) x) := by
  blk_ext! [iblk, V, idx t]

theorem blk1 (t : Fin cfg0.N) (j k : Fin 512) :
    (iblk m c 1 t : Vec Ideal S512x512 .bf16) (ix2 j k) = (if k = src j then 1 else 0 : EReal) := by
  have h : (iblk m c 1 t : Vec Ideal S512x512 .bf16) (ix2 j k) = V m c main_v13 (ix2 j k) := by
    blk_ext! [iblk, idx t]
  rw [h]
  exact entry13 m c j k

theorem blk2 (t : Fin cfg0.N) (x : Fin 1024) (f : Fin 3072) :
    (iblk m c 2 t : Vec Ideal S1024x3072 .bf16) (ix2 x f) = W m c (ix2 x f) := by
  have h : (iblk m c 2 t : Vec Ideal S1024x3072 .bf16) (ix2 x f) = V m c main_v0 (ix2 x f) := by
    blk_ext! [iblk, idx t]
  rw [h, entry0]
  pointwise

theorem final3 : (dats m 0 c).arrAt 3 cfg0.N = G (X m c) (W m c) := by
  refine (dats m 0 c).arrAt_eq_of_covers 3 _ (by decide +kernel) fun t _ y => ?_
  blk_simp
  rw [after0_3]
  frame_out
  idx_vars y
  obtain rfl : y0 = 0 := Subsingleton.elim _ _
  refine (pay1_at (iblk m c 1 t) (iblk m c 0 t) (iblk m c 2 t) y1 y2 y3).trans ?_
  have ht := lt_N t
  have h1 := y1.isLt
  have h2 := y2.isLt
  have he : ((View.whole main_v14).slice (win0_3.rect t)).emb (ix4 0 y1 y2 y3)
      = ix4 ⟨t.val / 8, by omega⟩ y1 ⟨t.val % 8 * 128 + y2.val, by omega⟩ y3 := by
    blk_ext! [idx t]
  rw [he]
  refine part_eq (a := fun x => X m c (ix2 (tok ⟨t.val / 8, by omega⟩ y1 ⟨t.val % 8 * 128 + y2.val, by omega⟩) x))
    (fun k => blk1 m c t (place y1 y2) k) (fun k x => blk0 m c t k x) (fun x => ?_) fun x => blk2 m c t x y3
  refine congrArg (fun n => X m c (ix2 n x)) (Fin.ext ?_)
  show t.val * 512 + ((y1.val * 128 + y2.val) % 128 * 4 + (y1.val * 128 + y2.val) / 128)
    = t.val / 8 * 4096 + (t.val % 8 * 128 + y2.val) * 4 + y1.val
  omega

/-! ## The reference -/

theorem result (X : FVec Ideal S65536x1024 .f32) (W : FVec Ideal S1024x3072 .f32) :
    transpose Cert.Reference5Ideal.S16x4x1024x3072 [0, 2, 1, 3]
      (shapeCast Cert.Reference5Ideal.S16x1024x4x3072
        (Host.dotGeneral Cert.Reference5Ideal.dot_S65536x1024_S1024x3072_S65536x3072_1_0_0_1_n_n none X W)
        Cert.Reference5Ideal.Gen.shapeCasts_S65536x3072_S16x1024x4x3072)
      Cert.Reference5Ideal.Gen.transposes_S16x1024x4x3072_S16x4x1024x3072_0_2_1_3 = G X W := by
  funext i
  idx_vars i
  show _ = ∑ x : Fin 1024, X (ix2 (tok i0 i1 i2) x) * W (ix2 x i3)
  pointwise

/-! ## Together -/

/-- From equal arguments the kernel and the reference end with equal results. -/
theorem agree : Cert.algebraic_Kernel5Ideal_Reference5Ideal := by
  intro m g m' g' _ hin
  refine ⟨fun c => G (X m c) (W m c), ?_, ?_⟩
  · refine (θ_run Cert.Kernel5Ideal.defs _ _).mono (fun r h c => ?_) (Cert.Kernel5Ideal.Value.run_blocks m g)
    obtain ⟨h0, hrest⟩ := h c
    exact ⟨h0.trans (final3 m c), hrest⟩
  · refine (θ_run Cert.Reference5Ideal.defs _ _).mono (fun r h c => ?_) (Cert.Reference5Ideal.Value.run m' g')
    obtain ⟨h0, hrest⟩ := h c
    obtain ⟨e0, e1⟩ := hin c
    rw [e0, e1] at h0
    exact ⟨h0.trans (result _ _), hrest⟩

/-- The reference runs, and keeps its arguments; it declares no semaphore. -/
theorem frame_reference : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run m ρ)

end Cert.DilFour

end
-- ==== Proof.DilSixteen.lean ====
/- The projection for the dilated attention of dilation 16: the kernel regroups each block of rows by a one-hot matrix, which
   is exact, and the reference transposes the product's rows. -/
module

public import proofs.«01_k».proof.Defs
public import proofs.«01_k».proof.Proof.Gen.Kernel6Ideal.Value
public import proofs.«01_k».proof.Proof.Gen.Reference6Ideal.Run
public import proofs.«01_k».proof.Proof.DilSpec

@[expose] public section

set_option maxRecDepth 16384

noncomputable section

namespace Cert.DilSixteen

open Idealize.ShloMosaic Idealize.ShloMosaic.TcCoe Idealize.SL.Sem
open Idealize.ShloMosaic.Pipeline (Dat)
open Cert.Kernel6Ideal Cert.Kernel6Ideal.Gen Cert.DilSpec

/-- The token of sequence `b` whose position has residue `r` and quotient `s`. -/
abbrev tok (b : Fin 16) (r : Fin 16) (s : Fin 256) : Fin 65536 :=
  ⟨b.val * 4096 + s.val * 16 + r.val, by have := b.isLt; have := r.isLt; have := s.isLt; omega⟩

/-- The regrouped product. -/
def G (X : FVec Ideal S65536x1024 .f32) (W : FVec Ideal S1024x3072 .f32) : S16x16x256x3072.Idx → EReal :=
  fun i => cell X W (tok (i 0) (i 1) (i 2)) (i 3)

/-! ## The kernel -/

/-- The place of residue `r`, quotient `q` in a regrouped block of 512 rows. -/
abbrev place (r : Fin 16) (q : Fin 32) : Fin 512 := ⟨r.val * 32 + q.val, by have := r.isLt; have := q.isLt; omega⟩

/-- The row that comes to place `j`. -/
abbrev src (j : Fin 512) : Fin 512 := ⟨j.val % 32 * 16 + j.val / 32, by have := j.isLt; omega⟩

theorem pay1_at (p : Vec Ideal S512x512 .bf16) (h : Vec Ideal S512x1024 .f32) (w : Vec Ideal S1024x3072 .bf16) (r : Fin 16)
    (q : Fin 32) (j : Fin 3072) : k0_pay1 p h w (ix4 0 r q j)
      = ∑ x : Fin 1024, (∑ k : Fin 512, p (ix2 (place r q) k) * h (ix2 k x)) * w (ix2 x j) := by
  pointwise [k0_pay1]

variable (m : (ℓ : Loc nD τ sig) → Buf (Elt Ideal) ℓ) (c : Dev nD)

abbrev X : FVec Ideal S65536x1024 .f32 := m ((c : Thread nD τ).loc main_arg0)
abbrev W : FVec Ideal S1024x3072 .f32 := m ((c : Thread nD τ).loc main_arg1)

theorem idx : ∀ t : Fin cfg0.N, win0_0.index t = ![t.val, 0] ∧ win0_1.index t = ![0, 0] ∧ win0_2.index t = ![0, 0]
    ∧ win0_3.index t = ![t.val / 8, 0, t.val % 8, 0] :=
  (by decide +kernel : ∀ t : Fin grid0.N, _)

theorem lt_N (t : Fin cfg0.N) : t.val < 128 := lt_of_lt_of_eq t.isLt N_0

/-- The token of row `r` of point `t`. -/
abbrev row (t : Fin cfg0.N) (r : Fin 512) : Fin 65536 :=
  ⟨t.val * 512 + r.val, by have := lt_N t; have := r.isLt; omega⟩

theorem entry0 : V m c main_v0 = truncf .bf16 (W m c) bitsLt_bf16_f32 := by
  show StableHlo.after _ _ _ = _
  simp only [hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp

/-- The host's matrix has its one of row `j` in column `src j`. -/
theorem entry13 (j k : Fin 512) :
    (V m c main_v13 : FVec Ideal S512x512 .bf16) (ix2 j k) = (if k = src j then 1 else 0 : EReal) := by
  show StableHlo.after _ _ _ _ = _
  simp only [hostOps0, hostOps0_1, hostOps0_2, hostOps0_3, hostOps0_4, List.flatten_cons, List.flatten_nil,
    List.append_nil, List.cons_append, List.nil_append, StableHlo.TRef.binary, StableHlo.TRef.nullary,
    StableHlo.TRef.unary, StableHlo.TRef.ternary, StableHlo.TRef.toBuf, StableHlo.TRef.ofBuf, cast_eq]
  after_results_simp
  pointwise
  refine oneHot _ (src j) k ?_
  revert j
  decide +kernel

theorem blk0 (t : Fin cfg0.N) (r : Fin 512) (x : Fin 1024) :
    (iblk m c 0 t : Vec Ideal S512x1024 .f32) (ix2 r x) = X m c (ix2 (row t r) x) := by
  blk_ext! [iblk, V, idx t]

theorem blk1 (t : Fin cfg0.N) (j k : Fin 512) :
    (iblk m c 1 t : Vec Ideal S512x512 .bf16) (ix2 j k) = (if k = src j then 1 else 0 : EReal) := by
  have h : (iblk m c 1 t : Vec Ideal S512x512 .bf16) (ix2 j k) = V m c main_v13 (ix2 j k) := by
    blk_ext! [iblk, idx t]
  rw [h]
  exact entry13 m c j k

theorem blk2 (t : Fin cfg0.N) (x : Fin 1024) (f : Fin 3072) :
    (iblk m c 2 t : Vec Ideal S1024x3072 .bf16) (ix2 x f) = W m c (ix2 x f) := by
  have h : (iblk m c 2 t : Vec Ideal S1024x3072 .bf16) (ix2 x f) = V m c main_v0 (ix2 x f) := by
    blk_ext! [iblk, idx t]
  rw [h, entry0]
  pointwise

theorem final3 : (dats m 0 c).arrAt 3 cfg0.N = G (X m c) (W m c) := by
  refine (dats m 0 c).arrAt_eq_of_covers 3 _ (by decide +kernel) fun t _ y => ?_
  blk_simp
  rw [after0_3]
  frame_out
  idx_vars y
  obtain rfl : y0 = 0 := Subsingleton.elim _ _
  refine (pay1_at (iblk m c 1 t) (iblk m c 0 t) (iblk m c 2 t) y1 y2 y3).trans ?_
  have ht := lt_N t
  have h1 := y1.isLt
  have h2 := y2.isLt
  have he : ((View.whole main_v14).slice (win0_3.rect t)).emb (ix4 0 y1 y2 y3)
      = ix4 ⟨t.val / 8, by omega⟩ y1 ⟨t.val % 8 * 32 + y2.val, by omega⟩ y3 := by
    blk_ext! [idx t]
  rw [he]
  refine part_eq (a := fun x => X m c (ix2 (tok ⟨t.val / 8, by omega⟩ y1 ⟨t.val % 8 * 32 + y2.val, by omega⟩) x))
    (fun k => blk1 m c t (place y1 y2) k) (fun k x => blk0 m c t k x) (fun x => ?_) fun x => blk2 m c t x y3
  refine congrArg (fun n => X m c (ix2 n x)) (Fin.ext ?_)
  show t.val * 512 + ((y1.val * 32 + y2.val) % 32 * 16 + (y1.val * 32 + y2.val) / 32)
    = t.val / 8 * 4096 + (t.val % 8 * 32 + y2.val) * 16 + y1.val
  omega

/-! ## The reference -/

theorem result (X : FVec Ideal S65536x1024 .f32) (W : FVec Ideal S1024x3072 .f32) :
    transpose Cert.Reference6Ideal.S16x16x256x3072 [0, 2, 1, 3]
      (shapeCast Cert.Reference6Ideal.S16x256x16x3072
        (Host.dotGeneral Cert.Reference6Ideal.dot_S65536x1024_S1024x3072_S65536x3072_1_0_0_1_n_n none X W)
        Cert.Reference6Ideal.Gen.shapeCasts_S65536x3072_S16x256x16x3072)
      Cert.Reference6Ideal.Gen.transposes_S16x256x16x3072_S16x16x256x3072_0_2_1_3 = G X W := by
  funext i
  idx_vars i
  show _ = ∑ x : Fin 1024, X (ix2 (tok i0 i1 i2) x) * W (ix2 x i3)
  pointwise

/-! ## Together -/

/-- From equal arguments the kernel and the reference end with equal results. -/
theorem agree : Cert.algebraic_Kernel6Ideal_Reference6Ideal := by
  intro m g m' g' _ hin
  refine ⟨fun c => G (X m c) (W m c), ?_, ?_⟩
  · refine (θ_run Cert.Kernel6Ideal.defs _ _).mono (fun r h c => ?_) (Cert.Kernel6Ideal.Value.run_blocks m g)
    obtain ⟨h0, hrest⟩ := h c
    exact ⟨h0.trans (final3 m c), hrest⟩
  · refine (θ_run Cert.Reference6Ideal.defs _ _).mono (fun r h c => ?_) (Cert.Reference6Ideal.Value.run m' g')
    obtain ⟨h0, hrest⟩ := h c
    obtain ⟨e0, e1⟩ := hin c
    rw [e0, e1] at h0
    exact ⟨h0.trans (result _ _), hrest⟩

/-- The reference runs, and keeps its arguments; it declares no semaphore. -/
theorem frame_reference : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run m ρ)

end Cert.DilSixteen

end
-- ==== Proof.TailSpec.lean ====
/- The ends of the gated and of the state-space mixer at a token: their layer-normed residual rows. -/
module

public import proofs.«01_k».proof.Proof.RowSpec
public import proofs.«01_k».proof.Proof.HgrnSpec

@[expose] public section

set_option maxRecDepth 16384

noncomputable section

namespace Cert.TailSpec

open Idealize.ShloMosaic Cert.Row Cert.HgrnSpec

/-- Column `j` of the `o`-th half of the weight. -/
abbrev half (o : Nat) (ho : o < 2) (j : Fin 1024) : Fin 2048 := ⟨o * 1024 + j.val, by have := j.isLt; omega⟩

/-- The activation of the state-space mixer. -/
def act (z : EReal) : EReal :=
  Ideal.ofBits .f32 0x3F000000#32 * z
    * (1 + Ideal.tanh (Ideal.ofBits .f32 0x3F4C422A#32 * (z + Ideal.ofBits .f32 0x3D372713#32 * (z * z * z))))

/-- The activation with the half on the other factor. -/
theorem act_eq (z : EReal) :
    z * (Ideal.ofBits .f32 0x3F000000#32
      * (1 + Ideal.tanh (Ideal.ofBits .f32 0x3F4C422A#32 * (z + Ideal.ofBits .f32 0x3D372713#32 * (z * z * z))))) = act z := by
  unfold act
  rw [← mul_assoc, mul_comm z]

/-- The row before its layer norm: the scaled input and the gated product of the activated row `u`. -/
def glu (h u : Fin 1024 → EReal) (w1 w2 : Fin 1024 → Fin 1024 → EReal) (c : Fin 1024) : EReal :=
  Ideal.ofBits .f32 0x3FD744FD#32 * h c + (∑ x, u x * w1 x c) * gateOf (∑ x, u x * w2 x c)

section arrays

variable (Y H : (⟨2, ![65536, 1024]⟩ : Shape).Idx → EReal) (S g b : (⟨1, ![1024]⟩ : Shape).Idx → EReal)
  (Wo : (⟨2, ![1024, 1024]⟩ : Shape).Idx → EReal) (Wg : (⟨2, ![1024, 2048]⟩ : Shape).Idx → EReal)

/-- The gated mixer's end. -/
def G7 : (⟨2, ![65536, 1024]⟩ : Shape).Idx → EReal := fun i =>
  norm (resid (fun x => H (ix2 (i 0) x)) (fun x c => Wo (ix2 x c)) fun x => Y (ix2 (i 0) x))
    (fun c => g (ix1 c)) (fun c => b (ix1 c)) (i 1)

/-- The state-space mixer's end. -/
def G8 : (⟨2, ![65536, 1024]⟩ : Shape).Idx → EReal := fun i =>
  norm (glu (fun x => H (ix2 (i 0) x)) (fun x => act (Y (ix2 (i 0) x) + S (ix1 x) * H (ix2 (i 0) x)))
      (fun x c => Wg (ix2 x (half 0 (by decide) c))) fun x c => Wg (ix2 x (half 1 (by decide) c)))
    (fun c => g (ix1 c)) (fun c => b (ix1 c)) (i 1)

end arrays

end Cert.TailSpec

end
-- ==== Proof.Tail7Ref.lean ====
/- The reference's output product and layer norm at the end of the gated mixer. -/
module

public import proofs.«01_k».proof.Proof.Gen.Reference7Ideal.Run
public import proofs.«01_k».proof.Proof.TailSpec
public import Idealize.ShloMosaic.Lib.Pipeline.ValueKit

@[expose] public section

set_option maxRecDepth 16384

noncomputable section

namespace Cert.Tail7Ref

open Idealize.ShloMosaic Idealize.ShloMosaic.TcCoe Idealize.SL.Sem
open Cert.Reference7Ideal Cert.Reference7Ideal.Gen Cert.Row Cert.HgrnSpec Cert.TailSpec

/-- The mean of each row. -/
theorem mean_at (X : FVec Ideal S65536x1024 .f32) (n : Fin 65536) :
    Host.divf (broadcastInDim S65536x1 ![0] bcast_S65536_S65536x1_0
        (Host.reduceAdd X (constant S_ .f32 0x00000000#32) reducesTo_S65536x1024_S65536_d1 h_S_))
      (broadcastInDim S65536x1 ![] bcast_S_S65536x1 (constant S_ .f32 0x44800000#32)) (ix2 n 0)
      = mean fun x => X (ix2 n x) := by
  pointwise
  rfl

/-- The rows less their means. -/
abbrev centred (X : FVec Ideal S65536x1024 .f32) (M : FVec Ideal S65536x1 .f32) : FVec Ideal S65536x1024 .f32 :=
  subf X (broadcastInDim S65536x1024 ![0, 1] bcast_S65536x1_S65536x1024_0_1 M)

/-- The layer norm of each row, of the rows `X`, their means `M` and the rows less their means `D`. -/
def hostNorm (X : FVec Ideal S65536x1024 .f32) (M : FVec Ideal S65536x1 .f32) (D : FVec Ideal S65536x1024 .f32)
    (g b : FVec Ideal S1024 .f32) : FVec Ideal S65536x1024 .f32 :=
  addf (mulf (mulf (subf X (broadcastInDim S65536x1024 ![0, 1] bcast_S65536x1_S65536x1024_0_1 M))
    (broadcastInDim S65536x1024 ![0, 1] bcast_S65536x1_S65536x1024_0_1
      (Host.rsqrt (addf (Host.divf (broadcastInDim S65536x1 ![0] bcast_S65536_S65536x1_0
          (Host.reduceAdd (mulf D D) (constant S_ .f32 0x00000000#32) reducesTo_S65536x1024_S65536_d1 h_S_))
        (broadcastInDim S65536x1 ![] bcast_S_S65536x1 (constant S_ .f32 0x44800000#32)))
        (broadcastInDim S65536x1 ![] bcast_S_S65536x1 (constant S_ .f32 0x3727C5AC#32))))))
    (broadcastInDim S65536x1024 ![0, 1] bcast_S1x1024_S65536x1024_0_1 (broadcastInDim S1x1024 ![1] bcast_S1024_S1x1024_1 g)))
    (broadcastInDim S65536x1024 ![0, 1] bcast_S1x1024_S65536x1024_0_1 (broadcastInDim S1x1024 ![1] bcast_S1024_S1x1024_1 b))

theorem hostNorm_at (X : FVec Ideal S65536x1024 .f32) (M : FVec Ideal S65536x1 .f32) (D : FVec Ideal S65536x1024 .f32)
    (g b : FVec Ideal S1024 .f32) (n : Fin 65536) (z : Fin 1024 → EReal) (hX : ∀ x, X (ix2 n x) = z x)
    (hM : M (ix2 n 0) = mean z) (hD : ∀ x, D (ix2 n x) = z x - mean z) (x : Fin 1024) :
    hostNorm X M D g b (ix2 n x) = norm z (fun x => g (ix1 x)) (fun x => b (ix1 x)) x := by
  pointwise [hostNorm, hX, hM, hD]
  rfl

/-- The means of the rows. -/
abbrev means (X : FVec Ideal S65536x1024 .f32) : FVec Ideal S65536x1 .f32 :=
  Host.divf (broadcastInDim S65536x1 ![0] bcast_S65536_S65536x1_0
      (Host.reduceAdd X (constant S_ .f32 0x00000000#32) reducesTo_S65536x1024_S65536_d1 h_S_))
    (broadcastInDim S65536x1 ![] bcast_S_S65536x1 (constant S_ .f32 0x44800000#32))

theorem whole_at (X : FVec Ideal S65536x1024 .f32) (g b : FVec Ideal S1024 .f32) (n : Fin 65536) (z : Fin 1024 → EReal)
    (hX : ∀ x, X (ix2 n x) = z x) (x : Fin 1024) :
    hostNorm X (means X) (centred X (means X)) g b (ix2 n x) = norm z (fun x => g (ix1 x)) (fun x => b (ix1 x)) x := by
  have hM : means X (ix2 n 0) = mean z := (mean_at X n).trans (congrArg mean (funext hX))
  refine hostNorm_at X _ _ g b n z hX hM (fun x => ?_) x
  rw [← hX, ← hM]
  generalize means X = M
  pointwise

/-- The rows before the layer norm. -/
abbrev pre (Y : FVec Ideal S65536x1024 .f32) (Wo : FVec Ideal S1024x1024 .f32) (H : FVec Ideal S65536x1024 .f32) :
    FVec Ideal S65536x1024 .f32 :=
  addf (mulf (broadcastInDim S65536x1024 ![] bcast_S_S65536x1024 (constant S_ .f32 0x3FD744FD#32)) H)
    (Host.dotGeneral dot_S65536x1024_S1024x1024_S65536x1024_1_0_0_1_n_n none Y Wo)

theorem result (Y : FVec Ideal S65536x1024 .f32) (Wo : FVec Ideal S1024x1024 .f32) (H : FVec Ideal S65536x1024 .f32)
    (g b : FVec Ideal S1024 .f32) :
    hostNorm (pre Y Wo H) (means (pre Y Wo H)) (centred (pre Y Wo H) (means (pre Y Wo H))) g b = G7 Y H g b Wo := by
  funext i
  idx_vars i
  refine whole_at _ g b i0 _ (fun x => ?_) i1
  show _ = resid (fun x => H (ix2 i0 x)) (fun x c => Wo (ix2 x c)) (fun x => Y (ix2 i0 x)) x
  pointwise
  rfl

end Cert.Tail7Ref

end
-- ==== Proof.ProjLn.lean ====
/- The output product and the layer norm at the end of the gated mixer. -/
module

public import proofs.«01_k».proof.Defs
public import proofs.«01_k».proof.Proof.Gen.Kernel7Ideal.Value
public import proofs.«01_k».proof.Proof.Tail7Ref
public import Idealize.ShloMosaic.Lib.Pipeline.ValueKit

@[expose] public section

set_option maxRecDepth 16384

noncomputable section

namespace Cert.ProjLn

open Idealize.ShloMosaic Idealize.ShloMosaic.TcCoe Idealize.SL.Sem
open Idealize.ShloMosaic.Pipeline (Dat)
open Cert.Kernel7Ideal Cert.Kernel7Ideal.Gen Cert.Row Cert.HgrnSpec Cert.TailSpec

/-! ## The payloads -/

theorem pay1_at (a : Vec Ideal S512x1024 .f32) (w : Vec Ideal S1024x1024 .bf16) (h : Vec Ideal S512x1024 .f32)
    (g b : Vec Ideal S1x1024 .f32) (r : Fin 512) (j : Fin 1024) :
    k0_pay1 a w h g b (ix2 r j) = norm (resid (fun x => h (ix2 r x)) (fun x c => w (ix2 x c)) fun x => a (ix2 r x))
      (fun x => g (ix2 0 x)) (fun x => b (ix2 0 x)) j := by
  pointwise [k0_pay1]
  rfl

/-! ## The blocks -/

variable (m : (ℓ : Loc nD τ sig) → Buf (Elt Ideal) ℓ) (c : Dev nD)

abbrev Y : FVec Ideal S65536x1024 .f32 := m ((c : Thread nD τ).loc main_arg0)
abbrev Wo : FVec Ideal S1024x1024 .f32 := m ((c : Thread nD τ).loc main_arg1)
abbrev H : FVec Ideal S65536x1024 .f32 := m ((c : Thread nD τ).loc main_arg2)
abbrev g : FVec Ideal S1024 .f32 := m ((c : Thread nD τ).loc main_arg3)
abbrev b : FVec Ideal S1024 .f32 := m ((c : Thread nD τ).loc main_arg4)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

theorem lt_N (t : Fin cfg0.N) : t.val < 128 := lt_of_lt_of_eq t.isLt N_0

/-- The token of row `r` of point `t`. -/
abbrev row (t : Fin cfg0.N) (r : Fin 512) : Fin 65536 :=
  ⟨t.val * 512 + r.val, by have := lt_N t; have := r.isLt; omega⟩

theorem entry0 : V m c main_v0 = truncf .bf16 (Wo m c) bitsLt_bf16_f32 := by
  show StableHlo.after _ _ _ = _
  simp only [hostOps0, List.flatten_cons, List.flatten_nil, List.append_nil, List.cons_append, List.nil_append]
  after_results_simp

theorem entry1 : V m c main_v1 = broadcastInDim S1x1024 ![1] bcast_S1024_S1x1024_1 (g m c) := by
  show StableHlo.after _ _ _ = _
  simp only [hostOps0, List.flatten_cons, List.flatten_nil, List.append_nil, List.cons_append, List.nil_append]
  after_results_simp

theorem entry2 : V m c main_v2 = broadcastInDim S1x1024 ![1] bcast_S1024_S1x1024_1 (b m c) := by
  show StableHlo.after _ _ _ = _
  simp only [hostOps0, List.flatten_cons, List.flatten_nil, List.append_nil, List.cons_append, List.nil_append]
  after_results_simp

theorem blk0 (t : Fin cfg0.N) (r : Fin 512) (x : Fin 1024) :
    (iblk m c 0 t : Vec Ideal S512x1024 .f32) (ix2 r x) = Y m c (ix2 (row t r) x) := by
  blk_ext! [iblk, V, idx t]

theorem blk1 (t : Fin cfg0.N) (x : Fin 1024) (f : Fin 1024) :
    (iblk m c 1 t : Vec Ideal S1024x1024 .bf16) (ix2 x f) = Wo m c (ix2 x f) := by
  have h : (iblk m c 1 t : Vec Ideal S1024x1024 .bf16) (ix2 x f) = V m c main_v0 (ix2 x f) := by
    blk_ext! [iblk, idx t]
  rw [h, entry0]
  pointwise

theorem blk2 (t : Fin cfg0.N) (r : Fin 512) (x : Fin 1024) :
    (iblk m c 2 t : Vec Ideal S512x1024 .f32) (ix2 r x) = H m c (ix2 (row t r) x) := by
  blk_ext! [iblk, V, idx t]

theorem blk3 (t : Fin cfg0.N) (f : Fin 1024) :
    (iblk m c 3 t : Vec Ideal S1x1024 .f32) (ix2 0 f) = g m c (ix1 f) := by
  have h : (iblk m c 3 t : Vec Ideal S1x1024 .f32) (ix2 0 f) = V m c main_v1 (ix2 0 f) := by
    blk_ext! [iblk, idx t]
  rw [h, entry1]
  pointwise

theorem blk4 (t : Fin cfg0.N) (f : Fin 1024) :
    (iblk m c 4 t : Vec Ideal S1x1024 .f32) (ix2 0 f) = b m c (ix1 f) := by
  have h : (iblk m c 4 t : Vec Ideal S1x1024 .f32) (ix2 0 f) = V m c main_v2 (ix2 0 f) := by
    blk_ext! [iblk, idx t]
  rw [h, entry2]
  pointwise

theorem final : (dats m 0 c).arrAt 5 cfg0.N = G7 (Y m c) (H m c) (g m c) (b m c) (Wo m c) := by
  refine (dats m 0 c).arrAt_eq_of_covers 5 _ (by decide +kernel) fun t _ y => ?_
  blk_simp
  rw [after0_5]
  frame_out
  idx_vars y
  refine (pay1_at (iblk m c 0 t) (iblk m c 1 t) (iblk m c 2 t) (iblk m c 3 t) (iblk m c 4 t) y0 y1).trans ?_
  have he : ((View.whole main_v3).slice (win0_5.rect t)).emb (ix2 y0 y1) = ix2 (row t y0) y1 := by
    blk_ext! [idx t]
  rw [he]
  simp only [blk0 m c t, blk1 m c t, blk2 m c t, blk3 m c t, blk4 m c t]
  rfl

/-! ## Together -/

/-- From equal arguments the kernel and the reference end with equal results. -/
theorem agree : Cert.algebraic_Kernel7Ideal_Reference7Ideal := by
  intro m ρ m' ρ' _ hin
  refine ⟨fun c => G7 (Y m c) (H m c) (g m c) (b m c) (Wo m c), ?_, ?_⟩
  · refine (θ_run Cert.Kernel7Ideal.defs _ _).mono (fun r h c => ?_) (Cert.Kernel7Ideal.Value.run_blocks m ρ)
    obtain ⟨h0, hrest⟩ := h c
    exact ⟨h0.trans (final m c), hrest⟩
  · refine (θ_run Cert.Reference7Ideal.defs _ _).mono (fun r h c => ?_) (Cert.Reference7Ideal.Value.run m' ρ')
    obtain ⟨h0, hrest⟩ := h c
    obtain ⟨e0, e1, e2, e3, e4⟩ := hin c
    rw [e0, e1, e2, e3, e4] at h0
    exact ⟨h0.trans (Tail7Ref.result _ _ _ _ _ ), hrest⟩

/-- The reference runs, and keeps its arguments; it declares no semaphore. -/
theorem frame_reference : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run m ρ)

end Cert.ProjLn

end
-- ==== Proof.Tail8Ref.lean ====
/- The reference's activation, gated product and layer norm at the end of the state-space mixer. -/
module

public import proofs.«01_k».proof.Proof.Gen.Reference8Ideal.Run
public import proofs.«01_k».proof.Proof.TailSpec
public import Idealize.ShloMosaic.Lib.Pipeline.ValueKit

@[expose] public section

set_option maxRecDepth 16384

noncomputable section

namespace Cert.Tail8Ref

open Idealize.ShloMosaic Idealize.ShloMosaic.TcCoe Idealize.SL.Sem
open Cert.Reference8Ideal Cert.Reference8Ideal.Gen Cert.Row Cert.HgrnSpec Cert.TailSpec

/-- The mean of each row. -/
theorem mean_at (X : FVec Ideal S65536x1024 .f32) (n : Fin 65536) :
    Host.divf (broadcastInDim S65536x1 ![0] bcast_S65536_S65536x1_0
        (Host.reduceAdd X (constant S_ .f32 0x00000000#32) reducesTo_S65536x1024_S65536_d1 h_S_))
      (broadcastInDim S65536x1 ![] bcast_S_S65536x1 (constant S_ .f32 0x44800000#32)) (ix2 n 0)
      = mean fun x => X (ix2 n x) := by
  pointwise
  rfl

/-- The rows less their means. -/
abbrev centred (X : FVec Ideal S65536x1024 .f32) (M : FVec Ideal S65536x1 .f32) : FVec Ideal S65536x1024 .f32 :=
  subf X (broadcastInDim S65536x1024 ![0, 1] bcast_S65536x1_S65536x1024_0_1 M)

/-- The layer norm of each row, of the rows `X`, their means `M` and the rows less their means `D`. -/
def hostNorm (X : FVec Ideal S65536x1024 .f32) (M : FVec Ideal S65536x1 .f32) (D : FVec Ideal S65536x1024 .f32)
    (g b : FVec Ideal S1024 .f32) : FVec Ideal S65536x1024 .f32 :=
  addf (mulf (mulf (subf X (broadcastInDim S65536x1024 ![0, 1] bcast_S65536x1_S65536x1024_0_1 M))
    (broadcastInDim S65536x1024 ![0, 1] bcast_S65536x1_S65536x1024_0_1
      (Host.rsqrt (addf (Host.divf (broadcastInDim S65536x1 ![0] bcast_S65536_S65536x1_0
          (Host.reduceAdd (mulf D D) (constant S_ .f32 0x00000000#32) reducesTo_S65536x1024_S65536_d1 h_S_))
        (broadcastInDim S65536x1 ![] bcast_S_S65536x1 (constant S_ .f32 0x44800000#32)))
        (broadcastInDim S65536x1 ![] bcast_S_S65536x1 (constant S_ .f32 0x3727C5AC#32))))))
    (broadcastInDim S65536x1024 ![0, 1] bcast_S1x1024_S65536x1024_0_1 (broadcastInDim S1x1024 ![1] bcast_S1024_S1x1024_1 g)))
    (broadcastInDim S65536x1024 ![0, 1] bcast_S1x1024_S65536x1024_0_1 (broadcastInDim S1x1024 ![1] bcast_S1024_S1x1024_1 b))

theorem hostNorm_at (X : FVec Ideal S65536x1024 .f32) (M : FVec Ideal S65536x1 .f32) (D : FVec Ideal S65536x1024 .f32)
    (g b : FVec Ideal S1024 .f32) (n : Fin 65536) (z : Fin 1024 → EReal) (hX : ∀ x, X (ix2 n x) = z x)
    (hM : M (ix2 n 0) = mean z) (hD : ∀ x, D (ix2 n x) = z x - mean z) (x : Fin 1024) :
    hostNorm X M D g b (ix2 n x) = norm z (fun x => g (ix1 x)) (fun x => b (ix1 x)) x := by
  pointwise [hostNorm, hX, hM, hD]
  rfl

/-- The means of the rows. -/
abbrev means (X : FVec Ideal S65536x1024 .f32) : FVec Ideal S65536x1 .f32 :=
  Host.divf (broadcastInDim S65536x1 ![0] bcast_S65536_S65536x1_0
      (Host.reduceAdd X (constant S_ .f32 0x00000000#32) reducesTo_S65536x1024_S65536_d1 h_S_))
    (broadcastInDim S65536x1 ![] bcast_S_S65536x1 (constant S_ .f32 0x44800000#32))

theorem whole_at (X : FVec Ideal S65536x1024 .f32) (g b : FVec Ideal S1024 .f32) (n : Fin 65536) (z : Fin 1024 → EReal)
    (hX : ∀ x, X (ix2 n x) = z x) (x : Fin 1024) :
    hostNorm X (means X) (centred X (means X)) g b (ix2 n x) = norm z (fun x => g (ix1 x)) (fun x => b (ix1 x)) x := by
  have hM : means X (ix2 n 0) = mean z := (mean_at X n).trans (congrArg mean (funext hX))
  refine hostNorm_at X _ _ g b n z hX hM (fun x => ?_) x
  rw [← hX, ← hM]
  generalize means X = M
  pointwise

/-- The rows with the skip of the input. -/
abbrev skip (Y H : FVec Ideal S65536x1024 .f32) (S : FVec Ideal S1024 .f32) : FVec Ideal S65536x1024 .f32 :=
  addf Y (mulf (broadcastInDim S65536x1024 ![0, 1] bcast_S1x1024_S65536x1024_0_1 (broadcastInDim S1x1024 ![1] bcast_S1024_S1x1024_1 S)) H)

/-- The activated rows. -/
abbrev acts (Z : FVec Ideal S65536x1024 .f32) : FVec Ideal S65536x1024 .f32 :=
  mulf Z (mulf (broadcastInDim S65536x1024 ![] bcast_S_S65536x1024 (constant S_ .f32 0x3F000000#32))
    (addf (broadcastInDim S65536x1024 ![] bcast_S_S65536x1024 (constant S_ .f32 0x3F800000#32))
      (Host.tanh (mulf (broadcastInDim S65536x1024 ![] bcast_S_S65536x1024 (constant S_ .f32 0x3F4C422A#32))
        (addf Z (mulf (broadcastInDim S65536x1024 ![] bcast_S_S65536x1024 (constant S_ .f32 0x3D372713#32)) (mulf (mulf Z Z) Z)))))))

theorem acts_at (Z : FVec Ideal S65536x1024 .f32) (n : Fin 65536) (x : Fin 1024) : acts Z (ix2 n x) = act (Z (ix2 n x)) := by
  rw [← act_eq]
  pointwise

theorem skip_at (Y H : FVec Ideal S65536x1024 .f32) (S : FVec Ideal S1024 .f32) (n : Fin 65536) (x : Fin 1024) :
    skip Y H S (ix2 n x) = Y (ix2 n x) + S (ix1 x) * H (ix2 n x) := by
  pointwise

/-- The product with the whole weight. -/
abbrev prod (U : FVec Ideal S65536x1024 .f32) (Wg : FVec Ideal S1024x2048 .f32) : FVec Ideal S65536x2048 .f32 :=
  Host.dotGeneral dot_S65536x1024_S1024x2048_S65536x2048_1_0_0_1_n_n none U Wg

/-- The rows before the layer norm, from the product with the weight. -/
abbrev pre (V : FVec Ideal S65536x2048 .f32) (H : FVec Ideal S65536x1024 .f32) : FVec Ideal S65536x1024 .f32 :=
  addf (mulf (broadcastInDim S65536x1024 ![] bcast_S_S65536x1024 (constant S_ .f32 0x3FD744FD#32)) H)
    (mulf (extractStridedSlice S65536x1024 ![0, 0] V slices_S65536x2048_S65536x1024_0_0)
      (Host.divf (broadcastInDim S65536x1024 ![] bcast_S_S65536x1024 (constant S_ .f32 0x3F800000#32))
        (addf (broadcastInDim S65536x1024 ![] bcast_S_S65536x1024 (constant S_ .f32 0x3F800000#32))
          (Host.exp (Host.negf (extractStridedSlice S65536x1024 ![0, 1024] V slices_S65536x2048_S65536x1024_0_1024))))))

theorem pre_at (V : FVec Ideal S65536x2048 .f32) (H : FVec Ideal S65536x1024 .f32) (n : Fin 65536) (j : Fin 1024) :
    pre V H (ix2 n j) = Ideal.ofBits .f32 0x3FD744FD#32 * H (ix2 n j)
      + V (ix2 n (half 0 (by decide) j)) * gateOf (V (ix2 n (half 1 (by decide) j))) := by
  have h0 : half 0 (by decide) j = ⟨j.val, by have := j.isLt; omega⟩ := Fin.ext (by simp)
  have h1 : half 1 (by decide) j = ⟨1024 + j.val, by have := j.isLt; omega⟩ := Fin.ext (by simp)
  rw [h0, h1]
  pointwise
  rfl

theorem prod_at (U : FVec Ideal S65536x1024 .f32) (Wg : FVec Ideal S1024x2048 .f32) (n : Fin 65536) (j : Fin 2048) :
    prod U Wg (ix2 n j) = ∑ x : Fin 1024, U (ix2 n x) * Wg (ix2 x j) := by
  pointwise

theorem result (Y H : FVec Ideal S65536x1024 .f32) (S : FVec Ideal S1024 .f32) (Wg : FVec Ideal S1024x2048 .f32)
    (g b : FVec Ideal S1024 .f32) :
    hostNorm (pre (prod (acts (skip Y H S)) Wg) H) (means (pre (prod (acts (skip Y H S)) Wg) H))
      (centred (pre (prod (acts (skip Y H S)) Wg) H) (means (pre (prod (acts (skip Y H S)) Wg) H))) g b
      = G8 Y H S g b Wg := by
  funext i
  idx_vars i
  refine whole_at _ g b i0 _ (fun x => ?_) i1
  rw [pre_at, prod_at, prod_at]
  simp only [acts_at, skip_at]
  rfl

end Cert.Tail8Ref

end
-- ==== Proof.StateOut.lean ====
/- The activation, the gated product and the layer norm at the end of the state-space mixer. -/
module

public import proofs.«01_k».proof.Defs
public import proofs.«01_k».proof.Proof.Gen.Kernel8Ideal.Value
public import proofs.«01_k».proof.Proof.Tail8Ref
public import Idealize.ShloMosaic.Lib.Pipeline.ValueKit

@[expose] public section

set_option maxRecDepth 16384

noncomputable section

namespace Cert.StateOut

open Idealize.ShloMosaic Idealize.ShloMosaic.TcCoe Idealize.SL.Sem
open Idealize.ShloMosaic.Pipeline (Dat)
open Cert.Kernel8Ideal Cert.Kernel8Ideal.Gen Cert.Row Cert.HgrnSpec Cert.TailSpec

/-! ## The payloads -/

theorem pay1_at (v : FVec Ideal S256x1024 .f32) (g b : Vec Ideal S1x1024 .f32) (r : Fin 256) (j : Fin 1024) :
    k0_pay1 v g b (ix2 r j) = norm (fun x => v (ix2 r x)) (fun x => g (ix2 0 x)) (fun x => b (ix2 0 x)) j := by
  pointwise [k0_pay1]
  rfl

theorem pay2_at (h y : Vec Ideal S256x1024 .f32) (d : Vec Ideal S1x1024 .f32) (w1 w2 : Vec Ideal S1024x1024 .bf16)
    (r : Fin 256) (j : Fin 1024) :
    k0_pay2 h y d w1 w2 (ix2 r j) = glu (fun x => h (ix2 r x)) (fun x => act (y (ix2 r x) + d (ix2 0 x) * h (ix2 r x)))
      (fun x c => w1 (ix2 x c)) (fun x c => w2 (ix2 x c)) j := by
  pointwise [k0_pay2]
  unfold glu gateOf act
  simp only [sub_eq_add_neg, zero_add]

/-- The `o`-th half of the weight. -/
theorem ld_half (w : Vec Ideal S1024x2048 .bf16) (o : Nat) (ho : o < 2) (inb) (d j : Fin 1024) :
    View.ld w (Rect.unit (s := S1024x2048) ![0, o * 1024] S1024x1024.size inb) (ix2 d j) = w (ix2 d (half o ho j)) := by
  refine View.ld_unit_apply_of w _ _ inb _ _ fun a => ?_
  fin_cases a <;> simp [ix2]

theorem ld_first (w : Vec Ideal S1024x2048 .bf16) (d j : Fin 1024) :
    View.ld w r0_2 (ix2 d j) = w (ix2 d (half 0 (by decide) j)) := ld_half w 0 (by decide) _ d j

theorem ld_second (w : Vec Ideal S1024x2048 .bf16) (d j : Fin 1024) :
    View.ld w r0_3 (ix2 d j) = w (ix2 d (half 1 (by decide) j)) := ld_half w 1 (by decide) _ d j

theorem store_at (x0 x1 : Vec Ideal S256x1024 .f32) (x2 : Vec Ideal S1x1024 .f32) (x3 : Vec Ideal S1024x2048 .bf16)
    (x4 x5 : Vec Ideal S1x1024 .f32) (r : Fin 256) (j : Fin 1024) :
    k0_pay1 (k0_pay2 x1 x0 x2 (View.ld x3 r0_2) (View.ld x3 r0_3)) x4 x5 (ix2 r j)
      = norm (glu (fun x => x1 (ix2 r x)) (fun x => act (x0 (ix2 r x) + x2 (ix2 0 x) * x1 (ix2 r x)))
          (fun x c => x3 (ix2 x (half 0 (by decide) c))) fun x c => x3 (ix2 x (half 1 (by decide) c)))
        (fun x => x4 (ix2 0 x)) (fun x => x5 (ix2 0 x)) j := by
  rw [pay1_at]
  simp only [pay2_at]
  have e1 : (fun d j : Fin 1024 => View.ld x3 r0_2 (ix2 d j)) = fun d j => x3 (ix2 d (half 0 (by decide) j)) := by
    funext d j
    exact ld_first x3 d j
  have e2 : (fun d j : Fin 1024 => View.ld x3 r0_3 (ix2 d j)) = fun d j => x3 (ix2 d (half 1 (by decide) j)) := by
    funext d j
    exact ld_second x3 d j
  exact congrArg₂ (fun w1 w2 => norm (glu (fun x => x1 (ix2 r x))
    (fun x => act (x0 (ix2 r x) + x2 (ix2 0 x) * x1 (ix2 r x))) w1 w2) (fun x => x4 (ix2 0 x)) (fun x => x5 (ix2 0 x)) j) e1 e2

/-! ## The blocks -/

variable (m : (ℓ : Loc nD τ sig) → Buf (Elt Ideal) ℓ) (c : Dev nD)

abbrev Y : FVec Ideal S65536x1024 .f32 := m ((c : Thread nD τ).loc main_arg0)
abbrev H : FVec Ideal S65536x1024 .f32 := m ((c : Thread nD τ).loc main_arg1)
abbrev S : FVec Ideal S1024 .f32 := m ((c : Thread nD τ).loc main_arg2)
abbrev Wg : FVec Ideal S1024x2048 .f32 := m ((c : Thread nD τ).loc main_arg3)
abbrev g : FVec Ideal S1024 .f32 := m ((c : Thread nD τ).loc main_arg4)
abbrev b : FVec Ideal S1024 .f32 := m ((c : Thread nD τ).loc main_arg5)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

theorem lt_N (t : Fin cfg0.N) : t.val < 256 := lt_of_lt_of_eq t.isLt N_0

/-- The token of row `r` of point `t`. -/
abbrev row (t : Fin cfg0.N) (r : Fin 256) : Fin 65536 :=
  ⟨t.val * 256 + r.val, by have := lt_N t; have := r.isLt; omega⟩

theorem entry0 : V m c main_v0 = shapeCast S1x1024 (S m c) shapeCasts_S1024_S1x1024 := by
  show StableHlo.after _ _ _ = _
  simp only [hostOps0, List.flatten_cons, List.flatten_nil, List.append_nil, List.cons_append, List.nil_append]
  after_results_simp
  rfl

theorem entry1 : V m c main_v1 = truncf .bf16 (Wg m c) bitsLt_bf16_f32 := by
  show StableHlo.after _ _ _ = _
  simp only [hostOps0, List.flatten_cons, List.flatten_nil, List.append_nil, List.cons_append, List.nil_append]
  after_results_simp

theorem entry2 : V m c main_v2 = broadcastInDim S1x1024 ![1] bcast_S1024_S1x1024_1 (g m c) := by
  show StableHlo.after _ _ _ = _
  simp only [hostOps0, List.flatten_cons, List.flatten_nil, List.append_nil, List.cons_append, List.nil_append]
  after_results_simp

theorem entry3 : V m c main_v3 = broadcastInDim S1x1024 ![1] bcast_S1024_S1x1024_1 (b m c) := by
  show StableHlo.after _ _ _ = _
  simp only [hostOps0, List.flatten_cons, List.flatten_nil, List.append_nil, List.cons_append, List.nil_append]
  after_results_simp

theorem blk0 (t : Fin cfg0.N) (r : Fin 256) (x : Fin 1024) :
    (iblk m c 0 t : Vec Ideal S256x1024 .f32) (ix2 r x) = Y m c (ix2 (row t r) x) := by
  blk_ext! [iblk, V, idx t]

theorem blk1 (t : Fin cfg0.N) (r : Fin 256) (x : Fin 1024) :
    (iblk m c 1 t : Vec Ideal S256x1024 .f32) (ix2 r x) = H m c (ix2 (row t r) x) := by
  blk_ext! [iblk, V, idx t]

theorem blk2 (t : Fin cfg0.N) (f : Fin 1024) :
    (iblk m c 2 t : Vec Ideal S1x1024 .f32) (ix2 0 f) = S m c (ix1 f) := by
  have h : (iblk m c 2 t : Vec Ideal S1x1024 .f32) (ix2 0 f) = V m c main_v0 (ix2 0 f) := by
    blk_ext! [iblk, idx t]
  rw [h, entry0]
  pointwise

theorem blk3 (t : Fin cfg0.N) (x : Fin 1024) (f : Fin 2048) :
    (iblk m c 3 t : Vec Ideal S1024x2048 .bf16) (ix2 x f) = Wg m c (ix2 x f) := by
  have h : (iblk m c 3 t : Vec Ideal S1024x2048 .bf16) (ix2 x f) = V m c main_v1 (ix2 x f) := by
    blk_ext! [iblk, idx t]
  rw [h, entry1]
  pointwise

theorem blk4 (t : Fin cfg0.N) (f : Fin 1024) :
    (iblk m c 4 t : Vec Ideal S1x1024 .f32) (ix2 0 f) = g m c (ix1 f) := by
  have h : (iblk m c 4 t : Vec Ideal S1x1024 .f32) (ix2 0 f) = V m c main_v2 (ix2 0 f) := by
    blk_ext! [iblk, idx t]
  rw [h, entry2]
  pointwise

theorem blk5 (t : Fin cfg0.N) (f : Fin 1024) :
    (iblk m c 5 t : Vec Ideal S1x1024 .f32) (ix2 0 f) = b m c (ix1 f) := by
  have h : (iblk m c 5 t : Vec Ideal S1x1024 .f32) (ix2 0 f) = V m c main_v3 (ix2 0 f) := by
    blk_ext! [iblk, idx t]
  rw [h, entry3]
  pointwise

theorem final : (dats m 0 c).arrAt 6 cfg0.N = G8 (Y m c) (H m c) (S m c) (g m c) (b m c) (Wg m c) := by
  refine (dats m 0 c).arrAt_eq_of_covers 6 _ (by decide +kernel) fun t _ y => ?_
  blk_simp
  rw [after0_6]
  frame_out
  idx_vars y
  refine (store_at (iblk m c 0 t) (iblk m c 1 t) (iblk m c 2 t) (iblk m c 3 t) (iblk m c 4 t) (iblk m c 5 t) y0 y1).trans ?_
  have he : ((View.whole main_v4).slice (win0_6.rect t)).emb (ix2 y0 y1) = ix2 (row t y0) y1 := by
    blk_ext! [idx t]
  rw [he]
  simp only [blk0 m c t, blk1 m c t, blk2 m c t, blk3 m c t, blk4 m c t, blk5 m c t]
  rfl

/-! ## Together -/

/-- From equal arguments the kernel and the reference end with equal results. -/
theorem agree : Cert.algebraic_Kernel8Ideal_Reference8Ideal := by
  intro m ρ m' ρ' _ hin
  refine ⟨fun c => G8 (Y m c) (H m c) (S m c) (g m c) (b m c) (Wg m c), ?_, ?_⟩
  · refine (θ_run Cert.Kernel8Ideal.defs _ _).mono (fun r h c => ?_) (Cert.Kernel8Ideal.Value.run_blocks m ρ)
    obtain ⟨h0, hrest⟩ := h c
    exact ⟨h0.trans (final m c), hrest⟩
  · refine (θ_run Cert.Reference8Ideal.defs _ _).mono (fun r h c => ?_) (Cert.Reference8Ideal.Value.run m' ρ')
    obtain ⟨h0, hrest⟩ := h c
    obtain ⟨e0, e1, e2, e3, e4, e5⟩ := hin c
    unfold Cert.Reference8Ideal.Value.res_main_v53 at h0
    rw [e0, e1, e2, e3, e4, e5] at h0
    exact ⟨h0.trans (Tail8Ref.result _ _ _ _ _ _ ), hrest⟩

/-- The reference runs, and keeps its arguments; it declares no semaphore. -/
theorem frame_reference : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run m ρ)

end Cert.StateOut

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Pre_routed
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Final
public import proofs.«01_k».proof.Proof.Finite
public import proofs.«01_k».proof.Proof.Meet
public import proofs.«01_k».proof.Proof.FfnAgree
public import proofs.«01_k».proof.Proof.HgrnAgree
public import proofs.«01_k».proof.Proof.DilOne
public import proofs.«01_k».proof.Proof.DilFour
public import proofs.«01_k».proof.Proof.DilSixteen
public import proofs.«01_k».proof.Proof.ProjLn
public import proofs.«01_k».proof.Proof.StateOut

@[expose] public section

noncomputable section

namespace Cert.Proof

open Idealize.ShloMosaic Idealize.SL.Sem Cert.Kernel

/-- From equal real arguments the kernel and the reference end with equal results. -/
theorem agree : Cert.algebraic_KernelIdeal_ReferenceIdeal_pre_finite := by
  intro m g m' g' hp hin
  refine ⟨fun c => Cert.Arrays.G8 (Cert.Arrays.a0 m c) (Cert.Arrays.a1 m c) (Cert.Arrays.a2 m c) (Cert.Arrays.a3 m c)
      (Cert.Arrays.a4 m c) (Cert.Arrays.a5 m c),
    fun c => Cert.Arrays.G9 (Cert.Arrays.a0 m c) (Cert.Arrays.a1 m c) (Cert.Arrays.a2 m c) (Cert.Arrays.a3 m c)
      (Cert.Arrays.a4 m c) (Cert.Arrays.a5 m c) (Cert.Arrays.a6 m c) (Cert.Arrays.a7 m c),
    fun c => Cert.Arrays.G10 (Cert.Arrays.a0 m c) (Cert.Arrays.a1 m c) (Cert.Arrays.a2 m c) (Cert.Arrays.a3 m c)
      (Cert.Arrays.a4 m c) (Cert.Arrays.a5 m c) (Cert.Arrays.a6 m c) (Cert.Arrays.a7 m c), ?_, ?_⟩
  · refine (θ_run Cert.KernelIdeal.defs _ _).mono (fun r h c => ?_) (Cert.KernelIdeal.Value.run_blocks m g)
    obtain ⟨h0, h1, h2, hrest⟩ := h c
    exact ⟨h0.trans (Cert.Arrays.final8 m c), h1.trans (Cert.Arrays.final9 m c), h2.trans (Cert.Arrays.final10 m c), hrest⟩
  · refine (θ_run Cert.ReferenceIdeal.defs _ _).mono (fun r h c => ?_) (Cert.ReferenceIdeal.Value.run m' g')
    obtain ⟨h0, h1, h2, hrest⟩ := h c
    obtain ⟨e0, e1, e2, e3, e4, e5, e6, e7⟩ := hin c
    obtain ⟨f0, f1, f2, f3, f4, f5, f6, f7⟩ := Cert.Finite.args m c hp
    have i0 : Cert.RefRow.b0 (StableHlo.launchContents m' c) = Cert.Arrays.a0 m c := e0
    have i1 : Cert.RefRow.b1 (StableHlo.launchContents m' c) = Cert.Arrays.a1 m c := e1
    have i2 : Cert.RefRow.b2 (StableHlo.launchContents m' c) = Cert.Arrays.a2 m c := e2
    have i3 : Cert.RefRow.b3 (StableHlo.launchContents m' c) = Cert.Arrays.a3 m c := e3
    have i4 : Cert.RefRow.b4 (StableHlo.launchContents m' c) = Cert.Arrays.a4 m c := e4
    have i5 : Cert.RefRow.b5 (StableHlo.launchContents m' c) = Cert.Arrays.a5 m c := e5
    have i6 : Cert.RefRow.b6 (StableHlo.launchContents m' c) = Cert.Arrays.a6 m c := e6
    have i7 : Cert.RefRow.b7 (StableHlo.launchContents m' c) = Cert.Arrays.a7 m c := e7
    rw [← i0] at f0
    rw [← i1] at f1
    rw [← i2] at f2
    rw [← i3] at f3
    rw [← i4] at f4
    rw [← i5] at f5
    rw [← i6] at f6
    rw [← i7] at f7
    refine ⟨h0.trans ?_, h1.trans ?_, h2.trans ?_, hrest⟩
    · exact (Cert.RefRow.result8 _ f0 f1 f2).trans (by rw [i0, i1, i2, i3, i4, i5])
    · exact (Cert.RefRow.result9 _ f0 f1 f2 f3 f4 f5 f6 f7).trans (by rw [i0, i1, i2, i3, i4, i5, i6, i7])
    · exact (Cert.RefRow.result10 _ f0 f1 f2 f3 f4 f5 f6 f7).trans (by rw [i0, i1, i2, i3, i4, i5, i6, i7])

/-- The reference runs, and keeps its arguments; it declares no semaphore. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.Gen.facts, Cert.Pre_routed.Gen.facts,
  fun m g _ => Cert.Kernel.Gen.frame m g, fun m g _ => Cert.KernelIdeal.Gen.frame m g, fun m g _ => Cert.KernelIdeal.Gen.frame m g,
  frame_reference, fun m g _ => frame_reference m g trivial,
  Cert.FfnMain.frame_bits, Cert.FfnMain.frame_ideal, Cert.FfnAgree.frame_reference, fun m g _ => Cert.FfnAgree.frame_reference m g trivial,
  fun m g _ => Cert.Kernel3.Gen.frame m g, fun m g _ => Cert.Kernel3Ideal.Gen.frame m g, Cert.HgrnAgree.frame_reference,
  fun m g _ => Cert.Kernel4.Gen.frame m g, fun m g _ => Cert.Kernel4Ideal.Gen.frame m g, Cert.DilOne.frame_reference,
  fun m g _ => Cert.Kernel5.Gen.frame m g, fun m g _ => Cert.Kernel5Ideal.Gen.frame m g, Cert.DilFour.frame_reference,
  fun m g _ => Cert.Kernel6.Gen.frame m g, fun m g _ => Cert.Kernel6Ideal.Gen.frame m g, Cert.DilSixteen.frame_reference,
  fun m g _ => Cert.Kernel7.Gen.frame m g, fun m g _ => Cert.Kernel7Ideal.Gen.frame m g, Cert.ProjLn.frame_reference,
  fun m g _ => Cert.Kernel8.Gen.frame m g, fun m g _ => Cert.Kernel8Ideal.Gen.frame m g, Cert.StateOut.frame_reference,
  trivial, agree, trivial, Cert.FfnAgree.agree, trivial, Cert.HgrnAgree.agree,
  trivial, Cert.DilOne.agree, trivial, Cert.DilFour.agree, trivial, Cert.DilSixteen.agree,
  trivial, Cert.ProjLn.agree, trivial, Cert.StateOut.agree⟩

end Cert.Proof

end
